-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_experts_finite [hPre_experts_finite : Cert.Pre_experts_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_experts_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_experts_finite [hPre_experts_finite : Cert.Pre_experts_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_experts_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_filter_finite [hPre_filter_finite : Cert.Pre_filter_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_filter_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_filter_finite [hPre_filter_finite : Cert.Pre_filter_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_filter_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_experts_finite [hKernel7Ideal : Cert.Kernel7Ideal.Facts] [hPre_experts_finite : Cert.Pre_experts_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_experts_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_experts_finite [hReference7Ideal : Cert.Reference7Ideal.Facts] [hPre_experts_finite : Cert.Pre_experts_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_experts_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_filter_finite [hKernel8Ideal : Cert.Kernel8Ideal.Facts] [hPre_filter_finite : Cert.Pre_filter_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_filter_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_filter_finite [hReference8Ideal : Cert.Reference8Ideal.Facts] [hPre_filter_finite : Cert.Pre_filter_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_filter_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.bf16_pair.BufferStatement Cert.Kernel7Ideal.S64x512x2x128 Cert.Kernel7Ideal.S64x512x1x128
  ∧ IdealRules.bf16_pair.HalfStatement Cert.Kernel7Ideal.S64x8x128
  ∧ IdealRules.bf16_pair.Statement Cert.Kernel7Ideal.S64x8x2x128 Cert.Kernel7Ideal.S64x8x1x128
  ∧ IdealRules.bf16_pair.Statement Cert.Kernel7Ideal.S1x512x2x128 Cert.Kernel7Ideal.S1x512x1x128
  ∧ IdealRules.bf16_pair.Statement Cert.Kernel7Ideal.S1024x128 Cert.Kernel7Ideal.S512x128

def algebraic_Kernel7Ideal_Reference7Ideal_pre_experts_finite [hKernel7Ideal : Cert.Kernel7Ideal.Facts] [hReference7Ideal : Cert.Reference7Ideal.Facts] [hPre_experts_finite : Cert.Pre_experts_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_experts_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal_pre_filter_finite [hKernel8Ideal : Cert.Kernel8Ideal.Facts] [hReference8Ideal : Cert.Reference8Ideal.Facts] [hPre_filter_finite : Cert.Pre_filter_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_filter_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_v43) = v1 c
          ∧ r.2.mem ((c.tc : Thread Cert.Reference14Ideal.nD Cert.Reference14Ideal.τ).loc Cert.Reference14Ideal.main_v46) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_indices_in_range : Cert.Pre_indices_in_range.Facts) (hPre_experts_finite : Cert.Pre_experts_finite.Facts) (hPre_filter_finite : Cert.Pre_filter_finite.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_experts_finite (hKernel7Ideal := hKernel7Ideal) (hPre_experts_finite := hPre_experts_finite)
    ∧ quiescent_Reference7Ideal (hReference7Ideal := hReference7Ideal)
    ∧ quiescent_Reference7Ideal_pre_experts_finite (hReference7Ideal := hReference7Ideal) (hPre_experts_finite := hPre_experts_finite)
    ∧ quiescent_Kernel8 (hKernel8 := hKernel8)
    ∧ quiescent_Kernel8Ideal (hKernel8Ideal := hKernel8Ideal)
    ∧ quiescent_Kernel8Ideal_pre_filter_finite (hKernel8Ideal := hKernel8Ideal) (hPre_filter_finite := hPre_filter_finite)
    ∧ quiescent_Reference8Ideal (hReference8Ideal := hReference8Ideal)
    ∧ quiescent_Reference8Ideal_pre_filter_finite (hReference8Ideal := hReference8Ideal) (hPre_filter_finite := hPre_filter_finite)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_experts_finite (hKernel7Ideal := hKernel7Ideal) (hReference7Ideal := hReference7Ideal) (hPre_experts_finite := hPre_experts_finite)
    ∧ preserves_Kernel8_Kernel8Ideal
    ∧ algebraic_Kernel8Ideal_Reference8Ideal_pre_filter_finite (hKernel8Ideal := hKernel8Ideal) (hReference8Ideal := hReference8Ideal) (hPre_filter_finite := hPre_filter_finite)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_experts_finite.lean ====
abbrev S2x16384x1024 : Shape := ⟨3, ![2, 16384, 1024]⟩
abbrev S2x1x1024 : Shape := ⟨3, ![2, 1, 1024]⟩
abbrev S1024 : Shape := ⟨1, ![1024]⟩
abbrev S32768x128 : Shape := ⟨2, ![32768, 128]⟩
abbrev S16384x1024 : Shape := ⟨2, ![16384, 1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_arg7 : FVec F S32768x128 .f32) (main_arg8 : FVec F S16384x1024 .f32) (main_v12 : IVec S_ 1) (main_v15 : IVec S32768x128 1) (main_c_5 : IVec S_ 1) : IVec S_ 1 :=
  let main_v16 : IVec S_ 1 := (fun x v => Host.reduce IntOp.andi x v reducesTo_S32768x128_S_d0_1 h_S_) main_v15 main_c_5
  let main_v17 : IVec S_ 1 := andi main_v12 main_v16
  let main_v18 : FVec F S32768x128 .f32 := Host.absf main_arg7
  let main_cst_6 : FVec F S_ .f32 := constant S_ .f32 0x7F800000#32
  let main_v19 : FVec F S32768x128 .f32 := broadcastInDim S32768x128 ![] bcast_S_S32768x128 main_cst_6
  let main_v20 : IVec S32768x128 1 := cmpf .olt main_v18 main_v19
  let main_c_7 : IVec S_ 1 := constantI S_ 1 1#1
  let main_v21 : IVec S_ 1 := (fun x v => Host.reduce IntOp.andi x v reducesTo_S32768x128_S_d0_1 h_S_) main_v20 main_c_7
  let main_v22 : IVec S_ 1 := andi main_v17 main_v21
  let main_v23 : FVec F S16384x1024 .f32 := Host.absf main_arg8
  let main_cst_8 : FVec F S_ .f32 := constant S_ .f32 0x7F800000#32
  let main_v24 : FVec F S16384x1024 .f32 := broadcastInDim S16384x1024 ![] bcast_S_S16384x1024 main_cst_8
  let main_v25 : IVec S16384x1024 1 := cmpf .olt main_v23 main_v24
  let main_c_9 : IVec S_ 1 := constantI S_ 1 1#1
  let main_v26 : IVec S_ 1 := (fun x v => Host.reduce IntOp.andi x v reducesTo_S16384x1024_S_d0_1 h_S_) main_v25 main_c_9
  let main_v27 : IVec S_ 1 := andi main_v22 main_v26
  main_v27

def fn {F : FTy → Type} [FloatOps F] (main_arg0 : FVec F S2x16384x1024 .f32) (main_arg1 : FVec F S2x1x1024 .f32) (main_arg2 : FVec F S1024 .f32) (main_arg3 : FVec F S1024 .f32) (main_arg4 : IVec S32768x128 32) (main_arg5 : IVec S32768x128 32) (main_arg6 : FVec F S32768x128 .f32) (main_arg7 : FVec F S32768x128 .f32) (main_arg8 : FVec F S16384x1024 .f32) : IVec S_ 1 :=
  let main_c : IVec S_ 32 := constantI S_ 32 0#32
  let main_v0 : IVec S32768x128 32 := broadcastInDim S32768x128 ![] bcast_S_S32768x128 main_c
  let main_v1 : IVec S32768x128 1 := cmpi .sge main_arg4 main_v0
  let main_c_0 : IVec S_ 32 := constantI S_ 32 128#32
  let main_v2 : IVec S32768x128 32 := broadcastInDim S32768x128 ![] bcast_S_S32768x128 main_c_0
  let main_v3 : IVec S32768x128 1 := cmpi .slt main_arg4 main_v2
  let main_v4 : IVec S32768x128 1 := andi main_v1 main_v3
  let main_c_1 : IVec S_ 1 := constantI S_ 1 1#1
  let main_v5 : IVec S_ 1 := (fun x v => Host.reduce IntOp.andi x v reducesTo_S32768x128_S_d0_1 h_S_) main_v4 main_c_1
  let main_c_2 : IVec S_ 32 := constantI S_ 32 0#32
  let main_v6 : IVec S32768x128 32 := broadcastInDim S32768x128 ![] bcast_S_S32768x128 main_c_2
  let main_v7 : IVec S32768x128 1 := cmpi .sge main_arg5 main_v6
  let main_c_3 : IVec S_ 32 := constantI S_ 32 128#32
  let main_v8 : IVec S32768x128 32 := broadcastInDim S32768x128 ![] bcast_S_S32768x128 main_c_3
  let main_v9 : IVec S32768x128 1 := cmpi .slt main_arg5 main_v8
  let main_v10 : IVec S32768x128 1 := andi main_v7 main_v9
  let main_c_4 : IVec S_ 1 := constantI S_ 1 1#1
  let main_v11 : IVec S_ 1 := (fun x v => Host.reduce IntOp.andi x v reducesTo_S32768x128_S_d0_1 h_S_) main_v10 main_c_4
  let main_v12 : IVec S_ 1 := andi main_v5 main_v11
  let main_v13 : FVec F S32768x128 .f32 := Host.absf main_arg6
  let main_cst : FVec F S_ .f32 := constant S_ .f32 0x7F800000#32
  let main_v14 : FVec F S32768x128 .f32 := broadcastInDim S32768x128 ![] bcast_S_S32768x128 main_cst
  let main_v15 : IVec S32768x128 1 := cmpf .olt main_v13 main_v14
  let main_c_5 : IVec S_ 1 := constantI S_ 1 1#1
  fn_part1 (F := F) main_arg7 main_arg8 main_v12 main_v15 main_c_5
-- ==== Pre_filter_finite.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel

variable [Facts]

def fn {F : FTy → Type} [FloatOps F] (main_arg0 : FVec F S33x64 .f32) (main_arg1 : FVec F S64 .f32) (main_arg2 : FVec F S64x64 .f32) (main_arg3 : FVec F S64 .f32) (main_arg4 : FVec F S64x2048 .f32) : IVec S_ 1 :=
  let main_v0 : FVec F S64x2048 .f32 := Host.absf main_arg4
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  main_v3
-- ==== Pre_indices_in_range.lean ====
abbrev S2x16384x1024 : Shape := ⟨3, ![2, 16384, 1024]⟩
abbrev S2x1x1024 : Shape := ⟨3, ![2, 1, 1024]⟩
abbrev S32768x128 : Shape := ⟨2, ![32768, 128]⟩
abbrev S16384x1024 : Shape := ⟨2, ![16384, 1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel

variable [Facts]

def fn {F : FTy → Type} [FloatOps F] (main_arg0 : FVec F S2x16384x1024 .f32) (main_arg1 : FVec F S2x1x1024 .f32) (main_arg2 : FVec F S2x1x1024 .f32) (main_arg3 : IVec S32768x128 32) (main_arg4 : IVec S32768x128 32) (main_arg5 : FVec F S16384x1024 .f32) : IVec S_ 1 :=
  let main_c : IVec S_ 32 := constantI S_ 32 0#32
  let main_v0 : IVec S32768x128 32 := broadcastInDim S32768x128 ![] bcast_S_S32768x128 main_c
  let main_v1 : IVec S32768x128 1 := cmpi .sge main_arg3 main_v0
  let main_c_0 : IVec S_ 32 := constantI S_ 32 128#32
  let main_v2 : IVec S32768x128 32 := broadcastInDim S32768x128 ![] bcast_S_S32768x128 main_c_0
  let main_v3 : IVec S32768x128 1 := cmpi .slt main_arg3 main_v2
  let main_v4 : IVec S32768x128 1 := andi main_v1 main_v3
  let main_c_1 : IVec S_ 1 := constantI S_ 1 1#1
  let main_v5 : IVec S_ 1 := (fun x v => Host.reduce IntOp.andi x v reducesTo_S32768x128_S_d0_1 h_S_) main_v4 main_c_1
  let main_c_2 : IVec S_ 32 := constantI S_ 32 0#32
  let main_v6 : IVec S32768x128 32 := broadcastInDim S32768x128 ![] bcast_S_S32768x128 main_c_2
  let main_v7 : IVec S32768x128 1 := cmpi .sge main_arg4 main_v6
  let main_c_3 : IVec S_ 32 := constantI S_ 32 128#32
  let main_v8 : IVec S32768x128 32 := broadcastInDim S32768x128 ![] bcast_S_S32768x128 main_c_3
  let main_v9 : IVec S32768x128 1 := cmpi .slt main_arg4 main_v8
  let main_v10 : IVec S32768x128 1 := andi main_v7 main_v9
  let main_c_4 : IVec S_ 1 := constantI S_ 1 1#1
  let main_v11 : IVec S_ 1 := (fun x v => Host.reduce IntOp.andi x v reducesTo_S32768x128_S_d0_1 h_S_) main_v10 main_c_4
  let main_v12 : IVec S_ 1 := andi main_v5 main_v11
  main_v12
-- ==== Kernel.lean ====
abbrev S2x16384x1024 : Shape := ⟨3, ![2, 16384, 1024]⟩
abbrev S2x1x1024 : Shape := ⟨3, ![2, 1, 1024]⟩
abbrev S32768x128 : Shape := ⟨2, ![32768, 128]⟩
abbrev S16384x1024 : Shape := ⟨2, ![16384, 1024]⟩
abbrev S32768x1024 : Shape := ⟨2, ![32768, 1024]⟩
abbrev S1024x16384 : Shape := ⟨2, ![1024, 16384]⟩
abbrev S1024x1024 : Shape := ⟨2, ![1024, 1024]⟩
abbrev S1x1x1024 : Shape := ⟨3, ![1, 1, 1024]⟩
abbrev S1024x128 : Shape := ⟨2, ![1024, 128]⟩
abbrev S1024x4096 : Shape := ⟨2, ![1024, 4096]⟩
abbrev S1x1024 : Shape := ⟨2, ![1, 1024]⟩
abbrev S1024x256 : Shape := ⟨2, ![1024, 256]⟩
abbrev S1024x128x1 : Shape := ⟨3, ![1024, 128, 1]⟩

abbrev nBuf : Space → Nat
  | .hbm => 10
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S32768x128, .i32⟩
  | .hbm, ⟨4, _⟩ => ⟨S32768x128, .i32⟩
  | .hbm, ⟨5, _⟩ => ⟨S16384x1024, .f32⟩
  | .hbm, ⟨6, _⟩ => ⟨S32768x1024, .f32⟩
  | .hbm, ⟨7, _⟩ => ⟨S16384x1024, .bf16⟩
  | .hbm, ⟨8, _⟩ => ⟨S1024x16384, .bf16⟩
  | .hbm, ⟨9, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x128, .i32⟩
  | .local _ .vmem, ⟨7, _⟩ => ⟨S1024x128, .i32⟩
  | .local _ .vmem, ⟨8, _⟩ => ⟨S1024x128, .i32⟩
  | .local _ .vmem, ⟨9, _⟩ => ⟨S1024x128, .i32⟩
  | .local _ .vmem, ⟨10, _⟩ => ⟨S1024x4096, .bf16⟩
  | .local _ .vmem, ⟨11, _⟩ => ⟨S1024x4096, .bf16⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x16384x1024 : Shape := ⟨3, ![2, 16384, 1024]⟩
abbrev S2x1x1024 : Shape := ⟨3, ![2, 1, 1024]⟩
abbrev S32768x128 : Shape := ⟨2, ![32768, 128]⟩
abbrev S16384x1024 : Shape := ⟨2, ![16384, 1024]⟩
abbrev S_ : Shape := ⟨0, ![]⟩
abbrev S32768x1024 : Shape := ⟨2, ![32768, 1024]⟩
abbrev S32768x128x1 : Shape := ⟨3, ![32768, 128, 1]⟩
abbrev S32768x128x1024 : Shape := ⟨3, ![32768, 128, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S32768x128, .i32⟩
  | .hbm, ⟨4, _⟩ => ⟨S32768x128, .i32⟩
  | .hbm, ⟨5, _⟩ => ⟨S16384x1024, .f32⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S32768x1024, .f32⟩
  | .hbm, ⟨14, _⟩ => ⟨S_, .i32⟩
  | .hbm, ⟨15, _⟩ => ⟨S32768x128, .i32⟩
  | .hbm, ⟨16, _⟩ => ⟨S32768x128, .i32⟩
  | .hbm, ⟨17, _⟩ => ⟨S32768x128, .i32⟩
  | .hbm, ⟨18, _⟩ => ⟨S_, .i32⟩
  | .hbm, ⟨19, _⟩ => ⟨S32768x128, .i32⟩
  | .hbm, ⟨20, _⟩ => ⟨S32768x128, .i1⟩
  | .hbm, ⟨21, _⟩ => ⟨S_, .i32⟩
  | .hbm, ⟨22, _⟩ => ⟨S32768x128, .i32⟩
  | .hbm, ⟨23, _⟩ => ⟨S32768x128, .i32⟩
  | .hbm, ⟨24, _⟩ => ⟨S32768x128, .i32⟩
  | .hbm, ⟨25, _⟩ => ⟨S32768x128x1, .i32⟩
  | .hbm, ⟨26, _⟩ => ⟨S32768x128x1024, .f32⟩
  | .hbm, ⟨27, _⟩ => ⟨S32768x128, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x1x1024 : Shape := ⟨3, ![2, 1, 1024]⟩
abbrev S1024x2048 : Shape := ⟨2, ![1024, 2048]⟩
abbrev S32768x1024 : Shape := ⟨2, ![32768, 1024]⟩
abbrev S32768x2048 : Shape := ⟨2, ![32768, 2048]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x2048, .f32⟩
  | .hbm, ⟨4, _⟩ => ⟨S32768x1024, .f32⟩
  | .hbm, ⟨5, _⟩ => ⟨S1024x2048, .bf16⟩
  | .hbm, ⟨6, _⟩ => ⟨S32768x2048, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .f32⟩
  | .local _ .vmem, ⟨8, _⟩ => ⟨S1024x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x16384x1024 : Shape := ⟨3, ![2, 16384, 1024]⟩
abbrev S2x1x1024 : Shape := ⟨3, ![2, 1, 1024]⟩
abbrev S1024x2048 : Shape := ⟨2, ![1024, 2048]⟩
abbrev S_ : Shape := ⟨0, ![]⟩
abbrev S2x16384x2048 : Shape := ⟨3, ![2, 16384, 2048]⟩
abbrev S32768x2048 : Shape := ⟨2, ![32768, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x2048, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x2048, .f32⟩
  | .hbm, ⟨12, _⟩ => ⟨S32768x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x1x1024 : Shape := ⟨3, ![2, 1, 1024]⟩
abbrev S1024x3072 : Shape := ⟨2, ![1024, 3072]⟩
abbrev S3072 : Shape := ⟨1, ![3072]⟩
abbrev S32768x1024 : Shape := ⟨2, ![32768, 1024]⟩
abbrev S1x3072 : Shape := ⟨2, ![1, 3072]⟩
abbrev S32768x3072 : Shape := ⟨2, ![32768, 3072]⟩
abbrev S1024x1024 : Shape := ⟨2, ![1024, 1024]⟩
abbrev S1024x1536 : Shape := ⟨2, ![1024, 1536]⟩
abbrev S1x1x1024 : Shape := ⟨3, ![1, 1, 1024]⟩
abbrev S1x1536 : Shape := ⟨2, ![1, 1536]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x3072, .f32⟩
  | .hbm, ⟨4, _⟩ => ⟨S3072, .f32⟩
  | .hbm, ⟨5, _⟩ => ⟨S32768x1024, .f32⟩
  | .hbm, ⟨6, _⟩ => ⟨S1024x3072, .bf16⟩
  | .hbm, ⟨7, _⟩ => ⟨S1x3072, .f32⟩
  | .hbm, ⟨8, _⟩ => ⟨S32768x3072, .f32⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1536, .f32⟩
  | .local _ .vmem, ⟨9, _⟩ => ⟨S1x1536, .f32⟩
  | .local _ .vmem, ⟨10, _⟩ => ⟨S1024x1536, .f32⟩
  | .local _ .vmem, ⟨11, _⟩ => ⟨S1024x1536, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2x16384x1024 : Shape := ⟨3, ![2, 16384, 1024]⟩
abbrev S2x1x1024 : Shape := ⟨3, ![2, 1, 1024]⟩
abbrev S1024x3072 : Shape := ⟨2, ![1024, 3072]⟩
abbrev S3072 : Shape := ⟨1, ![3072]⟩
abbrev S_ : Shape := ⟨0, ![]⟩
abbrev S2x16384x3072 : Shape := ⟨3, ![2, 16384, 3072]⟩
abbrev S1x1x3072 : Shape := ⟨3, ![1, 1, 3072]⟩
abbrev S32768x3072 : Shape := ⟨2, ![32768, 3072]⟩

abbrev nBuf : Space → Nat
  | .hbm => 17
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x3072, .f32⟩
  | .hbm, ⟨4, _⟩ => ⟨S3072, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x3072, .f32⟩
  | .hbm, ⟨13, _⟩ => ⟨S1x1x3072, .f32⟩
  | .hbm, ⟨14, _⟩ => ⟨S2x16384x3072, .f32⟩
  | .hbm, ⟨15, _⟩ => ⟨S2x16384x3072, .f32⟩
  | .hbm, ⟨16, _⟩ => ⟨S32768x3072, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x1x1024 : Shape := ⟨3, ![2, 1, 1024]⟩
abbrev S1024x4128 : Shape := ⟨2, ![1024, 4128]⟩
abbrev S32768x1024 : Shape := ⟨2, ![32768, 1024]⟩
abbrev S1024x4096 : Shape := ⟨2, ![1024, 4096]⟩
abbrev S32768x4096 : Shape := ⟨2, ![32768, 4096]⟩
abbrev S1024x1024 : Shape := ⟨2, ![1024, 1024]⟩
abbrev S1024x2048 : Shape := ⟨2, ![1024, 2048]⟩
abbrev S1x1x1024 : Shape := ⟨3, ![1, 1, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x4128, .f32⟩
  | .hbm, ⟨4, _⟩ => ⟨S32768x1024, .f32⟩
  | .hbm, ⟨5, _⟩ => ⟨S1024x4096, .f32⟩
  | .hbm, ⟨6, _⟩ => ⟨S1024x4096, .bf16⟩
  | .hbm, ⟨7, _⟩ => ⟨S32768x4096, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2048, .f32⟩
  | .local _ .vmem, ⟨9, _⟩ => ⟨S1024x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S2x16384x1024 : Shape := ⟨3, ![2, 16384, 1024]⟩
abbrev S2x1x1024 : Shape := ⟨3, ![2, 1, 1024]⟩
abbrev S1024x4128 : Shape := ⟨2, ![1024, 4128]⟩
abbrev S_ : Shape := ⟨0, ![]⟩
abbrev S2x16384x4128 : Shape := ⟨3, ![2, 16384, 4128]⟩
abbrev S2x16384x4096 : Shape := ⟨3, ![2, 16384, 4096]⟩
abbrev S32768x4096 : Shape := ⟨2, ![32768, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024x4128, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x4128, .f32⟩
  | .hbm, ⟨12, _⟩ => ⟨S2x16384x4096, .f32⟩
  | .hbm, ⟨13, _⟩ => ⟨S32768x4096, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x16384x1024, .f32⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S1024x1024, .bf16⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x16384x1024 : Shape := ⟨3, ![2, 16384, 1024]⟩
abbrev S1024x1024 : Shape := ⟨2, ![1024, 1024]⟩
abbrev S1024 : Shape := ⟨1, ![1024]⟩
abbrev S1x1x1024 : Shape := ⟨3, ![1, 1, 1024]⟩
abbrev S32768x1024 : Shape := ⟨2, ![32768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x1024, .f32⟩
  | .hbm, ⟨2, _⟩ => ⟨S1024, .f32⟩
  | .hbm, ⟨3, _⟩ => ⟨S2x16384x1024, .f32⟩
  | .hbm, ⟨4, _⟩ => ⟨S1x1x1024, .f32⟩
  | .hbm, ⟨5, _⟩ => ⟨S2x16384x1024, .f32⟩
  | .hbm, ⟨6, _⟩ => ⟨S2x16384x1024, .f32⟩
  | .hbm, ⟨7, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2x16384x1024 : Shape := ⟨3, ![2, 16384, 1024]⟩
abbrev S1024x1024 : Shape := ⟨2, ![1024, 1024]⟩
abbrev S32768x1024 : Shape := ⟨2, ![32768, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x16384x1024, .f32⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x16384x1024 : Shape := ⟨3, ![2, 16384, 1024]⟩
abbrev S1024x1024 : Shape := ⟨2, ![1024, 1024]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x1024, .f32⟩
  | .hbm, ⟨2, _⟩ => ⟨S2x16384x1024, .f32⟩
  | .hbm, ⟨3, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S2x16384x1024 : Shape := ⟨3, ![2, 16384, 1024]⟩
abbrev S2x1x1024 : Shape := ⟨3, ![2, 1, 1024]⟩
abbrev S1024 : Shape := ⟨1, ![1024]⟩
abbrev S32768x128 : Shape := ⟨2, ![32768, 128]⟩
abbrev S16384x1024 : Shape := ⟨2, ![16384, 1024]⟩
abbrev S32768x1024 : Shape := ⟨2, ![32768, 1024]⟩
abbrev S1x1x1024 : Shape := ⟨3, ![1, 1, 1024]⟩
abbrev S512x1024 : Shape := ⟨2, ![512, 1024]⟩
abbrev S512x128 : Shape := ⟨2, ![512, 128]⟩
abbrev S4096x1024 : Shape := ⟨2, ![4096, 1024]⟩
abbrev S64x512x128 : Shape := ⟨3, ![64, 512, 128]⟩
abbrev S128x128 : Shape := ⟨2, ![128, 128]⟩
abbrev S1x128 : Shape := ⟨2, ![1, 128]⟩
abbrev S64x128 : Shape := ⟨2, ![64, 128]⟩
abbrev S1x64x128 : Shape := ⟨3, ![1, 64, 128]⟩
abbrev S8x64x128 : Shape := ⟨3, ![8, 64, 128]⟩
abbrev S64x8x128 : Shape := ⟨3, ![64, 8, 128]⟩
abbrev S1x512x128 : Shape := ⟨3, ![1, 512, 128]⟩
abbrev S512x4096 : Shape := ⟨2, ![512, 4096]⟩
abbrev S1x1024 : Shape := ⟨2, ![1, 1024]⟩
abbrev S512 : Shape := ⟨1, ![512]⟩
abbrev S512x1 : Shape := ⟨2, ![512, 1]⟩

abbrev nBuf : Space → Nat
  | .hbm => 14
  | .vmem => 21
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S1024, .f32⟩
  | .hbm, ⟨3, _⟩ => ⟨S1024, .f32⟩
  | .hbm, ⟨4, _⟩ => ⟨S32768x128, .i32⟩
  | .hbm, ⟨5, _⟩ => ⟨S32768x128, .i32⟩
  | .hbm, ⟨6, _⟩ => ⟨S32768x128, .f32⟩
  | .hbm, ⟨7, _⟩ => ⟨S32768x128, .f32⟩
  | .hbm, ⟨8, _⟩ => ⟨S16384x1024, .f32⟩
  | .hbm, ⟨9, _⟩ => ⟨S32768x1024, .f32⟩
  | .hbm, ⟨10, _⟩ => ⟨S1x1x1024, .f32⟩
  | .hbm, ⟨11, _⟩ => ⟨S1x1x1024, .f32⟩
  | .hbm, ⟨12, _⟩ => ⟨S16384x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x128, .i32⟩
  | .local _ .vmem, ⟨7, _⟩ => ⟨S512x128, .i32⟩
  | .local _ .vmem, ⟨8, _⟩ => ⟨S512x128, .i32⟩
  | .local _ .vmem, ⟨9, _⟩ => ⟨S512x128, .i32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4096x1024, .bf16⟩
  | .local _ .vmem, ⟨15, _⟩ => ⟨S4096x1024, .bf16⟩
  | .local _ .vmem, ⟨16, _⟩ => ⟨S512x1024, .f32⟩
  | .local _ .vmem, ⟨17, _⟩ => ⟨S512x1024, .f32⟩
  | .local _ .vmem, ⟨18, _⟩ => ⟨S512x128, .f32⟩
  | .local _ .vmem, ⟨19, _⟩ => ⟨S64x512x128, .i32⟩
  | .local _ .vmem, ⟨20, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_102 : BitVec 32 := 0#32
  let c16_i32_103 : BitVec 32 := 16#32
  let v256 : BitVec 32 := Scalar.addi c0_i32_102 c16_i32_103
  let c1_i32_104 : BitVec 32 := 1#32
  ⟨c0_i32_102, v256, c1_i32_104⟩
def k0_off1 (k0_t1 : Fin k0_t1_loop.trips) (c0_i32_106 : BitVec 32) (c0_i32_107 : BitVec 32) : Fin 2 → Nat :=
  let c0_i32_102 : BitVec 32 := 0#32
  let c1_i32_104 : BitVec 32 := 1#32
  let arg15 : BitVec 32 := Scf.iv c0_i32_102 c1_i32_104 k0_t1
  let c32_i32 : BitVec 32 := 32#32
  let v257 : BitVec 32 := Scalar.muli arg15 c32_i32
  let v258 : BitVec 32 := Scalar.addi v257 c0_i32_106
  let v259 : BitVec 32 := Scalar.addi v258 c0_i32_107
  let v260 : Index := Scalar.indexCast v259
  let c0_108 : Index := 0#32
  ![v260.toNat, 0]
def k0_mult1 (k0_t1 : Fin k0_t1_loop.trips) : BitVec 32 :=
  let c0_i32_102 : BitVec 32 := 0#32
  let c1_i32_104 : BitVec 32 := 1#32
  let arg15 : BitVec 32 := Scf.iv c0_i32_102 c1_i32_104 k0_t1
  let c32_i32_169 : BitVec 32 := 32#32
  let v449 : BitVec 32 := Scalar.muli arg15 c32_i32_169
  let c0_i32_170 : BitVec 32 := 0#32
  let v450 : BitVec 32 := Scalar.addi v449 c0_i32_170
  v450
def k0_off2 (k0_t1 : Fin k0_t1_loop.trips) (c0_i32_170 : BitVec 32) : Fin 3 → Nat :=
  let c0_172 : Index := 0#32
  let c0_i32_102 : BitVec 32 := 0#32
  let c1_i32_104 : BitVec 32 := 1#32
  let arg15 : BitVec 32 := Scf.iv c0_i32_102 c1_i32_104 k0_t1
  let c32_i32_169 : BitVec 32 := 32#32
  let v449 : BitVec 32 := Scalar.muli arg15 c32_i32_169
  let v450 : BitVec 32 := Scalar.addi v449 c0_i32_170
  let v451 : BitVec 32 := v450
  let v481 : Index := Scalar.indexCast v451
  let c0_173 : Index := 0#32
  ![0, v481.toNat, 0]
def k0_mult2 (k0_t1 : Fin k0_t1_loop.trips) : BitVec 32 :=
  let c0_i32_102 : BitVec 32 := 0#32
  let c1_i32_104 : BitVec 32 := 1#32
  let arg15 : BitVec 32 := Scf.iv c0_i32_102 c1_i32_104 k0_t1
  let c32_i32_238 : BitVec 32 := 32#32
  let v677 : BitVec 32 := Scalar.muli arg15 c32_i32_238
  let c8_i32_239 : BitVec 32 := 8#32
  let v678 : BitVec 32 := Scalar.addi v677 c8_i32_239
  v678
def k0_mult3 (k0_t1 : Fin k0_t1_loop.trips) : BitVec 32 :=
  let c0_i32_102 : BitVec 32 := 0#32
  let c1_i32_104 : BitVec 32 := 1#32
  let arg15 : BitVec 32 := Scf.iv c0_i32_102 c1_i32_104 k0_t1
  let c32_i32_307 : BitVec 32 := 32#32
  let v905 : BitVec 32 := Scalar.muli arg15 c32_i32_307
  let c16_i32_308 : BitVec 32 := 16#32
  let v906 : BitVec 32 := Scalar.addi v905 c16_i32_308
  v906
def k0_mult4 (k0_t1 : Fin k0_t1_loop.trips) : BitVec 32 :=
  let c0_i32_102 : BitVec 32 := 0#32
  let c1_i32_104 : BitVec 32 := 1#32
  let arg15 : BitVec 32 := Scf.iv c0_i32_102 c1_i32_104 k0_t1
  let c32_i32_375 : BitVec 32 := 32#32
  let v1133 : BitVec 32 := Scalar.muli arg15 c32_i32_375
  let c24_i32_376 : BitVec 32 := 24#32
  let v1134 : BitVec 32 := Scalar.addi v1133 c24_i32_376
  v1134
def k0_off3 (i : grid0.Coords) (c0_i32_1 : BitVec 32) : Fin 3 → Nat :=
  let arg1 : BitVec 32 := BitVec.ofNat 32 (i 1).val
  let c16_i32 : BitVec 32 := 16#32
  let v3 : BitVec 32 := Scalar.muli arg1 c16_i32
  let v4 : BitVec 32 := Scalar.addi v3 c0_i32_1
  let v5 : Index := Scalar.indexCast v4
  let c0 : Index := 0#32
  let c0_2 : Index := 0#32
  ![v5.toNat, 0, 0]
def k0_cond2 (i : grid0.Coords) : BitVec 1 :=
  let arg1 : BitVec 32 := BitVec.ofNat 32 (i 1).val
  let c3_i32_85 : BitVec 32 := 3#32
  let v220 : BitVec 1 := Scalar.cmpi .eq arg1 c3_i32_85
  let v221 : BitVec 32 := Scalar.extui v220
  let c0_i32_86 : BitVec 32 := 0#32
  let v222 : BitVec 1 := Scalar.cmpi .ne v221 c0_i32_86
  v222

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel7Ideal.lean ====
abbrev S2x16384x1024 : Shape := ⟨3, ![2, 16384, 1024]⟩
abbrev S2x1x1024 : Shape := ⟨3, ![2, 1, 1024]⟩
abbrev S1024 : Shape := ⟨1, ![1024]⟩
abbrev S32768x128 : Shape := ⟨2, ![32768, 128]⟩
abbrev S16384x1024 : Shape := ⟨2, ![16384, 1024]⟩
abbrev S32768x1024 : Shape := ⟨2, ![32768, 1024]⟩
abbrev S1x1x1024 : Shape := ⟨3, ![1, 1, 1024]⟩
abbrev S512x1024 : Shape := ⟨2, ![512, 1024]⟩
abbrev S512x128 : Shape := ⟨2, ![512, 128]⟩
abbrev S4096x1024 : Shape := ⟨2, ![4096, 1024]⟩
abbrev S64x512x128 : Shape := ⟨3, ![64, 512, 128]⟩
abbrev S64x512x2x128 : Shape := ⟨4, ![64, 512, 2, 128]⟩
abbrev S64x512x1x128 : Shape := ⟨4, ![64, 512, 1, 128]⟩
abbrev S128x128 : Shape := ⟨2, ![128, 128]⟩
abbrev S1x128 : Shape := ⟨2, ![1, 128]⟩
abbrev S64x128 : Shape := ⟨2, ![64, 128]⟩
abbrev S1x64x128 : Shape := ⟨3, ![1, 64, 128]⟩
abbrev S8x64x128 : Shape := ⟨3, ![8, 64, 128]⟩
abbrev S64x8x128 : Shape := ⟨3, ![64, 8, 128]⟩
abbrev S64x8x2x128 : Shape := ⟨4, ![64, 8, 2, 128]⟩
abbrev S64x8x1x128 : Shape := ⟨4, ![64, 8, 1, 128]⟩
abbrev S1x512x128 : Shape := ⟨3, ![1, 512, 128]⟩
abbrev S1x512x2x128 : Shape := ⟨4, ![1, 512, 2, 128]⟩
abbrev S1x512x1x128 : Shape := ⟨4, ![1, 512, 1, 128]⟩
abbrev S1024x128 : Shape := ⟨2, ![1024, 128]⟩
abbrev S512x4096 : Shape := ⟨2, ![512, 4096]⟩
abbrev S1x1024 : Shape := ⟨2, ![1, 1024]⟩
abbrev S512 : Shape := ⟨1, ![512]⟩
abbrev S512x1 : Shape := ⟨2, ![512, 1]⟩

abbrev nBuf : Space → Nat
  | .hbm => 14
  | .vmem => 21
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S1024, .f32⟩
  | .hbm, ⟨3, _⟩ => ⟨S1024, .f32⟩
  | .hbm, ⟨4, _⟩ => ⟨S32768x128, .i32⟩
  | .hbm, ⟨5, _⟩ => ⟨S32768x128, .i32⟩
  | .hbm, ⟨6, _⟩ => ⟨S32768x128, .f32⟩
  | .hbm, ⟨7, _⟩ => ⟨S32768x128, .f32⟩
  | .hbm, ⟨8, _⟩ => ⟨S16384x1024, .f32⟩
  | .hbm, ⟨9, _⟩ => ⟨S32768x1024, .f32⟩
  | .hbm, ⟨10, _⟩ => ⟨S1x1x1024, .f32⟩
  | .hbm, ⟨11, _⟩ => ⟨S1x1x1024, .f32⟩
  | .hbm, ⟨12, _⟩ => ⟨S16384x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x128, .i32⟩
  | .local _ .vmem, ⟨7, _⟩ => ⟨S512x128, .i32⟩
  | .local _ .vmem, ⟨8, _⟩ => ⟨S512x128, .i32⟩
  | .local _ .vmem, ⟨9, _⟩ => ⟨S512x128, .i32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4096x1024, .bf16⟩
  | .local _ .vmem, ⟨15, _⟩ => ⟨S4096x1024, .bf16⟩
  | .local _ .vmem, ⟨16, _⟩ => ⟨S512x1024, .f32⟩
  | .local _ .vmem, ⟨17, _⟩ => ⟨S512x1024, .f32⟩
  | .local _ .vmem, ⟨18, _⟩ => ⟨S512x128, .f32⟩
  | .local _ .vmem, ⟨19, _⟩ => ⟨S64x512x2x128, .bf16⟩
  | .local _ .vmem, ⟨20, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_102 : BitVec 32 := 0#32
  let c16_i32_103 : BitVec 32 := 16#32
  let v256 : BitVec 32 := Scalar.addi c0_i32_102 c16_i32_103
  let c1_i32_104 : BitVec 32 := 1#32
  ⟨c0_i32_102, v256, c1_i32_104⟩
def k0_off1 (k0_t1 : Fin k0_t1_loop.trips) (c0_i32_106 : BitVec 32) (c0_i32_107 : BitVec 32) : Fin 2 → Nat :=
  let c0_i32_102 : BitVec 32 := 0#32
  let c1_i32_104 : BitVec 32 := 1#32
  let arg15 : BitVec 32 := Scf.iv c0_i32_102 c1_i32_104 k0_t1
  let c32_i32 : BitVec 32 := 32#32
  let v257 : BitVec 32 := Scalar.muli arg15 c32_i32
  let v258 : BitVec 32 := Scalar.addi v257 c0_i32_106
  let v259 : BitVec 32 := Scalar.addi v258 c0_i32_107
  let v260 : Index := Scalar.indexCast v259
  let c0_108 : Index := 0#32
  ![v260.toNat, 0]
def k0_mult1 (k0_t1 : Fin k0_t1_loop.trips) : BitVec 32 :=
  let c0_i32_102 : BitVec 32 := 0#32
  let c1_i32_104 : BitVec 32 := 1#32
  let arg15 : BitVec 32 := Scf.iv c0_i32_102 c1_i32_104 k0_t1
  let c32_i32_169 : BitVec 32 := 32#32
  let v449 : BitVec 32 := Scalar.muli arg15 c32_i32_169
  let c0_i32_170 : BitVec 32 := 0#32
  let v450 : BitVec 32 := Scalar.addi v449 c0_i32_170
  v450
def k0_off2 (k0_t1 : Fin k0_t1_loop.trips) (c0_i32_170 : BitVec 32) : Fin 4 → Nat :=
  let c0_172 : Index := 0#32
  let c0_i32_102 : BitVec 32 := 0#32
  let c1_i32_104 : BitVec 32 := 1#32
  let arg15 : BitVec 32 := Scf.iv c0_i32_102 c1_i32_104 k0_t1
  let c32_i32_169 : BitVec 32 := 32#32
  let v449 : BitVec 32 := Scalar.muli arg15 c32_i32_169
  let v450 : BitVec 32 := Scalar.addi v449 c0_i32_170
  let v451 : BitVec 32 := v450
  let v481 : Index := Scalar.indexCast v451
  let c0_173 : Index := 0#32
  ![0, v481.toNat, 0, 0]
def k0_mult2 (k0_t1 : Fin k0_t1_loop.trips) : BitVec 32 :=
  let c0_i32_102 : BitVec 32 := 0#32
  let c1_i32_104 : BitVec 32 := 1#32
  let arg15 : BitVec 32 := Scf.iv c0_i32_102 c1_i32_104 k0_t1
  let c32_i32_238 : BitVec 32 := 32#32
  let v677 : BitVec 32 := Scalar.muli arg15 c32_i32_238
  let c8_i32_239 : BitVec 32 := 8#32
  let v678 : BitVec 32 := Scalar.addi v677 c8_i32_239
  v678
def k0_mult3 (k0_t1 : Fin k0_t1_loop.trips) : BitVec 32 :=
  let c0_i32_102 : BitVec 32 := 0#32
  let c1_i32_104 : BitVec 32 := 1#32
  let arg15 : BitVec 32 := Scf.iv c0_i32_102 c1_i32_104 k0_t1
  let c32_i32_307 : BitVec 32 := 32#32
  let v905 : BitVec 32 := Scalar.muli arg15 c32_i32_307
  let c16_i32_308 : BitVec 32 := 16#32
  let v906 : BitVec 32 := Scalar.addi v905 c16_i32_308
  v906
def k0_mult4 (k0_t1 : Fin k0_t1_loop.trips) : BitVec 32 :=
  let c0_i32_102 : BitVec 32 := 0#32
  let c1_i32_104 : BitVec 32 := 1#32
  let arg15 : BitVec 32 := Scf.iv c0_i32_102 c1_i32_104 k0_t1
  let c32_i32_375 : BitVec 32 := 32#32
  let v1133 : BitVec 32 := Scalar.muli arg15 c32_i32_375
  let c24_i32_376 : BitVec 32 := 24#32
  let v1134 : BitVec 32 := Scalar.addi v1133 c24_i32_376
  v1134
def k0_off3 (i : grid0.Coords) (c0_i32_1 : BitVec 32) : Fin 4 → Nat :=
  let arg1 : BitVec 32 := BitVec.ofNat 32 (i 1).val
  let c16_i32 : BitVec 32 := 16#32
  let v3 : BitVec 32 := Scalar.muli arg1 c16_i32
  let v4 : BitVec 32 := Scalar.addi v3 c0_i32_1
  let v5 : Index := Scalar.indexCast v4
  let c0 : Index := 0#32
  let c0_2 : Index := 0#32
  ![v5.toNat, 0, 0, 0]
def k0_cond2 (i : grid0.Coords) : BitVec 1 :=
  let arg1 : BitVec 32 := BitVec.ofNat 32 (i 1).val
  let c3_i32_85 : BitVec 32 := 3#32
  let v220 : BitVec 1 := Scalar.cmpi .eq arg1 c3_i32_85
  let v221 : BitVec 32 := Scalar.extui v220
  let c0_i32_86 : BitVec 32 := 0#32
  let v222 : BitVec 1 := Scalar.cmpi .ne v221 c0_i32_86
  v222

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference7Ideal.lean ====
abbrev S2x16384x1024 : Shape := ⟨3, ![2, 16384, 1024]⟩
abbrev S2x1x1024 : Shape := ⟨3, ![2, 1, 1024]⟩
abbrev S1024 : Shape := ⟨1, ![1024]⟩
abbrev S32768x128 : Shape := ⟨2, ![32768, 128]⟩
abbrev S16384x1024 : Shape := ⟨2, ![16384, 1024]⟩
abbrev S_ : Shape := ⟨0, ![]⟩
abbrev S32768x128x1 : Shape := ⟨3, ![32768, 128, 1]⟩
abbrev S32768x128x1024 : Shape := ⟨3, ![32768, 128, 1024]⟩
abbrev S32768x1024 : Shape := ⟨2, ![32768, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S1024, .f32⟩
  | .hbm, ⟨3, _⟩ => ⟨S1024, .f32⟩
  | .hbm, ⟨4, _⟩ => ⟨S32768x128, .i32⟩
  | .hbm, ⟨5, _⟩ => ⟨S32768x128, .i32⟩
  | .hbm, ⟨6, _⟩ => ⟨S32768x128, .f32⟩
  | .hbm, ⟨7, _⟩ => ⟨S32768x128, .f32⟩
  | .hbm, ⟨8, _⟩ => ⟨S16384x1024, .f32⟩
  | .hbm, ⟨9, _⟩ => ⟨S_, .i32⟩
  | .hbm, ⟨10, _⟩ => ⟨S32768x128, .i32⟩
  | .hbm, ⟨11, _⟩ => ⟨S32768x128, .i32⟩
  | .hbm, ⟨12, _⟩ => ⟨S32768x128, .i32⟩
  | .hbm, ⟨13, _⟩ => ⟨S32768x128, .f32⟩
  | .hbm, ⟨14, _⟩ => ⟨S32768x128, .f32⟩
  | .hbm, ⟨15, _⟩ => ⟨S_, .f32⟩
  | .hbm, ⟨16, _⟩ => ⟨S32768x128, .f32⟩
  | .hbm, ⟨17, _⟩ => ⟨S32768x128, .f32⟩
  | .hbm, ⟨18, _⟩ => ⟨S32768x128, .f32⟩
  | .hbm, ⟨19, _⟩ => ⟨S_, .f32⟩
  | .hbm, ⟨20, _⟩ => ⟨S32768x128, .f32⟩
  | .hbm, ⟨21, _⟩ => ⟨S32768x128, .f32⟩
  | .hbm, ⟨22, _⟩ => ⟨S32768x128, .f32⟩
  | .hbm, ⟨23, _⟩ => ⟨S_, .f32⟩
  | .hbm, ⟨24, _⟩ => ⟨S32768x128, .f32⟩
  | .hbm, ⟨25, _⟩ => ⟨S32768x128, .f32⟩
  | .hbm, ⟨26, _⟩ => ⟨S_, .f32⟩
  | .hbm, ⟨27, _⟩ => ⟨S32768x128, .f32⟩
  | .hbm, ⟨28, _⟩ => ⟨S32768x128, .f32⟩
  | .hbm, ⟨29, _⟩ => ⟨S32768x128, .f32⟩
  | .hbm, ⟨30, _⟩ => ⟨S32768x128, .f32⟩
  | .hbm, ⟨31, _⟩ => ⟨S_, .i32⟩
  | .hbm, ⟨32, _⟩ => ⟨S32768x128, .i32⟩
  | .hbm, ⟨33, _⟩ => ⟨S32768x128, .i1⟩
  | .hbm, ⟨34, _⟩ => ⟨S_, .i32⟩
  | .hbm, ⟨35, _⟩ => ⟨S32768x128, .i32⟩
  | .hbm, ⟨36, _⟩ => ⟨S32768x128, .i32⟩
  | .hbm, ⟨37, _⟩ => ⟨S32768x128, .i32⟩
  | .hbm, ⟨38, _⟩ => ⟨S32768x128x1, .i32⟩
  | .hbm, ⟨39, _⟩ => ⟨S32768x128x1024, .f32⟩
  | .hbm, ⟨40, _⟩ => ⟨S32768x1024, .f32⟩
  | .hbm, ⟨41, _⟩ => ⟨S2x16384x1024, .f32⟩
  | .hbm, ⟨42, _⟩ => ⟨S_, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S2x16384x1024, .f32⟩
  | .hbm, ⟨48, _⟩ => ⟨S_, .f32⟩
  | .hbm, ⟨49, _⟩ => ⟨S2x16384, .f32⟩
  | .hbm, ⟨50, _⟩ => ⟨S2x16384x1, .f32⟩
  | .hbm, ⟨51, _⟩ => ⟨S_, .f32⟩
  | .hbm, ⟨52, _⟩ => ⟨S2x16384x1, .f32⟩
  | .hbm, ⟨53, _⟩ => ⟨S2x16384x1, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S_, .f32⟩
  | .hbm, ⟨58, _⟩ => ⟨S2x16384, .f32⟩
  | .hbm, ⟨59, _⟩ => ⟨S2x16384x1, .f32⟩
  | .hbm, ⟨60, _⟩ => ⟨S_, .f32⟩
  | .hbm, ⟨61, _⟩ => ⟨S2x16384x1, .f32⟩
  | .hbm, ⟨62, _⟩ => ⟨S2x16384x1, .f32⟩
  | .hbm, ⟨63, _⟩ => ⟨S2x16384x1024, .f32⟩
  | .hbm, ⟨64, _⟩ => ⟨S2x16384x1024, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S2x16384x1, .f32⟩
  | .hbm, ⟨69, _⟩ => ⟨S2x16384x1024, .f32⟩
  | .hbm, ⟨70, _⟩ => ⟨S2x16384x1024, .f32⟩
  | .hbm, ⟨71, _⟩ => ⟨S1x1x1024, .f32⟩
  | .hbm, ⟨72, _⟩ => ⟨S2x16384x1024, .f32⟩
  | .hbm, ⟨73, _⟩ => ⟨S2x16384x1024, .f32⟩
  | .hbm, ⟨74, _⟩ => ⟨S1x1x1024, .f32⟩
  | .hbm, ⟨75, _⟩ => ⟨S2x16384x1024, .f32⟩
  | .hbm, ⟨76, _⟩ => ⟨S2x16384x1024, .f32⟩
  | .hbm, ⟨77, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel8.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S15 : Shape := ⟨1, ![15]⟩
abbrev S1 : Shape := ⟨1, ![1]⟩
abbrev S16 : Shape := ⟨1, ![16]⟩
abbrev S1x16 : Shape := ⟨2, ![1, 16]⟩
abbrev S1023 : Shape := ⟨1, ![1023]⟩
abbrev S1024 : Shape := ⟨1, ![1024]⟩
abbrev S1x1024 : Shape := ⟨2, ![1, 1024]⟩
abbrev S1x64 : Shape := ⟨2, ![1, 64]⟩
abbrev S16x64 : Shape := ⟨2, ![16, 64]⟩
abbrev S32768x1024 : Shape := ⟨2, ![32768, 1024]⟩
abbrev S512x1024 : Shape := ⟨2, ![512, 1024]⟩
abbrev S512x1 : Shape := ⟨2, ![512, 1]⟩
abbrev S512x16 : Shape := ⟨2, ![512, 16]⟩
abbrev S512x64 : Shape := ⟨2, ![512, 64]⟩
abbrev S512x2048 : Shape := ⟨2, ![512, 2048]⟩

abbrev nBuf : Space → Nat
  | .hbm => 60
  | .vmem => 11
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x2048, .f32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S15, .f32⟩
  | .hbm, ⟨13, _⟩ => ⟨S_, .f32⟩
  | .hbm, ⟨14, _⟩ => ⟨S15, .f32⟩
  | .hbm, ⟨15, _⟩ => ⟨S15, .f32⟩
  | .hbm, ⟨16, _⟩ => ⟨S1, .f32⟩
  | .hbm, ⟨17, _⟩ => ⟨S_, .f32⟩
  | .hbm, ⟨18, _⟩ => ⟨S15, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S1, .f32⟩
  | .hbm, ⟨23, _⟩ => ⟨S15, .f32⟩
  | .hbm, ⟨24, _⟩ => ⟨S15, .f32⟩
  | .hbm, ⟨25, _⟩ => ⟨S15, .f32⟩
  | .hbm, ⟨26, _⟩ => ⟨S1, .f32⟩
  | .hbm, ⟨27, _⟩ => ⟨S16, .f32⟩
  | .hbm, ⟨28, _⟩ => ⟨S1x16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1023, .f32⟩
  | .hbm, ⟨37, _⟩ => ⟨S_, .f32⟩
  | .hbm, ⟨38, _⟩ => ⟨S1023, .f32⟩
  | .hbm, ⟨39, _⟩ => ⟨S1023, .f32⟩
  | .hbm, ⟨40, _⟩ => ⟨S1, .f32⟩
  | .hbm, ⟨41, _⟩ => ⟨S_, .f32⟩
  | .hbm, ⟨42, _⟩ => ⟨S1023, .f32⟩
  | .hbm, ⟨43, _⟩ => ⟨S1023, .f32⟩
  | .hbm, ⟨44, _⟩ => ⟨S1023, .f32⟩
  | .hbm, ⟨45, _⟩ => ⟨S1023, .f32⟩
  | .hbm, ⟨46, _⟩ => ⟨S1, .f32⟩
  | .hbm, ⟨47, _⟩ => ⟨S1023, .f32⟩
  | .hbm, ⟨48, _⟩ => ⟨S1023, .f32⟩
  | .hbm, ⟨49, _⟩ => ⟨S1023, .f32⟩
  | .hbm, ⟨50, _⟩ => ⟨S1, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S1x64, .f32⟩
  | .hbm, ⟨55, _⟩ => ⟨S16x64, .f32⟩
  | .hbm, ⟨56, _⟩ => ⟨S16x64, .f32⟩
  | .hbm, ⟨57, _⟩ => ⟨S1x64, .f32⟩
  | .hbm, ⟨58, _⟩ => ⟨S1x64, .f32⟩
  | .hbm, ⟨59, _⟩ => ⟨S32768x1024, .f32⟩
  | .local _ .vmem, ⟨0, _⟩ => ⟨S1x64, .f32⟩
  | .local _ .vmem, ⟨1, _⟩ => ⟨S16x64, .f32⟩
  | .local _ .vmem, ⟨2, _⟩ => ⟨S16x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x2048, .f32⟩
  | .local _ .vmem, ⟨7, _⟩ => ⟨S1x16, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v0 : Ref sig .tc := ⟨.hbm, 27, rfl⟩
abbrev main_v1 : Ref sig .tc := ⟨.hbm, 28, rfl⟩
abbrev main_cst_0 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_cst : Ref sig .tc := ⟨.hbm, 34, rfl⟩
abbrev main_call1_v3 : Ref sig .tc := ⟨.hbm, 35, rfl⟩
abbrev main_call1_v4 : Ref sig .tc := ⟨.hbm, 36, rfl⟩
abbrev main_call1_cst_0 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_cst_1 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_v15 : Ref sig .tc := ⟨.hbm, 49, rfl⟩
abbrev main_call1_v16 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S16384 : Shape := ⟨1, ![16384]⟩
abbrev S_ : Shape := ⟨0, ![]⟩
abbrev S15 : Shape := ⟨1, ![15]⟩
abbrev S1 : Shape := ⟨1, ![1]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x33 : Shape := ⟨2, ![16384, 33]⟩
abbrev S16384x64 : Shape := ⟨2, ![16384, 64]⟩
abbrev S1x64 : Shape := ⟨2, ![1, 64]⟩
abbrev S16384x2048 : Shape := ⟨2, ![16384, 2048]⟩
abbrev S1023 : Shape := ⟨1, ![1023]⟩
abbrev S1024 : Shape := ⟨1, ![1024]⟩
abbrev S1x1024 : Shape := ⟨2, ![1, 1024]⟩
abbrev S16384x1024 : Shape := ⟨2, ![16384, 1024]⟩
abbrev S16383x1024 : Shape := ⟨2, ![16383, 1024]⟩
abbrev S32768x1024 : Shape := ⟨2, ![32768, 1024]⟩

abbrev nBuf : Space → Nat
  | .hbm => 100
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x2048, .f32⟩
  | .hbm, ⟨5, _⟩ => ⟨S16384, .i32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S_, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S15, .f32⟩
  | .hbm, ⟨18, _⟩ => ⟨S_, .f32⟩
  | .hbm, ⟨19, _⟩ => ⟨S15, .f32⟩
  | .hbm, ⟨20, _⟩ => ⟨S15, .f32⟩
  | .hbm, ⟨21, _⟩ => ⟨S1, .f32⟩
  | .hbm, ⟨22, _⟩ => ⟨S_, .f32⟩
  | .hbm, ⟨23, _⟩ => ⟨S15, .f32⟩
  | .hbm, ⟨24, _⟩ => ⟨S15, .f32⟩
  | .hbm, ⟨25, _⟩ => ⟨S15, .f32⟩
  | .hbm, ⟨26, _⟩ => ⟨S15, .f32⟩
  | .hbm, ⟨27, _⟩ => ⟨S1, .f32⟩
  | .hbm, ⟨28, _⟩ => ⟨S15, .f32⟩
  | .hbm, ⟨29, _⟩ => ⟨S15, .f32⟩
  | .hbm, ⟨30, _⟩ => ⟨S15, .f32⟩
  | .hbm, ⟨31, _⟩ => ⟨S1, .f32⟩
  | .hbm, ⟨32, _⟩ => ⟨S16, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S1x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x1, .f32⟩
  | .hbm, ⟨42, _⟩ => ⟨S16384x16, .f32⟩
  | .hbm, ⟨43, _⟩ => ⟨S16384x16, .f32⟩
  | .hbm, ⟨44, _⟩ => ⟨S16384x16, .f32⟩
  | .hbm, ⟨45, _⟩ => ⟨S16384x33, .f32⟩
  | .hbm, ⟨46, _⟩ => ⟨S16384x64, .f32⟩
  | .hbm, ⟨47, _⟩ => ⟨S1x64, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S1x64, .f32⟩
  | .hbm, ⟨53, _⟩ => ⟨S16384x64, .f32⟩
  | .hbm, ⟨54, _⟩ => ⟨S16384x64, .f32⟩
  | .hbm, ⟨55, _⟩ => ⟨S16384x64, .f32⟩
  | .hbm, ⟨56, _⟩ => ⟨S16384x2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1023, .f32⟩
  | .hbm, ⟨65, _⟩ => ⟨S_, .f32⟩
  | .hbm, ⟨66, _⟩ => ⟨S1023, .f32⟩
  | .hbm, ⟨67, _⟩ => ⟨S1023, .f32⟩
  | .hbm, ⟨68, _⟩ => ⟨S1, .f32⟩
  | .hbm, ⟨69, _⟩ => ⟨S_, .f32⟩
  | .hbm, ⟨70, _⟩ => ⟨S1023, .f32⟩
  | .hbm, ⟨71, _⟩ => ⟨S1023, .f32⟩
  | .hbm, ⟨72, _⟩ => ⟨S1023, .f32⟩
  | .hbm, ⟨73, _⟩ => ⟨S1023, .f32⟩
  | .hbm, ⟨74, _⟩ => ⟨S1, .f32⟩
  | .hbm, ⟨75, _⟩ => ⟨S1023, .f32⟩
  | .hbm, ⟨76, _⟩ => ⟨S1023, .f32⟩
  | .hbm, ⟨77, _⟩ => ⟨S1023, .f32⟩
  | .hbm, ⟨78, _⟩ => ⟨S1, .f32⟩
  | .hbm, ⟨79, _⟩ => ⟨S1024, .f32⟩
  | .hbm, ⟨80, _⟩ => ⟨S1024, .f32⟩
  | .hbm, ⟨81, _⟩ => ⟨S16384x1, .f32⟩
  | .hbm, ⟨82, _⟩ => ⟨S16384x1, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S1x1024, .f32⟩
  | .hbm, ⟨97, _⟩ => ⟨S16383x1024, .f32⟩
  | .hbm, ⟨98, _⟩ => ⟨S16383x1024, .f32⟩
  | .hbm, ⟨99, _⟩ => ⟨S32768x1024, .f32⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v4 : Ref sig .tc := ⟨.hbm, 32, rfl⟩
abbrev main_v5 : Ref sig .tc := ⟨.hbm, 33, rfl⟩
abbrev main_cst_1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_2 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_cst : Ref sig .tc := ⟨.hbm, 62, rfl⟩
abbrev main_call1_v3 : Ref sig .tc := ⟨.hbm, 63, rfl⟩
abbrev main_call1_v4 : Ref sig .tc := ⟨.hbm, 64, rfl⟩
abbrev main_call1_cst_0 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_v15 : Ref sig .tc := ⟨.hbm, 77, rfl⟩
abbrev main_call1_v16 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst_4 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_5 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩

abbrev nD : Nat := 1
abbrev τ : Topo := Topo.v7x

variable {F : FTy → Type} [FloatOps F]
-- ==== Kernel9.lean ====
abbrev S2x16384x1024 : Shape := ⟨3, ![2, 16384, 1024]⟩
abbrev S32768x1024 : Shape := ⟨2, ![32768, 1024]⟩
abbrev S2x1x1024 : Shape := ⟨3, ![2, 1, 1024]⟩
abbrev S1024 : Shape := ⟨1, ![1024]⟩
abbrev S1x1x1024 : Shape := ⟨3, ![1, 1, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S2x1x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1x1x1024, .f32⟩
  | .hbm, ⟨7, _⟩ => ⟨S1x1x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S2x16384x1024 : Shape := ⟨3, ![2, 16384, 1024]⟩
abbrev S32768x1024 : Shape := ⟨2, ![32768, 1024]⟩
abbrev S2x1x1024 : Shape := ⟨3, ![2, 1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S2x1x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S2x16384x1024, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x16384, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S2x16384x1024, .f32⟩
  | .hbm, ⟨28, _⟩ => ⟨S2x16384x1024, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x1024, .f32⟩
  | .hbm, ⟨34, _⟩ => ⟨S2x16384x1024, .f32⟩
  | .hbm, ⟨35, _⟩ => ⟨S1x1x1024, .f32⟩
  | .hbm, ⟨36, _⟩ => ⟨S2x16384x1024, .f32⟩
  | .hbm, ⟨37, _⟩ => ⟨S2x16384x1024, .f32⟩
  | .hbm, ⟨38, _⟩ => ⟨S1x1x1024, .f32⟩
  | .hbm, ⟨39, _⟩ => ⟨S2x16384x1024, .f32⟩
  | .hbm, ⟨40, _⟩ => ⟨S2x16384x1024, .f32⟩
  | .hbm, ⟨41, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel10.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x2048 : Shape := ⟨2, ![1024, 2048]⟩
abbrev S1x2048 : Shape := ⟨2, ![1, 2048]⟩
abbrev S8x2048 : Shape := ⟨2, ![8, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1024x6144, .bf16⟩
  | .hbm, ⟨4, _⟩ => ⟨S1x6144, .f32⟩
  | .hbm, ⟨5, _⟩ => ⟨S8x6144, .f32⟩
  | .local _ .vmem, ⟨0, _⟩ => ⟨S8x1024, .f32⟩
  | .local _ .vmem, ⟨1, _⟩ => ⟨S1024x2048, .bf16⟩
  | .local _ .vmem, ⟨2, _⟩ => ⟨S1024x2048, .bf16⟩
  | .local _ .vmem, ⟨3, _⟩ => ⟨S1x2048, .f32⟩
  | .local _ .vmem, ⟨4, _⟩ => ⟨S1x2048, .f32⟩
  | .local _ .vmem, ⟨5, _⟩ => ⟨S8x2048, .f32⟩
  | .local _ .vmem, ⟨6, _⟩ => ⟨S8x2048, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel11.lean ====
abbrev S32768x3072 : Shape := ⟨2, ![32768, 3072]⟩
abbrev S3x3072 : Shape := ⟨2, ![3, 3072]⟩
abbrev S32768x1024 : Shape := ⟨2, ![32768, 1024]⟩
abbrev S256x512 : Shape := ⟨2, ![256, 512]⟩
abbrev S8x512 : Shape := ⟨2, ![8, 512]⟩
abbrev S3x512 : Shape := ⟨2, ![3, 512]⟩
abbrev S256x1 : Shape := ⟨2, ![256, 1]⟩
abbrev S1x512 : Shape := ⟨2, ![1, 512]⟩

abbrev nBuf : Space → Nat
  | .hbm => 4
  | .vmem => 28
  | .smem => 0
  | _ => 0

abbrev bufTy : (tb : Table) → Fin (tcTables nBuf tb) → BufTy
  | .hbm, ⟨0, _⟩ => ⟨S32768x3072, .f32⟩
  | .hbm, ⟨1, _⟩ => ⟨S3x3072, .f32⟩
  | .hbm, ⟨2, _⟩ => ⟨S32768x1024, .f32⟩
  | .hbm, ⟨3, _⟩ => ⟨S32768x1024, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S3x512, .f32⟩
  | .local _ .vmem, ⟨7, _⟩ => ⟨S3x512, .f32⟩
  | .local _ .vmem, ⟨8, _⟩ => ⟨S256x512, .f32⟩
  | .local _ .vmem, ⟨9, _⟩ => ⟨S256x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S3x512, .f32⟩
  | .local _ .vmem, ⟨15, _⟩ => ⟨S3x512, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S3x512, .f32⟩
  | .local _ .vmem, ⟨23, _⟩ => ⟨S3x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![128, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let v3 : BitVec 32 := Scalar.addi c0_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c2_i32 : BitVec 32 := 2#32
  let v3 : BitVec 32 := Scalar.addi c2_i32 arg1
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c4_i32 : BitVec 32 := 4#32
  let v3 : BitVec 32 := Scalar.addi c4_i32 arg1
  let c0_i32 : BitVec 32 := 0#32
  ![v2.toNat, v3.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference11Ideal.lean ====
abbrev S32768x3072 : Shape := ⟨2, ![32768, 3072]⟩
abbrev S3x3072 : Shape := ⟨2, ![3, 3072]⟩
abbrev S2x16384x3072 : Shape := ⟨3, ![2, 16384, 3072]⟩
abbrev S_ : Shape := ⟨0, ![]⟩
abbrev S2x16386x3072 : Shape := ⟨3, ![2, 16386, 3072]⟩
abbrev S1x3072 : Shape := ⟨2, ![1, 3072]⟩
abbrev S3072 : Shape := ⟨1, ![3072]⟩
abbrev S1x1x3072 : Shape := ⟨3, ![1, 1, 3072]⟩
abbrev S2x16384x1024 : Shape := ⟨3, ![2, 16384, 1024]⟩
abbrev S32768x1024 : Shape := ⟨2, ![32768, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S3x3072, .f32⟩
  | .hbm, ⟨2, _⟩ => ⟨S2x16384x3072, .f32⟩
  | .hbm, ⟨3, _⟩ => ⟨S_, .i32⟩
  | .hbm, ⟨4, _⟩ => ⟨S_, .f32⟩
  | .hbm, ⟨5, _⟩ => ⟨S2x16386x3072, .f32⟩
  | .hbm, ⟨6, _⟩ => ⟨S2x16384x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S2x16384x3072, .f32⟩
  | .hbm, ⟨11, _⟩ => ⟨S2x16384x3072, .f32⟩
  | .hbm, ⟨12, _⟩ => ⟨S2x16384x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S2x16384x3072, .f32⟩
  | .hbm, ⟨17, _⟩ => ⟨S2x16384x3072, .f32⟩
  | .hbm, ⟨18, _⟩ => ⟨S2x16384x3072, .f32⟩
  | .hbm, ⟨19, _⟩ => ⟨S2x16384x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S2x16384x3072, .f32⟩
  | .hbm, ⟨24, _⟩ => ⟨S2x16384x3072, .f32⟩
  | .hbm, ⟨25, _⟩ => ⟨S2x16384x3072, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S32768x1024, .f32⟩
  | .hbm, ⟨30, _⟩ => ⟨S2x16384x1024, .f32⟩
  | .hbm, ⟨31, _⟩ => ⟨S32768x1024, .f32⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== Kernel12.lean ====
abbrev S2x16384x1024 : Shape := ⟨3, ![2, 16384, 1024]⟩
abbrev S32768x1024 : Shape := ⟨2, ![32768, 1024]⟩
abbrev S1024 : Shape := ⟨1, ![1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S32768x1024, .f32⟩
  | .hbm, ⟨3, _⟩ => ⟨S1024, .f32⟩
  | .hbm, ⟨4, _⟩ => ⟨S32768x1024, .f32⟩
  | .hbm, ⟨5, _⟩ => ⟨S1x1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S2x16384x1024 : Shape := ⟨3, ![2, 16384, 1024]⟩
abbrev S32768x1024 : Shape := ⟨2, ![32768, 1024]⟩
abbrev S1024 : Shape := ⟨1, ![1024]⟩
abbrev S1x1x1024 : Shape := ⟨3, ![1, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x1024, .f32⟩
  | .hbm, ⟨2, _⟩ => ⟨S32768x1024, .f32⟩
  | .hbm, ⟨3, _⟩ => ⟨S1024, .f32⟩
  | .hbm, ⟨4, _⟩ => ⟨S2x16384x1024, .f32⟩
  | .hbm, ⟨5, _⟩ => ⟨S1x1x1024, .f32⟩
  | .hbm, ⟨6, _⟩ => ⟨S2x16384x1024, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel13.lean ====
abbrev S2x32768x1024 : Shape := ⟨3, ![2, 32768, 1024]⟩
abbrev S32768x4096 : Shape := ⟨2, ![32768, 4096]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S1x1x1024 : Shape := ⟨3, ![1, 1, 1024]⟩
abbrev S32768x1024 : Shape := ⟨2, ![32768, 1024]⟩
abbrev S1x512x1024 : Shape := ⟨3, ![1, 512, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2x32768x1024, .f32⟩
  | .hbm, ⟨1, _⟩ => ⟨S32768x4096, .f32⟩
  | .hbm, ⟨2, _⟩ => ⟨S128, .f32⟩
  | .hbm, ⟨3, _⟩ => ⟨S1x128, .f32⟩
  | .hbm, ⟨4, _⟩ => ⟨S8x128, .f32⟩
  | .hbm, ⟨5, _⟩ => ⟨S1024, .f32⟩
  | .hbm, ⟨6, _⟩ => ⟨S1x1x1024, .f32⟩
  | .hbm, ⟨7, _⟩ => ⟨S32768x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S2x32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S2x32768x1024 : Shape := ⟨3, ![2, 32768, 1024]⟩
abbrev S32768x4096 : Shape := ⟨2, ![32768, 4096]⟩
abbrev S128 : Shape := ⟨1, ![128]⟩
abbrev S1x32768x1024 : Shape := ⟨3, ![1, 32768, 1024]⟩
abbrev S32768x1024 : Shape := ⟨2, ![32768, 1024]⟩
abbrev S32768x8x128 : Shape := ⟨3, ![32768, 8, 128]⟩
abbrev S_ : Shape := ⟨0, ![]⟩
abbrev S32768x8 : Shape := ⟨2, ![32768, 8]⟩
abbrev S32768x8x1 : Shape := ⟨3, ![32768, 8, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x32768x1024, .f32⟩
  | .hbm, ⟨1, _⟩ => ⟨S32768x4096, .f32⟩
  | .hbm, ⟨2, _⟩ => ⟨S128, .f32⟩
  | .hbm, ⟨3, _⟩ => ⟨S1x32768x1024, .f32⟩
  | .hbm, ⟨4, _⟩ => ⟨S32768x1024, .f32⟩
  | .hbm, ⟨5, _⟩ => ⟨S1x32768x1024, .f32⟩
  | .hbm, ⟨6, _⟩ => ⟨S32768x1024, .f32⟩
  | .hbm, ⟨7, _⟩ => ⟨S32768x1024, .f32⟩
  | .hbm, ⟨8, _⟩ => ⟨S32768x8x128, .f32⟩
  | .hbm, ⟨9, _⟩ => ⟨S32768x8x128, .f32⟩
  | .hbm, ⟨10, _⟩ => ⟨S_, .f32⟩
  | .hbm, ⟨11, _⟩ => ⟨S32768x8, .f32⟩
  | .hbm, ⟨12, _⟩ => ⟨S32768x8x1, .f32⟩
  | .hbm, ⟨13, _⟩ => ⟨S_, .f32⟩
  | .hbm, ⟨14, _⟩ => ⟨S32768x8x1, .f32⟩
  | .hbm, ⟨15, _⟩ => ⟨S32768x8x1, .f32⟩
  | .hbm, ⟨16, _⟩ => ⟨S_, .f32⟩
  | .hbm, ⟨17, _⟩ => ⟨S32768x8x1, .f32⟩
  | .hbm, ⟨18, _⟩ => ⟨S32768x8x1, .f32⟩
  | .hbm, ⟨19, _⟩ => ⟨S32768x8x1, .f32⟩
  | .hbm, ⟨20, _⟩ => ⟨S32768x8x128, .f32⟩
  | .hbm, ⟨21, _⟩ => ⟨S32768x8x128, .f32⟩
  | .hbm, ⟨22, _⟩ => ⟨S1x1x128, .f32⟩
  | .hbm, ⟨23, _⟩ => ⟨S32768x8x128, .f32⟩
  | .hbm, ⟨24, _⟩ => ⟨S32768x8x128, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | _, _ => ⟨S2x32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel14.lean ====
abbrev S32768x4096 : Shape := ⟨2, ![32768, 4096]⟩
abbrev S3x3072 : Shape := ⟨2, ![3, 3072]⟩
abbrev S32768x1024 : Shape := ⟨2, ![32768, 1024]⟩
abbrev S256x512 : Shape := ⟨2, ![256, 512]⟩
abbrev S8x512 : Shape := ⟨2, ![8, 512]⟩
abbrev S3x512 : Shape := ⟨2, ![3, 512]⟩
abbrev S256x1 : Shape := ⟨2, ![256, 1]⟩
abbrev S1x512 : Shape := ⟨2, ![1, 512]⟩
abbrev S256x128 : Shape := ⟨2, ![256, 128]⟩
abbrev S256 : Shape := ⟨1, ![256]⟩

abbrev nBuf : Space → Nat
  | .hbm => 5
  | .vmem => 30
  | .smem => 0
  | _ => 0

abbrev bufTy : (tb : Table) → Fin (tcTables nBuf tb) → BufTy
  | .hbm, ⟨0, _⟩ => ⟨S32768x4096, .f32⟩
  | .hbm, ⟨1, _⟩ => ⟨S3x3072, .f32⟩
  | .hbm, ⟨2, _⟩ => ⟨S32768x1024, .f32⟩
  | .hbm, ⟨3, _⟩ => ⟨S32768x1024, .f32⟩
  | .hbm, ⟨4, _⟩ => ⟨S32768x1024, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S3x512, .f32⟩
  | .local _ .vmem, ⟨7, _⟩ => ⟨S3x512, .f32⟩
  | .local _ .vmem, ⟨8, _⟩ => ⟨S256x512, .f32⟩
  | .local _ .vmem, ⟨9, _⟩ => ⟨S256x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S3x512, .f32⟩
  | .local _ .vmem, ⟨15, _⟩ => ⟨S3x512, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S3x512, .f32⟩
  | .local _ .vmem, ⟨23, _⟩ => ⟨S3x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![128, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let v3 : BitVec 32 := Scalar.addi c0_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c2_i32 : BitVec 32 := 2#32
  let v3 : BitVec 32 := Scalar.addi c2_i32 arg1
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c4_i32 : BitVec 32 := 4#32
  let v3 : BitVec 32 := Scalar.addi c4_i32 arg1
  let c0_i32 : BitVec 32 := 0#32
  ![v2.toNat, v3.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference14Ideal.lean ====
abbrev S32768x4096 : Shape := ⟨2, ![32768, 4096]⟩
abbrev S3x3072 : Shape := ⟨2, ![3, 3072]⟩
abbrev S32768x3072 : Shape := ⟨2, ![32768, 3072]⟩
abbrev S2x16384x3072 : Shape := ⟨3, ![2, 16384, 3072]⟩
abbrev S_ : Shape := ⟨0, ![]⟩
abbrev S2x16386x3072 : Shape := ⟨3, ![2, 16386, 3072]⟩
abbrev S1x3072 : Shape := ⟨2, ![1, 3072]⟩
abbrev S3072 : Shape := ⟨1, ![3072]⟩
abbrev S1x1x3072 : Shape := ⟨3, ![1, 1, 3072]⟩
abbrev S32768x3x8x128 : Shape := ⟨4, ![32768, 3, 8, 128]⟩
abbrev S32768x2x8x128 : Shape := ⟨4, ![32768, 2, 8, 128]⟩
abbrev S32768x2x8 : Shape := ⟨3, ![32768, 2, 8]⟩
abbrev S32768x2x8x1 : Shape := ⟨4, ![32768, 2, 8, 1]⟩
abbrev S32768x1x8x128 : Shape := ⟨4, ![32768, 1, 8, 128]⟩
abbrev S32768x8x128 : Shape := ⟨3, ![32768, 8, 128]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S3x3072, .f32⟩
  | .hbm, ⟨2, _⟩ => ⟨S32768x3072, .f32⟩
  | .hbm, ⟨3, _⟩ => ⟨S2x16384x3072, .f32⟩
  | .hbm, ⟨4, _⟩ => ⟨S_, .i32⟩
  | .hbm, ⟨5, _⟩ => ⟨S_, .f32⟩
  | .hbm, ⟨6, _⟩ => ⟨S2x16386x3072, .f32⟩
  | .hbm, ⟨7, _⟩ => ⟨S2x16384x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S2x16384x3072, .f32⟩
  | .hbm, ⟨12, _⟩ => ⟨S2x16384x3072, .f32⟩
  | .hbm, ⟨13, _⟩ => ⟨S2x16384x3072, .f32⟩
  | .hbm, ⟨14, _⟩ => ⟨S1x3072, .f32⟩
  | .hbm, ⟨15, _⟩ => ⟨S3072, .f32⟩
  | .hbm, ⟨16, _⟩ => ⟨S1x1x3072, .f32⟩
  | .hbm, ⟨17, _⟩ => ⟨S2x16384x3072, .f32⟩
  | .hbm, ⟨18, _⟩ => ⟨S2x16384x3072, .f32⟩
  | .hbm, ⟨19, _⟩ => ⟨S2x16384x3072, .f32⟩
  | .hbm, ⟨20, _⟩ => ⟨S2x16384x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S2x16384x3072, .f32⟩
  | .hbm, ⟨25, _⟩ => ⟨S2x16384x3072, .f32⟩
  | .hbm, ⟨26, _⟩ => ⟨S2x16384x3072, .f32⟩
  | .hbm, ⟨27, _⟩ => ⟨S2x16384x3072, .f32⟩
  | .hbm, ⟨28, _⟩ => ⟨S2x16384x3072, .f32⟩
  | .hbm, ⟨29, _⟩ => ⟨S_, .f32⟩
  | .hbm, ⟨30, _⟩ => ⟨S2x16384x3072, .f32⟩
  | .hbm, ⟨31, _⟩ => ⟨S2x16384x3072, .f32⟩
  | .hbm, ⟨32, _⟩ => ⟨S_, .f32⟩
  | .hbm, ⟨33, _⟩ => ⟨S2x16384x3072, .f32⟩
  | .hbm, ⟨34, _⟩ => ⟨S2x16384x3072, .f32⟩
  | .hbm, ⟨35, _⟩ => ⟨S2x16384x3072, .f32⟩
  | .hbm, ⟨36, _⟩ => ⟨S32768x3x8x128, .f32⟩
  | .hbm, ⟨37, _⟩ => ⟨S32768x2x8x128, .f32⟩
  | .hbm, ⟨38, _⟩ => ⟨S32768x2x8x128, .f32⟩
  | .hbm, ⟨39, _⟩ => ⟨S32768x2x8x128, .f32⟩
  | .hbm, ⟨40, _⟩ => ⟨S32768x2x8x128, .f32⟩
  | .hbm, ⟨41, _⟩ => ⟨S_, .f32⟩
  | .hbm, ⟨42, _⟩ => ⟨S32768x2x8, .f32⟩
  | .hbm, ⟨43, _⟩ => ⟨S32768x2x8x1, .f32⟩
  | .hbm, ⟨44, _⟩ => ⟨S_, .f32⟩
  | .hbm, ⟨45, _⟩ => ⟨S32768x2x8x1, .f32⟩
  | .hbm, ⟨46, _⟩ => ⟨S32768x2x8x1, .f32⟩
  | .hbm, ⟨47, _⟩ => ⟨S32768x2x8x1, .f32⟩
  | .hbm, ⟨48, _⟩ => ⟨S32768x2x8x128, .f32⟩
  | .hbm, ⟨49, _⟩ => ⟨S32768x2x8x128, .f32⟩
  | .hbm, ⟨50, _⟩ => ⟨S32768x1x8x128, .f32⟩
  | .hbm, ⟨51, _⟩ => ⟨S32768x8x128, .f32⟩
  | .hbm, ⟨52, _⟩ => ⟨S_, .f32⟩
  | .hbm, ⟨53, _⟩ => ⟨S32768x8x128, .f32⟩
  | .hbm, ⟨54, _⟩ => ⟨S32768x8x128, .f32⟩
  | .hbm, ⟨55, _⟩ => ⟨S32768x1024, .f32⟩
  | .hbm, ⟨56, _⟩ => ⟨S32768x1x8x128, .f32⟩
  | .hbm, ⟨57, _⟩ => ⟨S32768x8x128, .f32⟩
  | .hbm, ⟨58, _⟩ => ⟨S32768x1024, .f32⟩
  | .hbm, ⟨59, _⟩ => ⟨S32768x1x8x128, .f32⟩
  | .hbm, ⟨60, _⟩ => ⟨S32768x8x128, .f32⟩
  | .hbm, ⟨61, _⟩ => ⟨S32768x1024, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.ScoreNest.lean ====
module

public import Idealize.ShloMosaic.Lib.Pointwise

/-! The chain of 32 selects one grid point of the gather runs, as a recursion, and the value it takes. -/

@[expose] public section

noncomputable section

namespace Cert.Score

open Idealize.ShloMosaic

/-- The first `n` selects of a chain: select `e` takes the candidate `g e` where the high half of the expert's number,
    the word `w`, is `b + e`, and otherwise keeps what the selects before it left. -/
def nest (b w : BitVec 32) (g : ℕ → EReal) (acc : EReal) : ℕ → EReal
  | 0 => acc
  | n + 1 => Scalar.select (IntOp.cmpi .eq w (Scalar.addi b (BitVec.ofNat 32 n))) (g n) (nest b w g acc n)

/-- The comparison of a select: the word is `32 a + n` exactly when its number is. -/
theorem cmpi_tile (a n : ℕ) (ha : a < 4) (hn : n < 32) (w : BitVec 32) :
    IntOp.cmpi .eq w (Scalar.addi (Scalar.muli (BitVec.ofNat 32 a) 32#32) (BitVec.ofNat 32 n))
      = BitVec.ofBool (decide (w.toNat = 32 * a + n)) := by
  have e : (Scalar.addi (Scalar.muli (BitVec.ofNat 32 a) 32#32) (BitVec.ofNat 32 n)).toNat = 32 * a + n := by
    show (BitVec.ofNat 32 a * 32#32 + BitVec.ofNat 32 n).toNat = _
    rw [BitVec.toNat_add, BitVec.toNat_mul]
    simp only [BitVec.toNat_ofNat]
    omega
  show BitVec.ofBool (w == _) = _
  congr 1
  rw [beq_eq_decide]
  exact decide_eq_decide.mpr ⟨fun h => by rw [h, e], fun h => BitVec.eq_of_toNat_eq (by rw [h, e])⟩

/-- What the first `n` selects leave: the candidate the word names if it lies in their stretch, else what stood there. -/
theorem nest_eq (a : ℕ) (ha : a < 4) (w : BitVec 32) (g : ℕ → EReal) (acc : EReal) : ∀ n : ℕ, n ≤ 32 →
    nest (Scalar.muli (BitVec.ofNat 32 a) 32#32) w g acc n
      = if 32 * a ≤ w.toNat ∧ w.toNat < 32 * a + n then g (w.toNat - 32 * a) else acc
  | 0, _ => by rw [if_neg (by omega)]; rfl
  | n + 1, h => by
    rw [nest, cmpi_tile a n ha (by omega) w, nest_eq a ha w g acc n (by omega)]
    by_cases e : w.toNat = 32 * a + n
    · rw [decide_eq_true e]
      show g n = _
      rw [if_pos (show 32 * a ≤ w.toNat ∧ w.toNat < 32 * a + (n + 1) by omega), show w.toNat - 32 * a = n by omega]
    · rw [decide_eq_false e]
      show (if 32 * a ≤ w.toNat ∧ w.toNat < 32 * a + n then g (w.toNat - 32 * a) else acc) = _
      exact if_congr (by omega) rfl rfl

/-- A word below 128 is not negative, so the index wrapped for negative numbers is the index. -/
theorem wrap_eq (w : BitVec 32) (hw : w.toNat < 128) :
    Scalar.select (IntOp.cmpi .slt w 0#32) (IntOp.addi w 128#32) w = w := by
  have : IntOp.cmpi .slt w 0#32 = 0#1 := by
    show BitVec.ofBool (w.slt 0#32) = 0#1
    have : w.slt 0#32 = false := by
      rw [BitVec.slt, decide_eq_false]
      rw [BitVec.toInt_eq_toNat_of_lt (by omega)]
      simp
    rw [this]; rfl
  rw [this]; rfl

end Cert.Score

end
-- ==== Proof.ScoreStep.lean ====
module

public import proofs.«01_k».proof.Proof.ScoreNest
public import proofs.«01_k».proof.Proof.Gen.KernelIdeal.Value
public import Idealize.ShloMosaic.Lib.Tactic

/-! What one grid point of the expert gather leaves in the activation block and in the carried hidden block, read at an
    index. -/

@[expose] public section

noncomputable section

namespace Cert.Score

open Cert.KernelIdeal Cert.KernelIdeal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- The product of row `r` of the hidden block with column `q` of the block of key vectors. -/
def got (h : Vec Ideal S1024x1024 .bf16) (u : Vec Ideal S1024x4096 .bf16) (r : Fin 1024) (q : ℕ) : EReal :=
  if hq : q < 4096 then ∑ d : Fin 1024, h (ix2 r d) * u (ix2 d ⟨q, hq⟩) else 0

theorem got_of (h : Vec Ideal S1024x1024 .bf16) (u : Vec Ideal S1024x4096 .bf16) (r : Fin 1024) (q q' : ℕ) (hq : q < 4096)
    (e : q = q') : ∑ d : Fin 1024, h (ix2 r d) * u (ix2 d ⟨q, hq⟩) = got h u r q' := by
  subst e; rw [got, dif_pos hq]

/-- A later point of a run: the chain of selects over what the point before left. -/
theorem out_B (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x128 .i32) (harg5 : arg5.IsWhole) (arg6 : Memref sig .tc .vmem S1024x128 .i32) (harg6 : arg6.IsWhole) (arg7 : Memref sig .tc .vmem S1024x4096 .bf16) (harg7 : arg7.IsWhole) (arg8 : Memref sig .tc .vmem S1024x128 .f32) (harg8 : arg8.IsWhole) (arg9 : Memref sig .tc .vmem S1024x1024 .bf16) (harg9 : arg9.IsWhole) (hc0 : ¬cond0_0 i)
    (x0 : Vec Ideal S1024x1024 .f32) (x1 x2 : Vec Ideal S1x1x1024 .f32) (x3 x4 : Vec Ideal S1024x128 .i32) (x5 : Vec Ideal S1024x4096 .bf16) (xo6 : Vec Ideal S1024x128 .f32) (xs0 : Vec Ideal S1024x1024 .bf16)
    (r : Fin 1024) (k : Fin 128) (hx : (x4 (ix2 r k)).toNat < 128) :
    out0_B_6 c i arg2 harg2 arg3 harg3 arg4 harg4 arg5 harg5 arg6 harg6 arg7 harg7 arg8 harg8 arg9 harg9 hc0 x0 x1 x2 x3 x4 x5 xo6 xs0 (ix2 r k)
      = nest (Scalar.muli (BitVec.ofNat 32 (i 1).val) 32#32) (x3 (ix2 r k))
          (fun e => got xs0 x5 r (e * 128 + (x4 (ix2 r k)).toNat % 128)) (xo6 (ix2 r k)) 32 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo6 xs0)]
  unfold kernelRun0_B
  dsimp only
  rw [View.canon_unit_zero hz]
  sl_unfold_words
  simp only [View.readAt_eq_ld, harg5.read_unread, harg6.read_unread, harg7.read_unread, harg8.read_unread,
    harg9.read_unread, View.ld_unit_zero (S := S1024x128) hz, View.ld_unit_zero (S := S1024x1024) hz]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, wrap_eq (x4 (ix2 r k)) hx]
  iterate 32 refine congrArg₂ (Scalar.select _) (got_of _ _ _ _ _ _ (by dsimp only <;> omega)) ?_
  rfl

/-- What the first point of a run stores into the carried block: the normalised token rows scaled and shifted. -/
theorem sout_A (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x128 .i32) (harg5 : arg5.IsWhole) (arg6 : Memref sig .tc .vmem S1024x128 .i32) (harg6 : arg6.IsWhole) (arg7 : Memref sig .tc .vmem S1024x4096 .bf16) (harg7 : arg7.IsWhole) (arg8 : Memref sig .tc .vmem S1024x128 .f32) (harg8 : arg8.IsWhole) (arg9 : Memref sig .tc .vmem S1024x1024 .bf16) (harg9 : arg9.IsWhole) (hc0 : cond0_0 i)
    (x0 : Vec Ideal S1024x1024 .f32) (x1 x2 : Vec Ideal S1x1x1024 .f32) (x3 x4 : Vec Ideal S1024x128 .i32) (x5 : Vec Ideal S1024x4096 .bf16) (r d : Fin 1024) :
    sout0_A_0 c i arg2 harg2 arg3 harg3 arg4 harg4 arg5 harg5 arg6 harg6 arg7 harg7 arg8 harg8 arg9 harg9 hc0 x0 x1 x2 x3 x4 x5 (ix2 r d)
      = x0 (ix2 r d) * (1 + x1 (ix3 0 0 d)) + x2 (ix3 0 0 d) := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readAt_eq_ld, harg2.read_unread, harg3.read_unread, harg4.read_unread,
    View.ld_unit_zero (S := S1024x1024) hz, View.ld_unit_zero (S := S1x1x1024) hz3]
  pointwise [k0_pay2]

/-- The first point of a run: the chain of selects over zeros, on the block it has just stored. -/
theorem out_A (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x128 .i32) (harg5 : arg5.IsWhole) (arg6 : Memref sig .tc .vmem S1024x128 .i32) (harg6 : arg6.IsWhole) (arg7 : Memref sig .tc .vmem S1024x4096 .bf16) (harg7 : arg7.IsWhole) (arg8 : Memref sig .tc .vmem S1024x128 .f32) (harg8 : arg8.IsWhole) (arg9 : Memref sig .tc .vmem S1024x1024 .bf16) (harg9 : arg9.IsWhole) (hc0 : cond0_0 i)
    (x0 : Vec Ideal S1024x1024 .f32) (x1 x2 : Vec Ideal S1x1x1024 .f32) (x3 x4 : Vec Ideal S1024x128 .i32) (x5 : Vec Ideal S1024x4096 .bf16)
    (r : Fin 1024) (k : Fin 128) (hx : (x4 (ix2 r k)).toNat < 128) :
    out0_A_6 c i arg2 harg2 arg3 harg3 arg4 harg4 arg5 harg5 arg6 harg6 arg7 harg7 arg8 harg8 arg9 harg9 hc0 x0 x1 x2 x3 x4 x5 (ix2 r k)
      = nest (Scalar.muli (BitVec.ofNat 32 (i 1).val) 32#32) (x3 (ix2 r k))
          (fun e => got (k0_pay2 x0 x1 x2) x5 r (e * 128 + (x4 (ix2 r k)).toNat % 128)) 0 32 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1024x128) hz]
  simp only [View.readCov_unit_zero (S := S1024x128) _ hz, View.readCov_unit_zero (S := S1024x1024) _ hz,
    View.readAt_eq_ld, harg2.read_unread, harg3.read_unread, harg4.read_unread, harg5.read_unread, harg6.read_unread, harg7.read_unread,
    View.ld_unit_zero (S := S1024x128) hz, View.ld_unit_zero (S := S1024x1024) hz, View.ld_unit_zero (S := S1x1x1024) hz3]
  generalize k0_pay2 x0 x1 x2 = h
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, wrap_eq (x4 (ix2 r k)) hx]
  iterate 32 refine congrArg₂ (Scalar.select _) (got_of _ _ _ _ _ _ (by dsimp only <;> omega)) ?_
  rfl

end Cert.Score

end
-- ==== Proof.ScoreBlocks.lean ====
module

public import proofs.«01_k».proof.Proof.ScoreStep
public import Idealize.ShloMosaic.Lib.Pipeline.ValueKit
public import Idealize.ShloMosaic.Lib.Claim

/-! The blocks the expert gather reads at a grid point, as entries of the arguments. -/

@[expose] public section

noncomputable section

namespace Cert.Score

open Cert.KernelIdeal Cert.KernelIdeal.Gen Idealize.ShloMosaic Idealize.ShloMosaic.TcCoe Idealize.SL.Sem

variable (m : (ℓ : Loc nD τ sig) → Buf (Elt Ideal) ℓ)

/-- Where each window's block lies at a grid point: token blocks by `t / 4`, the batch by sixteen token blocks, the
    key-vector block by `t % 4`. -/
theorem idx : ∀ t : Fin grid0.N, win0_0.index t = ![t.val / 4, 0] ∧ win0_1.index t = ![t.val / 4 / 16, 0, 0]
    ∧ win0_2.index t = ![t.val / 4 / 16, 0, 0] ∧ win0_3.index t = ![t.val / 4, 0] ∧ win0_4.index t = ![t.val / 4, 0]
    ∧ win0_5.index t = ![0, t.val % 4] := by decide +kernel

/-- The kernel arguments of a memory, by name. -/
abbrev argX (c : Dev nD) : Vec Ideal S2x16384x1024 .f32 := m ((c : Thread nD τ).loc main_arg0)
abbrev argScale (c : Dev nD) : Vec Ideal S2x1x1024 .f32 := m ((c : Thread nD τ).loc main_arg1)
abbrev argShift (c : Dev nD) : Vec Ideal S2x1x1024 .f32 := m ((c : Thread nD τ).loc main_arg2)
abbrev argI1 (c : Dev nD) : Vec Ideal S32768x128 .i32 := m ((c : Thread nD τ).loc main_arg3)
abbrev argI2 (c : Dev nD) : Vec Ideal S32768x128 .i32 := m ((c : Thread nD τ).loc main_arg4)
abbrev argU (c : Dev nD) : Vec Ideal S16384x1024 .f32 := m ((c : Thread nD τ).loc main_arg5)

theorem tlt (t : Fin cfg0.N) : t.val < 128 := Nat.lt_of_lt_of_eq t.isLt N_0

/-- The array row that row `r` of point `t`'s token block is. -/
abbrev rowOf (t : Fin cfg0.N) (r : Fin 1024) : Fin 32768 := ⟨t.val / 4 * 1024 + r.val, by have := tlt t; omega⟩

theorem blk_x (c : Dev nD) (t : Fin cfg0.N) (r d : Fin 1024) : iblk m c 0 t (ix2 r d)
    = argX m c (ix3 ⟨(rowOf t r).val / 16384, by have := (rowOf t r).isLt; omega⟩ ⟨(rowOf t r).val % 16384, by omega⟩ d) := by
  have := tlt t
  unfold iblk
  rw [View.read_apply]
  show V m c main_v0 _ = _
  entry_read
  pointwise
  blk_ext [idx t]

theorem blk_scale (c : Dev nD) (t : Fin cfg0.N) (r d : Fin 1024) : iblk m c 1 t (ix3 0 0 d)
    = argScale m c (ix3 ⟨(rowOf t r).val / 16384, by have := (rowOf t r).isLt; omega⟩ 0 d) := by
  have := tlt t
  blk_ext [iblk, V, idx t]

theorem blk_shift (c : Dev nD) (t : Fin cfg0.N) (r d : Fin 1024) : iblk m c 2 t (ix3 0 0 d)
    = argShift m c (ix3 ⟨(rowOf t r).val / 16384, by have := (rowOf t r).isLt; omega⟩ 0 d) := by
  have := tlt t
  blk_ext [iblk, V, idx t]

theorem blk_i1 (c : Dev nD) (t : Fin cfg0.N) (r : Fin 1024) (k : Fin 128) :
    iblk m c 3 t (ix2 r k) = argI1 m c (ix2 (rowOf t r) k) := by
  have := tlt t
  blk_ext [iblk, V, idx t]

theorem blk_i2 (c : Dev nD) (t : Fin cfg0.N) (r : Fin 1024) (k : Fin 128) :
    iblk m c 4 t (ix2 r k) = argI2 m c (ix2 (rowOf t r) k) := by
  have := tlt t
  blk_ext [iblk, V, idx t]

theorem blk_u (c : Dev nD) (t : Fin cfg0.N) (d : Fin 1024) (q : Fin 4096) :
    iblk m c 5 t (ix2 d q) = argU m c (ix2 ⟨t.val % 4 * 4096 + q.val, by omega⟩ d) := by
  have := tlt t
  unfold iblk
  rw [View.read_apply]
  show V m c main_v2 _ = _
  entry_read
  pointwise
  blk_ext [idx t]

end Cert.Score

end
-- ==== Proof.ScoreFold.lean ====
module

public import proofs.«01_k».proof.Proof.ScoreBlocks

/-! What the expert gather's result array holds: each score, as a product of the hidden row with the chosen expert's key
    vector. -/

@[expose] public section

noncomputable section

namespace Cert.Score

open Cert.KernelIdeal Cert.KernelIdeal.Gen Idealize.ShloMosaic Idealize.ShloMosaic.TcCoe Idealize.SL.Sem

/-- Entry `(R, d)` of the hidden array: the token row scaled and shifted by its batch element's vectors. -/
def hid (X : Vec Ideal S2x16384x1024 .f32) (S T : Vec Ideal S2x1x1024 .f32) (R : Fin 32768) (d : Fin 1024) : EReal :=
  X (ix3 ⟨R.val / 16384, by omega⟩ ⟨R.val % 16384, by omega⟩ d) * (1 + S (ix3 ⟨R.val / 16384, by omega⟩ 0 d))
    + T (ix3 ⟨R.val / 16384, by omega⟩ 0 d)

/-- The score of token `R` against the expert its slot `k` names: number `128 i1 + i2`. -/
def score (X : Vec Ideal S2x16384x1024 .f32) (S T : Vec Ideal S2x1x1024 .f32) (I1 I2 : Vec Ideal S32768x128 .i32)
    (U : Vec Ideal S16384x1024 .f32) (R : Fin 32768) (k : Fin 128) : EReal :=
  ∑ d : Fin 1024, hid X S T R d
    * U (ix2 ⟨((I1 (ix2 R k)).toNat * 128 + (I2 (ix2 R k)).toNat) % 16384, Nat.mod_lt _ (by decide)⟩ d)

variable (m : (ℓ : Loc nD τ sig) → Buf (Elt Ideal) ℓ)

abbrev hidOf (c : Dev nD) := hid (argX m c) (argScale m c) (argShift m c)
abbrev scoreOf (c : Dev nD) := score (argX m c) (argScale m c) (argShift m c) (argI1 m c) (argI2 m c) (argU m c)

/-- What the selected candidate is: where the expert's tile is among the point's 32, the score itself. -/
theorem got_eq (c : Dev nD) (t : Fin cfg0.N) (r : Fin 1024) (k : Fin 128) (h : Vec Ideal S1024x1024 .bf16)
    (hh : ∀ d : Fin 1024, h (ix2 r d) = hidOf m c (rowOf t r) d)
    (h2 : (argI2 m c (ix2 (rowOf t r) k)).toNat < 128)
    (hl : 32 * (t.val % 4) ≤ (argI1 m c (ix2 (rowOf t r) k)).toNat)
    (hu : (argI1 m c (ix2 (rowOf t r) k)).toNat < 32 * (t.val % 4) + 32) :
    got h (iblk m c 5 t) r (((argI1 m c (ix2 (rowOf t r) k)).toNat - 32 * (t.val % 4)) * 128
      + (argI2 m c (ix2 (rowOf t r) k)).toNat % 128) = scoreOf m c (rowOf t r) k := by
  rw [got, dif_pos (by omega)]
  refine Finset.sum_congr rfl fun d _ => ?_
  rw [hh d, blk_u]
  congr 3
  apply Fin.ext
  dsimp only
  omega

/-- After point `n`: the carried block is the hidden rows of its token block, and the activation block holds the scores
    of the slots whose expert lies in the tiles met so far, zero elsewhere. -/
theorem outs_eq (c : Dev nD) (h1 : ∀ R k, (argI1 m c (ix2 R k)).toNat < 128) (h2 : ∀ R k, (argI2 m c (ix2 R k)).toNat < 128) :
    ∀ (n : ℕ) (hn : n < cfg0.N),
      (∀ r d : Fin 1024, (outsAt0 m c n hn).2 (ix2 r d) = hidOf m c (rowOf ⟨n, hn⟩ r) d)
      ∧ ∀ (r : Fin 1024) (k : Fin 128), (outsAt0 m c n hn).1 (ix2 r k)
        = if (argI1 m c (ix2 (rowOf ⟨n, hn⟩ r) k)).toNat < 32 * (n % 4) + 32 then scoreOf m c (rowOf ⟨n, hn⟩ r) k else 0 := by
  have hstart : ∀ (t : Fin cfg0.N), t.val % 4 = 0 → (∀ r d : Fin 1024, (outsAt0 m c t.val t.isLt).2 (ix2 r d) = hidOf m c (rowOf t r) d)
      ∧ ∀ (r : Fin 1024) (k : Fin 128), (outsAt0 m c t.val t.isLt).1 (ix2 r k)
        = if (argI1 m c (ix2 (rowOf t r) k)).toNat < 32 * (t.val % 4) + 32 then scoreOf m c (rowOf t r) k else 0 := by
    intro t h0
    have e1 : (grid0.coords t 1).val = t.val / 1 % 4 := Pipeline.Grid.coords_val t 1 (by decide) rfl
    have hs : ∀ r d : Fin 1024, (outsAt0 m c t.val t.isLt).2 (ix2 r d) = hidOf m c (rowOf t r) d := by
      intro r d
      rw [outsAt0_A m c t h0]
      dsimp only
      rw [sout_A, blk_x, blk_scale m c t r d, blk_shift m c t r d]
      rfl
    refine ⟨hs, fun r k => ?_⟩
    have hs' := hs
    rw [outsAt0_A m c t h0] at hs' ⊢
    dsimp only at hs' ⊢
    rw [out_A _ _ _ _ _ _ _ _ _ _ _ _ _ _ _ _ _ _ _ _ _ _ _ _ _ r k (by rw [blk_i2]; exact h2 _ _), blk_i1, blk_i2, e1, Nat.div_one,
      nest_eq _ (by omega) _ _ _ 32 le_rfl, h0]
    refine if_ctx_congr (by omega) (fun hc => ?_) fun _ => rfl
    have g := got_eq m c t r k (k0_pay2 (iblk m c 0 t) (iblk m c 1 t) (iblk m c 2 t)) (fun d => ?_) (h2 _ _) (by omega) (by omega)
    · rw [h0] at g; exact g
    · rw [← hs' r d, sout_A]
      pointwise [k0_pay2]
  intro n
  induction n with
  | zero => intro hn; exact hstart ⟨0, hn⟩ rfl
  | succ n ih =>
    intro hn
    by_cases h0 : (n + 1) % 4 = 0
    · exact hstart ⟨n + 1, hn⟩ h0
    obtain ⟨i2, i1⟩ := ih (Nat.lt_of_succ_lt hn)
    have e1 : (grid0.coords (⟨n + 1, hn⟩ : Fin cfg0.N) 1).val = (n + 1) / 1 % 4 := Pipeline.Grid.coords_val (⟨n + 1, hn⟩ : Fin cfg0.N) 1 (by decide) rfl
    have er : ∀ r, rowOf (⟨n, Nat.lt_of_succ_lt hn⟩ : Fin cfg0.N) r = rowOf (⟨n + 1, hn⟩ : Fin cfg0.N) r := fun r => Fin.ext (by dsimp only; omega)
    rw [outsAt0_B m c ⟨n + 1, hn⟩ h0]
    dsimp only
    refine ⟨fun r d => ?_, fun r k => ?_⟩
    · rw [← er r]; exact i2 r d
    rw [out_B _ _ _ _ _ _ _ _ _ _ _ _ _ _ _ _ _ _ _ _ _ _ _ _ _ _ _ r k (by rw [blk_i2]; exact h2 _ _), blk_i1, blk_i2, e1, Nat.div_one,
      nest_eq _ (by omega) _ _ _ 32 le_rfl]
    have := h1 (rowOf (⟨n + 1, hn⟩ : Fin cfg0.N) r) k
    by_cases hc : 32 * ((n + 1) % 4) ≤ (argI1 m c (ix2 (rowOf ⟨n + 1, hn⟩ r) k)).toNat
        ∧ (argI1 m c (ix2 (rowOf ⟨n + 1, hn⟩ r) k)).toNat < 32 * ((n + 1) % 4) + 32
    · rw [if_pos hc, if_pos hc.2]
      exact got_eq m c ⟨n + 1, hn⟩ r k _ (fun d => by rw [← er r]; exact i2 r d) (h2 _ _) hc.1 hc.2
    · rw [if_neg hc]
      refine (i1 r k).trans ?_
      rw [er r]
      exact if_congr (by omega) rfl rfl

/-- The result array, entry by entry. -/
theorem result_eq (c : Dev nD) (h1 : ∀ R k, (argI1 m c (ix2 R k)).toNat < 128) (h2 : ∀ R k, (argI2 m c (ix2 R k)).toNat < 128)
    (R : Fin 32768) (k : Fin 128) : Cert.KernelIdeal.Value.G6 m c (ix2 R k) = scoreOf m c R k := by
  have hN : cfg0.N = 128 := N_0
  have hp : Cert.KernelIdeal.Value.pt6Of (ix2 R k) = R.val / 1024 * 4 + 3 := by
    show 4 * (1 * (R.val / 1024 - 0) + 1 * (k.val / 128 - 0)) + 3 = _
    omega
  unfold Cert.KernelIdeal.Value.G6
  rw [dif_pos (by rw [hp]; omega), ← Cert.KernelIdeal.Value.outsAt0_sweep m c _ (by rw [hp]; omega)]
  have hl : Cert.KernelIdeal.Value.loc6Of (ix2 R k) = ix2 (⟨R.val % 1024, Nat.mod_lt _ (by decide)⟩ : Fin 1024) k := by
    funext a; apply Fin.ext
    match a with
    | ⟨0, _⟩ => rfl
    | ⟨1, _⟩ => show k.val % 128 = k.val; omega
  rw [hl, (outs_eq m c h1 h2 _ _).2]
  have hr : rowOf (⟨Cert.KernelIdeal.Value.pt6Of (ix2 R k), by rw [hp]; omega⟩ : Fin cfg0.N) ⟨R.val % 1024, Nat.mod_lt _ (by decide)⟩ = R := by
    apply Fin.ext
    show Cert.KernelIdeal.Value.pt6Of (ix2 R k) / 4 * 1024 + R.val % 1024 = R.val
    rw [hp]; omega
  rw [hr, hp, if_pos (by have := h1 R k; omega)]

end Cert.Score

end
-- ==== Proof.ScoreRef.lean ====
module

public import proofs.«01_k».proof.Proof.ScoreFold
public import proofs.«01_k».proof.Proof.Gen.ReferenceIdeal.Run
public import proofs.«01_k».proof.Defs
public import Idealize.ShloMosaic.Lib.ReduceAll

/-! The reference of the expert gather, read at an index, and the precondition read as two ranges. -/

@[expose] public section

noncomputable section

namespace Cert.Score

open Idealize.ShloMosaic Idealize.SL.Sem

/-- The dimension numbers of a table `[N, C]` read by an array `[T, K, 1]` of row numbers. -/
abbrev rowsDims (N T K C : ℕ) (wf : GatherDims.WF ⟨2, ![N, C]⟩ ⟨3, ![T, K, 1]⟩ ⟨3, ![T, K, C]⟩ [2] [0] [] [0] [] 2 ![1, C]) :
    GatherDims ⟨2, ![N, C]⟩ ⟨3, ![T, K, 1]⟩ ⟨3, ![T, K, C]⟩ where
  offsetDims := [2]
  collapsedSliceDims := [0]
  operandBatchingDims := []
  startIndicesBatchingDims := []
  startIndexMap := [0]
  indexVectorDim := 2
  sliceSizes := ![1, C]
  wf := wf

/-- The rows an index array `[t, k]` picks out of a table: entry `(R, k, d)` is the table's row named by the index word,
    read signed and clamped to the table, at column `d`. -/
theorem gather_rows_apply {N T K C w : ℕ} (hN : 0 < N)
    (wf : GatherDims.WF ⟨2, ![N, C]⟩ ⟨3, ![T, K, 1]⟩ ⟨3, ![T, K, C]⟩ [2] [0] [] [0] [] 2 ![1, C])
    (x : (⟨2, ![N, C]⟩ : Shape).Idx → EReal) (ix : IVec ⟨3, ![T, K, 1]⟩ w) (R : Fin T) (k : Fin K) (d : Fin C) :
    Host.gather (rowsDims N T K C wf) x ix (ix3 R k d)
      = x (ix2 ⟨min (ix (ix3 R k 0)).toInt.toNat (N - 1), by omega⟩ d) := by
  unfold Host.gather
  congr 1
  funext a
  refine Fin.ext ?_
  show (rowsDims N T K C wf).start (ix3 R k d) ix a + (rowsDims N T K C wf).batchCoord (ix3 R k d) a
    + (rowsDims N T K C wf).offCoord (ix3 R k d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (rowsDims N T K C wf).startIndexMap from List.mem_singleton.mpr rfl)]
    show min (ix _).toInt.toNat (N - 1) = min (ix (ix3 R k 0)).toInt.toNat (N - 1)
    congr 4
    funext b; refine Fin.ext ?_
    match b with
    | ⟨0, _⟩ => rfl
    | ⟨1, _⟩ => rfl
    | ⟨2, _⟩ => rfl
  | ⟨1, _⟩ =>
    unfold GatherDims.start
    rw [dif_neg (show ¬ (⟨1, by decide⟩ : Fin 2) ∈ (rowsDims N T K C wf).startIndexMap from by show ¬ _ ∈ [(0 : Fin 2)]; decide), Nat.zero_add]
    rfl

/-- The number of an expert from its two halves: the words' sum is not negative and names the row. -/
theorem expert_word (a b : BitVec 32) (ha : a.toNat < 128) (hb : b.toNat < 128) :
    min (Scalar.select (IntOp.cmpi .slt (IntOp.addi (IntOp.muli a 128#32) b) 0#32)
        (IntOp.addi (IntOp.addi (IntOp.muli a 128#32) b) 16384#32) (IntOp.addi (IntOp.muli a 128#32) b)).toInt.toNat 16383
      = (a.toNat * 128 + b.toNat) % 16384 := by
  have e : (IntOp.addi (IntOp.muli a 128#32) b).toNat = a.toNat * 128 + b.toNat := by
    show (a * 128#32 + b).toNat = _
    rw [BitVec.toNat_add, BitVec.toNat_mul]
    simp only [BitVec.toNat_ofNat]
    omega
  have hi : (IntOp.addi (IntOp.muli a 128#32) b).toInt = ((a.toNat * 128 + b.toNat : ℕ) : ℤ) := by
    rw [BitVec.toInt_eq_toNat_of_lt (by omega), e]
  have hn : IntOp.cmpi .slt (IntOp.addi (IntOp.muli a 128#32) b) 0#32 = 0#1 := by
    show BitVec.ofBool (BitVec.slt _ 0#32) = 0#1
    have : BitVec.slt (IntOp.addi (IntOp.muli a 128#32) b) 0#32 = false := by
      rw [BitVec.slt, hi, decide_eq_false]
      simp
      omega
    rw [this]; rfl
  rw [hn]
  show min (IntOp.addi (IntOp.muli a 128#32) b).toInt.toNat 16383 = _
  rw [hi]
  omega

end Cert.Score

namespace Cert.Score

open Idealize.ShloMosaic Idealize.SL.Sem Cert.ReferenceIdeal Cert.ReferenceIdeal.Gen

/-- The reference's term at token `R` and slot `k` is the score. -/
theorem ref_eq (X : Vec Ideal S2x16384x1024 .f32) (S T : Vec Ideal S2x1x1024 .f32) (I1 I2 : Vec Ideal S32768x128 .i32)
    (U : Vec Ideal S16384x1024 .f32) (h1 : ∀ R k, (I1 (ix2 R k)).toNat < 128) (h2 : ∀ R k, (I2 (ix2 R k)).toNat < 128)
    (R : Fin 32768) (k : Fin 128) :
    (Host.dotGeneral (F := Ideal) (φ₁ := .f32) (φ₂ := .f32) dot_S32768x1024_S32768x128x1024_S32768x128_1_2_n_1_0_0 none (shapeCast _ (addf (mulf X (broadcastInDim S2x16384x1024 ![0, 1, 2] bcast_S2x1x1024_S2x16384x1024_0_1_2 (addf (broadcastInDim S2x1x1024 ![] bcast_S_S2x1x1024 (constant S_ .f32 0x3F800000#32)) S))) (broadcastInDim S2x16384x1024 ![0, 1, 2] bcast_S2x1x1024_S2x16384x1024_0_1_2 T)) shapeCasts_S2x16384x1024_S32768x1024) (Host.gather (α := EReal) gather_S16384x1024_S32768x128x1_S32768x128x1024_2_0_n_n_0_2_11024 U (broadcastInDim S32768x128x1 ![0, 1] bcast_S32768x128_S32768x128x1_0_1 (select (cmpi .slt (addi (muli I1 (broadcastInDim S32768x128 ![] bcast_S_S32768x128 (constantI S_ 32 128#32))) I2) (broadcastInDim S32768x128 ![] bcast_S_S32768x128 (constantI S_ 32 0#32))) (addi (addi (muli I1 (broadcastInDim S32768x128 ![] bcast_S_S32768x128 (constantI S_ 32 128#32))) I2) (broadcastInDim S32768x128 ![] bcast_S_S32768x128 (constantI S_ 32 16384#32))) (addi (muli I1 (broadcastInDim S32768x128 ![] bcast_S_S32768x128 (constantI S_ 32 128#32))) I2))))) (ix2 R k) = score X S T I1 I2 U R k := by
  pointwise
  refine Finset.sum_congr rfl fun d _ => congrArg₂ (· * ·) rfl ?_
  refine (gather_rows_apply (by decide) gather_S16384x1024_S32768x128x1_S32768x128x1024_2_0_n_n_0_2_11024.wf U _ R k d).trans ?_
  pointwise
  congr 2
  exact Fin.ext (expert_word _ _ (h1 R k) (h2 R k))

end Cert.Score

end
-- ==== Proof.ScorePre.lean ====
module

public import proofs.«01_k».proof.Proof.ScoreRef
public import Idealize.ShloMosaic.Lib.WordArith
public import proofs.«01_k».proof.Proof.Gen.Pre_indices_in_range

/-! The precondition of the expert gather, read as two ranges. -/

@[expose] public section

noncomputable section

namespace Cert.Score

open Idealize.ShloMosaic Idealize.ShloMosaic.TcCoe Idealize.SL.Sem Cert.Pre_indices_in_range Cert.Pre_indices_in_range.Gen

/-- A flag whose word is one is true. -/
theorem bit_true (b : Bool) (h : BitVec.ofBool b = 1#1) : b = true := by
  cases b
  · exact absurd h (by decide)
  · rfl

/-- A word between 0 and 128, read signed, is a number below 128. -/
theorem range_of_bits (w : BitVec 32) (h : IntOp.andi (IntOp.cmpi .sge w 0#32) (IntOp.cmpi .slt w 128#32) = 1#1) : w.toNat < 128 := by
  obtain ⟨hg, hl⟩ := IntOp.andi_eq_one.1 h
  have hg' : (0#32).sle w = true := bit_true _ hg
  have hl' : w.slt 128#32 = true := bit_true _ hl
  rw [BitVec.sle_iff_toInt_le] at hg'
  rw [BitVec.slt_iff_toInt_lt] at hl'
  have e0 : (0#32).toInt = 0 := by decide
  have e1 : (128#32).toInt = 128 := by decide
  rw [e0] at hg'
  rw [e1] at hl'
  have := BitVec.toInt_eq_toNat_cond w
  split at this <;> omega

instance : Subsingleton S_.Idx := ⟨fun a b => funext fun i => i.elim0⟩

/-- The precondition: both halves of every expert's number lie in 0 … 127. -/
theorem ranges (X : Vec Ideal S2x16384x1024 .f32) (S T : Vec Ideal S2x1x1024 .f32) (I1 I2 : Vec Ideal S32768x128 .i32)
    (U : Vec Ideal S16384x1024 .f32) (h : fn (F := Ideal) X S T I1 I2 U = fun _ => 1#1) :
    (∀ R k, (I1 (ix2 R k)).toNat < 128) ∧ ∀ R k, (I2 (ix2 R k)).toNat < 128 := by
  have h0 := congrFun h (fun i => i.elim0)
  dsimp only [fn] at h0
  obtain ⟨ha, hb⟩ := IntOp.andi_eq_one.1 h0
  exact ⟨fun R k => range_of_bits _ (Host.reduce_andi_all _ _ _ _ _ ha (ix2 R k)),
    fun R k => range_of_bits _ (Host.reduce_andi_all _ _ _ _ _ hb (ix2 R k))⟩

end Cert.Score

end
-- ==== Proof.ScoreClaim.lean ====
module

public import proofs.«01_k».proof.Proof.ScorePre
public import Idealize.ShloMosaic.Adequacy
public import Idealize.ShloMosaic.Init
public import Idealize.ShloMosaic.Lib.Quiescent

/-! The claim about the expert gather: the kernel's result array is the reference's, on index words in range. -/

@[expose] public section

noncomputable section

namespace Cert.Score

open Idealize.ShloMosaic Idealize.ShloMosaic.TcCoe Idealize.SL.Sem

/-- The reference runs, ends and keeps its arguments. -/
theorem reference_quiet : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same run under the precondition. -/
theorem reference_quiet_pre : Cert.quiescent_ReferenceIdeal_pre_indices_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's scores are the reference's. -/
theorem value : Cert.algebraic_KernelIdeal_ReferenceIdeal_pre_indices_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h1, h2⟩ := ranges _ _ _ _ _ _ (hpre c)
  obtain ⟨a0, a1, a2, a3, a4, a5⟩ := hagree c
  rw [(h c).1, a0, a1, a2, a3, a4, a5]
  funext i
  rw [eq_ix2 i]
  exact (ref_eq _ _ _ _ _ _ h1 h2 (i 0) (i 1)).trans (result_eq m c h1 h2 (i 0) (i 1)).symm

end Cert.Score

end
-- ==== Proof.Queries.lean ====
module

public import proofs.«01_k».proof.Defs
public import proofs.«01_k».proof.Proof.Gen.Kernel2Ideal.Value
public import proofs.«01_k».proof.Proof.Gen.Reference2Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The query projection: the tiled product's array is the reference's, entry by entry. -/

@[expose] public section

noncomputable section

namespace Cert.Queries

open Cert.Kernel2Ideal Cert.Kernel2Ideal.Gen Idealize.ShloMosaic Idealize.ShloMosaic.TcCoe Idealize.SL.Sem

/-- The reference runs, ends and keeps its arguments. -/
theorem reference_quiet : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Where each window's block lies at a grid point: token blocks by `t % 32`, column blocks by `t / 32`. -/
theorem idx : ∀ t : Fin grid0.N, win0_0.index t = ![t.val % 32, 0] ∧ win0_1.index t = ![0, t.val / 32] ∧ win0_2.index t = ![t.val % 32 / 16, 0, 0] ∧ win0_3.index t = ![t.val % 32 / 16, 0, 0] ∧ win0_4.index t = ![t.val % 32, t.val / 32] := by decide +kernel

theorem tlt (t : Fin cfg0.N) : t.val < 32 := Nat.lt_of_lt_of_eq t.isLt N_0

/-- One entry of the product: the modulated row against the weight's column. -/
def entry (X : Vec Ideal S2x16384x1024 .f32) (S T : Vec Ideal S2x1x1024 .f32) (W : Vec Ideal S1024x2048 .f32) (R : Fin 32768) (q : Fin 2048) : EReal :=
  (∑ d : Fin 1024, (X (ix3 ⟨R.val / 16384, by omega⟩ ⟨R.val % 16384, by omega⟩ d) * (1 + S (ix3 ⟨R.val / 16384, by omega⟩ 0 d)) + T (ix3 ⟨R.val / 16384, by omega⟩ 0 d)) * W (ix2 d q))

/-- The array row and the column that a point's block entry is. -/
abbrev rowOf (t : Fin cfg0.N) (r : Fin 1024) : Fin 32768 := ⟨t.val % 32 * 1024 + r.val, by omega⟩
abbrev colOf (t : Fin cfg0.N) (q : Fin 2048) : Fin 2048 := ⟨t.val / 32 * 2048 + q.val, by have := tlt t; omega⟩

/-- The body's store at an entry. -/
theorem pay_apply (x : Vec Ideal S1024x1024 .f32) (s h : Vec Ideal S1x1x1024 .f32) (w : Vec Ideal S1024x2048 .bf16) (r : Fin 1024) (q : Fin 2048) :
    k0_pay1 x s h w (ix2 r q) = (∑ d : Fin 1024, (x (ix2 r d) * (1 + s (ix3 0 0 d)) + h (ix3 0 0 d)) * w (ix2 d q)) := by
  pointwise [k0_pay1]

/-- The entry of the result that a point's block entry lands on. -/
theorem cell (t : Fin cfg0.N) (r : Fin 1024) (q : Fin 2048) :
    ((View.whole main_v2).slice (win0_4.rect t)).emb (ix2 r q) = ix2 (rowOf t r) (colOf t q) := by
  blk_ext [idx t]

variable (m : (ℓ : Loc nD τ sig) → Buf (Elt Ideal) ℓ)

/-! The blocks of a point as entries of the arguments. -/

theorem blk_x (c : Dev nD) (t : Fin cfg0.N) (r d : Fin 1024) : iblk m c 0 t (ix2 r d) = (m ((c : Thread nD τ).loc main_arg0) : Vec Ideal S2x16384x1024 .f32) (ix3 ⟨(rowOf t r).val / 16384, by have := (rowOf t r).isLt; omega⟩ ⟨(rowOf t r).val % 16384, by omega⟩ d) := by
  have := tlt t
  unfold iblk
  rw [View.read_apply]
  show V m c main_v0 _ = _
  entry_read
  pointwise
  blk_ext [idx t]

theorem blk_s (c : Dev nD) (t : Fin cfg0.N) (r d : Fin 1024) : iblk m c 2 t (ix3 0 0 d) = (m ((c : Thread nD τ).loc main_arg1) : Vec Ideal S2x1x1024 .f32) (ix3 ⟨(rowOf t r).val / 16384, by have := (rowOf t r).isLt; omega⟩ 0 d) := by
  have := tlt t
  blk_ext [iblk, V, idx t]

theorem blk_h (c : Dev nD) (t : Fin cfg0.N) (r d : Fin 1024) : iblk m c 3 t (ix3 0 0 d) = (m ((c : Thread nD τ).loc main_arg2) : Vec Ideal S2x1x1024 .f32) (ix3 ⟨(rowOf t r).val / 16384, by have := (rowOf t r).isLt; omega⟩ 0 d) := by
  have := tlt t
  blk_ext [iblk, V, idx t]

theorem blk_w (c : Dev nD) (t : Fin cfg0.N) (d : Fin 1024) (q : Fin 2048) : iblk m c 1 t (ix2 d q) = (m ((c : Thread nD τ).loc main_arg3) : Vec Ideal S1024x2048 .f32) (ix2 d (colOf t q)) := by
  have := tlt t
  unfold iblk
  rw [View.read_apply]
  show V m c main_v1 _ = _
  entry_read
  pointwise
  blk_ext [idx t]

/-- What a point stores is the product's entry there. -/
theorem block_eq (c : Dev nD) (t : Fin cfg0.N) (r : Fin 1024) (q : Fin 2048) :
    k0_pay1 (iblk m c 0 t) (iblk m c 2 t) (iblk m c 3 t) (iblk m c 1 t) (ix2 r q)
      = entry (m ((c : Thread nD τ).loc main_arg0) : Vec Ideal S2x16384x1024 .f32) (m ((c : Thread nD τ).loc main_arg1) : Vec Ideal S2x1x1024 .f32) (m ((c : Thread nD τ).loc main_arg2) : Vec Ideal S2x1x1024 .f32) (m ((c : Thread nD τ).loc main_arg3) : Vec Ideal S1024x2048 .f32) (rowOf t r) (colOf t q) := by
  rw [pay_apply]
  unfold entry
  simp only [blk_x m c t r, blk_s m c t r, blk_h m c t r, blk_w m c t]

/-- The kernel's array is the reference's. -/
theorem value : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  symm
  refine (dats m 0 c).arrAt_eq_of_covers 4 _ (by decide +kernel) fun t hf y => ?_
  blk_simp
  rw [after0_4]
  frame_out
  rw [eq_ix2 y]
  refine (block_eq m c t (y 0) (y 1)).trans ?_
  refine Eq.trans ?_ (congrArg _ (cell t (y 0) (y 1))).symm
  generalize rowOf t (y 0) = R
  generalize colOf t (y 1) = C
  generalize m ((c : Thread nD τ).loc main_arg0) = A0
  generalize m ((c : Thread nD τ).loc main_arg1) = A1
  generalize m ((c : Thread nD τ).loc main_arg2) = A2
  generalize m ((c : Thread nD τ).loc main_arg3) = A3
  unfold entry
  pointwise

end Cert.Queries

end
-- ==== Proof.HyenaIn.lean ====
module

public import proofs.«01_k».proof.Defs
public import proofs.«01_k».proof.Proof.Gen.Kernel3Ideal.Value
public import proofs.«01_k».proof.Proof.Gen.Reference3Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The Hyena mixer's input projection: the tiled product's array is the reference's, entry by entry. -/

@[expose] public section

noncomputable section

namespace Cert.HyenaIn

open Cert.Kernel3Ideal Cert.Kernel3Ideal.Gen Idealize.ShloMosaic Idealize.ShloMosaic.TcCoe Idealize.SL.Sem

/-- The reference runs, ends and keeps its arguments. -/
theorem reference_quiet : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Where each window's block lies at a grid point: token blocks by `t % 32`, column blocks by `t / 32`. -/
theorem idx : ∀ t : Fin grid0.N, win0_0.index t = ![t.val % 32, 0] ∧ win0_1.index t = ![0, t.val / 32] ∧ win0_2.index t = ![t.val % 32 / 16, 0, 0] ∧ win0_3.index t = ![t.val % 32 / 16, 0, 0] ∧ win0_4.index t = ![0, t.val / 32] ∧ win0_5.index t = ![t.val % 32, t.val / 32] := by decide +kernel

theorem tlt (t : Fin cfg0.N) : t.val < 64 := Nat.lt_of_lt_of_eq t.isLt N_0

/-- One entry of the product: the modulated row against the weight's column, and the bias. -/
def entry (X : Vec Ideal S2x16384x1024 .f32) (S T : Vec Ideal S2x1x1024 .f32) (W : Vec Ideal S1024x3072 .f32) (B : Vec Ideal S3072 .f32) (R : Fin 32768) (q : Fin 3072) : EReal :=
  (∑ d : Fin 1024, (X (ix3 ⟨R.val / 16384, by omega⟩ ⟨R.val % 16384, by omega⟩ d) * (1 + S (ix3 ⟨R.val / 16384, by omega⟩ 0 d)) + T (ix3 ⟨R.val / 16384, by omega⟩ 0 d)) * W (ix2 d q)) + B (ix1 q)

/-- The array row and the column that a point's block entry is. -/
abbrev rowOf (t : Fin cfg0.N) (r : Fin 1024) : Fin 32768 := ⟨t.val % 32 * 1024 + r.val, by omega⟩
abbrev colOf (t : Fin cfg0.N) (q : Fin 1536) : Fin 3072 := ⟨t.val / 32 * 1536 + q.val, by have := tlt t; omega⟩

/-- The body's store at an entry. -/
theorem pay_apply (x : Vec Ideal S1024x1024 .f32) (s h : Vec Ideal S1x1x1024 .f32) (w : Vec Ideal S1024x1536 .bf16) (b : Vec Ideal S1x1536 .f32) (r : Fin 1024) (q : Fin 1536) :
    k0_pay1 x s h w b (ix2 r q) = (∑ d : Fin 1024, (x (ix2 r d) * (1 + s (ix3 0 0 d)) + h (ix3 0 0 d)) * w (ix2 d q)) + b (ix2 0 q) := by
  pointwise [k0_pay1]

/-- The entry of the result that a point's block entry lands on. -/
theorem cell (t : Fin cfg0.N) (r : Fin 1024) (q : Fin 1536) :
    ((View.whole main_v3).slice (win0_5.rect t)).emb (ix2 r q) = ix2 (rowOf t r) (colOf t q) := by
  blk_ext [idx t]

variable (m : (ℓ : Loc nD τ sig) → Buf (Elt Ideal) ℓ)

/-! The blocks of a point as entries of the arguments. -/

theorem blk_x (c : Dev nD) (t : Fin cfg0.N) (r d : Fin 1024) : iblk m c 0 t (ix2 r d) = (m ((c : Thread nD τ).loc main_arg0) : Vec Ideal S2x16384x1024 .f32) (ix3 ⟨(rowOf t r).val / 16384, by have := (rowOf t r).isLt; omega⟩ ⟨(rowOf t r).val % 16384, by omega⟩ d) := by
  have := tlt t
  unfold iblk
  rw [View.read_apply]
  show V m c main_v0 _ = _
  entry_read
  pointwise
  blk_ext [idx t]

theorem blk_s (c : Dev nD) (t : Fin cfg0.N) (r d : Fin 1024) : iblk m c 2 t (ix3 0 0 d) = (m ((c : Thread nD τ).loc main_arg1) : Vec Ideal S2x1x1024 .f32) (ix3 ⟨(rowOf t r).val / 16384, by have := (rowOf t r).isLt; omega⟩ 0 d) := by
  have := tlt t
  blk_ext [iblk, V, idx t]

theorem blk_h (c : Dev nD) (t : Fin cfg0.N) (r d : Fin 1024) : iblk m c 3 t (ix3 0 0 d) = (m ((c : Thread nD τ).loc main_arg2) : Vec Ideal S2x1x1024 .f32) (ix3 ⟨(rowOf t r).val / 16384, by have := (rowOf t r).isLt; omega⟩ 0 d) := by
  have := tlt t
  blk_ext [iblk, V, idx t]

theorem blk_w (c : Dev nD) (t : Fin cfg0.N) (d : Fin 1024) (q : Fin 1536) : iblk m c 1 t (ix2 d q) = (m ((c : Thread nD τ).loc main_arg3) : Vec Ideal S1024x3072 .f32) (ix2 d (colOf t q)) := by
  have := tlt t
  unfold iblk
  rw [View.read_apply]
  show V m c main_v1 _ = _
  entry_read
  pointwise
  blk_ext [idx t]

theorem blk_b (c : Dev nD) (t : Fin cfg0.N) (q : Fin 1536) : iblk m c 4 t (ix2 0 q) = (m ((c : Thread nD τ).loc main_arg4) : Vec Ideal S3072 .f32) (ix1 (colOf t q)) := by
  have := tlt t
  unfold iblk
  rw [View.read_apply]
  show V m c main_v2 _ = _
  entry_read
  pointwise
  blk_ext [idx t]

/-- What a point stores is the product's entry there. -/
theorem block_eq (c : Dev nD) (t : Fin cfg0.N) (r : Fin 1024) (q : Fin 1536) :
    k0_pay1 (iblk m c 0 t) (iblk m c 2 t) (iblk m c 3 t) (iblk m c 1 t) (iblk m c 4 t) (ix2 r q)
      = entry (m ((c : Thread nD τ).loc main_arg0) : Vec Ideal S2x16384x1024 .f32) (m ((c : Thread nD τ).loc main_arg1) : Vec Ideal S2x1x1024 .f32) (m ((c : Thread nD τ).loc main_arg2) : Vec Ideal S2x1x1024 .f32) (m ((c : Thread nD τ).loc main_arg3) : Vec Ideal S1024x3072 .f32) (m ((c : Thread nD τ).loc main_arg4) : Vec Ideal S3072 .f32) (rowOf t r) (colOf t q) := by
  rw [pay_apply]
  unfold entry
  simp only [blk_x m c t r, blk_s m c t r, blk_h m c t r, blk_w m c t, blk_b m c t]

/-- The kernel's array is the reference's. -/
theorem value : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  symm
  refine (dats m 0 c).arrAt_eq_of_covers 5 _ (by decide +kernel) fun t hf y => ?_
  blk_simp
  rw [after0_5]
  frame_out
  rw [eq_ix2 y]
  refine (block_eq m c t (y 0) (y 1)).trans ?_
  refine Eq.trans ?_ (congrArg _ (cell t (y 0) (y 1))).symm
  generalize rowOf t (y 0) = R
  generalize colOf t (y 1) = C
  generalize m ((c : Thread nD τ).loc main_arg0) = A0
  generalize m ((c : Thread nD τ).loc main_arg1) = A1
  generalize m ((c : Thread nD τ).loc main_arg2) = A2
  generalize m ((c : Thread nD τ).loc main_arg3) = A3
  generalize m ((c : Thread nD τ).loc main_arg4) = A4
  unfold entry
  pointwise

end Cert.HyenaIn

end
-- ==== Proof.DeltaIn.lean ====
module

public import proofs.«01_k».proof.Defs
public import proofs.«01_k».proof.Proof.Gen.Kernel4Ideal.Value
public import proofs.«01_k».proof.Proof.Gen.Reference4Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The delta rule's input projection: the tiled product's array is the reference's, entry by entry. -/

@[expose] public section

noncomputable section

namespace Cert.DeltaIn

open Cert.Kernel4Ideal Cert.Kernel4Ideal.Gen Idealize.ShloMosaic Idealize.ShloMosaic.TcCoe Idealize.SL.Sem

/-- The reference runs, ends and keeps its arguments. -/
theorem reference_quiet : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Where each window's block lies at a grid point: token blocks by `t % 32`, column blocks by `t / 32`. -/
theorem idx : ∀ t : Fin grid0.N, win0_0.index t = ![t.val % 32, 0] ∧ win0_1.index t = ![0, t.val / 32] ∧ win0_2.index t = ![t.val % 32 / 16, 0, 0] ∧ win0_3.index t = ![t.val % 32 / 16, 0, 0] ∧ win0_4.index t = ![t.val % 32, t.val / 32] := by decide +kernel

theorem tlt (t : Fin cfg0.N) : t.val < 64 := Nat.lt_of_lt_of_eq t.isLt N_0

/-- One entry of the product: the modulated row against the weight's column. -/
def entry (X : Vec Ideal S2x16384x1024 .f32) (S T : Vec Ideal S2x1x1024 .f32) (W : Vec Ideal S1024x4128 .f32) (R : Fin 32768) (q : Fin 4096) : EReal :=
  (∑ d : Fin 1024, (X (ix3 ⟨R.val / 16384, by omega⟩ ⟨R.val % 16384, by omega⟩ d) * (1 + S (ix3 ⟨R.val / 16384, by omega⟩ 0 d)) + T (ix3 ⟨R.val / 16384, by omega⟩ 0 d)) * W (ix2 d ⟨q.val, by omega⟩))

/-- The array row and the column that a point's block entry is. -/
abbrev rowOf (t : Fin cfg0.N) (r : Fin 1024) : Fin 32768 := ⟨t.val % 32 * 1024 + r.val, by omega⟩
abbrev colOf (t : Fin cfg0.N) (q : Fin 2048) : Fin 4096 := ⟨t.val / 32 * 2048 + q.val, by have := tlt t; omega⟩

/-- The body's store at an entry. -/
theorem pay_apply (x : Vec Ideal S1024x1024 .f32) (s h : Vec Ideal S1x1x1024 .f32) (w : Vec Ideal S1024x2048 .bf16) (r : Fin 1024) (q : Fin 2048) :
    k0_pay1 x s h w (ix2 r q) = (∑ d : Fin 1024, (x (ix2 r d) * (1 + s (ix3 0 0 d)) + h (ix3 0 0 d)) * w (ix2 d q)) := by
  pointwise [k0_pay1]

/-- The entry of the result that a point's block entry lands on. -/
theorem cell (t : Fin cfg0.N) (r : Fin 1024) (q : Fin 2048) :
    ((View.whole main_v3).slice (win0_4.rect t)).emb (ix2 r q) = ix2 (rowOf t r) (colOf t q) := by
  blk_ext [idx t]

variable (m : (ℓ : Loc nD τ sig) → Buf (Elt Ideal) ℓ)

/-! The blocks of a point as entries of the arguments. -/

theorem blk_x (c : Dev nD) (t : Fin cfg0.N) (r d : Fin 1024) : iblk m c 0 t (ix2 r d) = (m ((c : Thread nD τ).loc main_arg0) : Vec Ideal S2x16384x1024 .f32) (ix3 ⟨(rowOf t r).val / 16384, by have := (rowOf t r).isLt; omega⟩ ⟨(rowOf t r).val % 16384, by omega⟩ d) := by
  have := tlt t
  unfold iblk
  rw [View.read_apply]
  show V m c main_v0 _ = _
  entry_read
  pointwise
  blk_ext [idx t]

theorem blk_s (c : Dev nD) (t : Fin cfg0.N) (r d : Fin 1024) : iblk m c 2 t (ix3 0 0 d) = (m ((c : Thread nD τ).loc main_arg1) : Vec Ideal S2x1x1024 .f32) (ix3 ⟨(rowOf t r).val / 16384, by have := (rowOf t r).isLt; omega⟩ 0 d) := by
  have := tlt t
  blk_ext [iblk, V, idx t]

theorem blk_h (c : Dev nD) (t : Fin cfg0.N) (r d : Fin 1024) : iblk m c 3 t (ix3 0 0 d) = (m ((c : Thread nD τ).loc main_arg2) : Vec Ideal S2x1x1024 .f32) (ix3 ⟨(rowOf t r).val / 16384, by have := (rowOf t r).isLt; omega⟩ 0 d) := by
  have := tlt t
  blk_ext [iblk, V, idx t]

theorem blk_w (c : Dev nD) (t : Fin cfg0.N) (d : Fin 1024) (q : Fin 2048) : iblk m c 1 t (ix2 d q) = (m ((c : Thread nD τ).loc main_arg3) : Vec Ideal S1024x4128 .f32) (ix2 d ⟨(colOf t q).val, by have := (colOf t q).isLt; omega⟩) := by
  have := tlt t
  unfold iblk
  rw [View.read_apply]
  show V m c main_v2 _ = _
  entry_read
  pointwise
  blk_ext [idx t]

/-- What a point stores is the product's entry there. -/
theorem block_eq (c : Dev nD) (t : Fin cfg0.N) (r : Fin 1024) (q : Fin 2048) :
    k0_pay1 (iblk m c 0 t) (iblk m c 2 t) (iblk m c 3 t) (iblk m c 1 t) (ix2 r q)
      = entry (m ((c : Thread nD τ).loc main_arg0) : Vec Ideal S2x16384x1024 .f32) (m ((c : Thread nD τ).loc main_arg1) : Vec Ideal S2x1x1024 .f32) (m ((c : Thread nD τ).loc main_arg2) : Vec Ideal S2x1x1024 .f32) (m ((c : Thread nD τ).loc main_arg3) : Vec Ideal S1024x4128 .f32) (rowOf t r) (colOf t q) := by
  rw [pay_apply]
  unfold entry
  simp only [blk_x m c t r, blk_s m c t r, blk_h m c t r, blk_w m c t]

/-- The kernel's array is the reference's. -/
theorem value : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  simp only [hagree c]
  symm
  refine (dats m 0 c).arrAt_eq_of_covers 4 _ (by decide +kernel) fun t hf y => ?_
  blk_simp
  rw [after0_4]
  frame_out
  rw [eq_ix2 y]
  refine (block_eq m c t (y 0) (y 1)).trans ?_
  refine Eq.trans ?_ (congrArg _ (cell t (y 0) (y 1))).symm
  generalize rowOf t (y 0) = R
  generalize colOf t (y 1) = C
  generalize m ((c : Thread nD τ).loc main_arg0) = A0
  generalize m ((c : Thread nD τ).loc main_arg1) = A1
  generalize m ((c : Thread nD τ).loc main_arg2) = A2
  generalize m ((c : Thread nD τ).loc main_arg3) = A3
  unfold entry
  pointwise

end Cert.DeltaIn

end
-- ==== Proof.ProjectBias.lean ====
module

public import proofs.«01_k».proof.Defs
public import proofs.«01_k».proof.Proof.Gen.Kernel5Ideal.Value
public import proofs.«01_k».proof.Proof.Gen.Reference5Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The output projection with a bias: the tiled product's array is the reference's, entry by entry. -/

@[expose] public section

noncomputable section

namespace Cert.ProjectBias

open Cert.Kernel5Ideal Cert.Kernel5Ideal.Gen Idealize.ShloMosaic Idealize.ShloMosaic.TcCoe Idealize.SL.Sem

/-- The reference runs, ends and keeps its arguments. -/
theorem reference_quiet : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Where each window's block lies at a grid point: token blocks by `t % 32`, column blocks by `t / 32`. -/
theorem idx : ∀ t : Fin grid0.N, win0_0.index t = ![t.val % 32, 0] ∧ win0_1.index t = ![0, t.val / 32] ∧ win0_2.index t = ![0, t.val / 32] ∧ win0_3.index t = ![t.val % 32, t.val / 32] := by decide +kernel

theorem tlt (t : Fin cfg0.N) : t.val < 32 := Nat.lt_of_lt_of_eq t.isLt N_0

/-- One entry of the product: the row against the weight's column, and the bias. -/
def entry (X : Vec Ideal S2x16384x1024 .f32) (W : Vec Ideal S1024x1024 .f32) (B : Vec Ideal S1024 .f32) (R : Fin 32768) (q : Fin 1024) : EReal :=
  (∑ d : Fin 1024, X (ix3 ⟨R.val / 16384, by omega⟩ ⟨R.val % 16384, by omega⟩ d) * W (ix2 d q)) + B (ix1 q)

/-- The array row and the column that a point's block entry is. -/
abbrev rowOf (t : Fin cfg0.N) (r : Fin 1024) : Fin 32768 := ⟨t.val % 32 * 1024 + r.val, by omega⟩
abbrev colOf (t : Fin cfg0.N) (q : Fin 1024) : Fin 1024 := ⟨t.val / 32 * 1024 + q.val, by have := tlt t; omega⟩

/-- The body's store at an entry. -/
theorem pay_apply (x : Vec Ideal S1024x1024 .f32) (w : Vec Ideal S1024x1024 .bf16) (b : Vec Ideal S1x1024 .f32) (r : Fin 1024) (q : Fin 1024) :
    k0_pay1 x w b (ix2 r q) = (∑ d : Fin 1024, x (ix2 r d) * w (ix2 d q)) + b (ix2 0 q) := by
  pointwise [k0_pay1]

/-- The entry of the result that a point's block entry lands on. -/
theorem cell (t : Fin cfg0.N) (r : Fin 1024) (q : Fin 1024) :
    ((View.whole main_v3).slice (win0_3.rect t)).emb (ix2 r q) = ix2 (rowOf t r) (colOf t q) := by
  blk_ext [idx t]

variable (m : (ℓ : Loc nD τ sig) → Buf (Elt Ideal) ℓ)

/-! The blocks of a point as entries of the arguments. -/

theorem blk_x (c : Dev nD) (t : Fin cfg0.N) (r d : Fin 1024) : iblk m c 0 t (ix2 r d) = (m ((c : Thread nD τ).loc main_arg0) : Vec Ideal S2x16384x1024 .f32) (ix3 ⟨(rowOf t r).val / 16384, by have := (rowOf t r).isLt; omega⟩ ⟨(rowOf t r).val % 16384, by omega⟩ d) := by
  have := tlt t
  unfold iblk
  rw [View.read_apply]
  show V m c main_v0 _ = _
  entry_read
  pointwise
  blk_ext [idx t]

theorem blk_w (c : Dev nD) (t : Fin cfg0.N) (d : Fin 1024) (q : Fin 1024) : iblk m c 1 t (ix2 d q) = (m ((c : Thread nD τ).loc main_arg1) : Vec Ideal S1024x1024 .f32) (ix2 d (colOf t q)) := by
  have := tlt t
  unfold iblk
  rw [View.read_apply]
  show V m c main_v1 _ = _
  entry_read
  pointwise
  blk_ext [idx t]

theorem blk_b (c : Dev nD) (t : Fin cfg0.N) (q : Fin 1024) : iblk m c 2 t (ix2 0 q) = (m ((c : Thread nD τ).loc main_arg2) : Vec Ideal S1024 .f32) (ix1 (colOf t q)) := by
  have := tlt t
  unfold iblk
  rw [View.read_apply]
  show V m c main_v2 _ = _
  entry_read
  pointwise
  blk_ext [idx t]

/-- What a point stores is the product's entry there. -/
theorem block_eq (c : Dev nD) (t : Fin cfg0.N) (r : Fin 1024) (q : Fin 1024) :
    k0_pay1 (iblk m c 0 t) (iblk m c 1 t) (iblk m c 2 t) (ix2 r q)
      = entry (m ((c : Thread nD τ).loc main_arg0) : Vec Ideal S2x16384x1024 .f32) (m ((c : Thread nD τ).loc main_arg1) : Vec Ideal S1024x1024 .f32) (m ((c : Thread nD τ).loc main_arg2) : Vec Ideal S1024 .f32) (rowOf t r) (colOf t q) := by
  rw [pay_apply]
  unfold entry
  simp only [blk_x m c t r, blk_w m c t, blk_b m c t]

/-- The kernel's array is the reference's. -/
theorem value : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  simp only [hagree c]
  symm
  refine (dats m 0 c).arrAt_eq_of_covers 3 _ (by decide +kernel) fun t hf y => ?_
  blk_simp
  rw [after0_3]
  frame_out
  rw [eq_ix2 y]
  refine (block_eq m c t (y 0) (y 1)).trans ?_
  refine Eq.trans ?_ (congrArg _ (cell t (y 0) (y 1))).symm
  generalize rowOf t (y 0) = R
  generalize colOf t (y 1) = C
  generalize m ((c : Thread nD τ).loc main_arg0) = A0
  generalize m ((c : Thread nD τ).loc main_arg1) = A1
  generalize m ((c : Thread nD τ).loc main_arg2) = A2
  unfold entry
  pointwise

end Cert.ProjectBias

end
-- ==== Proof.Project.lean ====
module

public import proofs.«01_k».proof.Defs
public import proofs.«01_k».proof.Proof.Gen.Kernel6Ideal.Value
public import proofs.«01_k».proof.Proof.Gen.Reference6Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The output projection: the tiled product's array is the reference's, entry by entry. -/

@[expose] public section

noncomputable section

namespace Cert.Project

open Cert.Kernel6Ideal Cert.Kernel6Ideal.Gen Idealize.ShloMosaic Idealize.ShloMosaic.TcCoe Idealize.SL.Sem

/-- The reference runs, ends and keeps its arguments. -/
theorem reference_quiet : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Where each window's block lies at a grid point: token blocks by `t % 32`, column blocks by `t / 32`. -/
theorem idx : ∀ t : Fin grid0.N, win0_0.index t = ![t.val % 32, 0] ∧ win0_1.index t = ![0, t.val / 32] ∧ win0_2.index t = ![t.val % 32, t.val / 32] := by decide +kernel

theorem tlt (t : Fin cfg0.N) : t.val < 32 := Nat.lt_of_lt_of_eq t.isLt N_0

/-- One entry of the product: the row against the weight's column. -/
def entry (X : Vec Ideal S2x16384x1024 .f32) (W : Vec Ideal S1024x1024 .f32) (R : Fin 32768) (q : Fin 1024) : EReal :=
  (∑ d : Fin 1024, X (ix3 ⟨R.val / 16384, by omega⟩ ⟨R.val % 16384, by omega⟩ d) * W (ix2 d q))

/-- The array row and the column that a point's block entry is. -/
abbrev rowOf (t : Fin cfg0.N) (r : Fin 1024) : Fin 32768 := ⟨t.val % 32 * 1024 + r.val, by omega⟩
abbrev colOf (t : Fin cfg0.N) (q : Fin 1024) : Fin 1024 := ⟨t.val / 32 * 1024 + q.val, by have := tlt t; omega⟩

/-- The body's store at an entry. -/
theorem pay_apply (x : Vec Ideal S1024x1024 .f32) (w : Vec Ideal S1024x1024 .bf16) (r : Fin 1024) (q : Fin 1024) :
    k0_pay1 x w (ix2 r q) = (∑ d : Fin 1024, x (ix2 r d) * w (ix2 d q)) := by
  pointwise [k0_pay1]

/-- The entry of the result that a point's block entry lands on. -/
theorem cell (t : Fin cfg0.N) (r : Fin 1024) (q : Fin 1024) :
    ((View.whole main_v2).slice (win0_2.rect t)).emb (ix2 r q) = ix2 (rowOf t r) (colOf t q) := by
  blk_ext [idx t]

variable (m : (ℓ : Loc nD τ sig) → Buf (Elt Ideal) ℓ)

/-! The blocks of a point as entries of the arguments. -/

theorem blk_x (c : Dev nD) (t : Fin cfg0.N) (r d : Fin 1024) : iblk m c 0 t (ix2 r d) = (m ((c : Thread nD τ).loc main_arg0) : Vec Ideal S2x16384x1024 .f32) (ix3 ⟨(rowOf t r).val / 16384, by have := (rowOf t r).isLt; omega⟩ ⟨(rowOf t r).val % 16384, by omega⟩ d) := by
  have := tlt t
  unfold iblk
  rw [View.read_apply]
  show V m c main_v0 _ = _
  entry_read
  pointwise
  blk_ext [idx t]

theorem blk_w (c : Dev nD) (t : Fin cfg0.N) (d : Fin 1024) (q : Fin 1024) : iblk m c 1 t (ix2 d q) = (m ((c : Thread nD τ).loc main_arg1) : Vec Ideal S1024x1024 .f32) (ix2 d (colOf t q)) := by
  have := tlt t
  unfold iblk
  rw [View.read_apply]
  show V m c main_v1 _ = _
  entry_read
  pointwise
  blk_ext [idx t]

/-- What a point stores is the product's entry there. -/
theorem block_eq (c : Dev nD) (t : Fin cfg0.N) (r : Fin 1024) (q : Fin 1024) :
    k0_pay1 (iblk m c 0 t) (iblk m c 1 t) (ix2 r q)
      = entry (m ((c : Thread nD τ).loc main_arg0) : Vec Ideal S2x16384x1024 .f32) (m ((c : Thread nD τ).loc main_arg1) : Vec Ideal S1024x1024 .f32) (rowOf t r) (colOf t q) := by
  rw [pay_apply]
  unfold entry
  simp only [blk_x m c t r, blk_w m c t]

/-- The kernel's array is the reference's. -/
theorem value : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  simp only [hagree c]
  symm
  refine (dats m 0 c).arrAt_eq_of_covers 2 _ (by decide +kernel) fun t hf y => ?_
  blk_simp
  rw [after0_2]
  frame_out
  rw [eq_ix2 y]
  refine (block_eq m c t (y 0) (y 1)).trans ?_
  refine Eq.trans ?_ (congrArg _ (cell t (y 0) (y 1))).symm
  generalize rowOf t (y 0) = R
  generalize colOf t (y 1) = C
  generalize m ((c : Thread nD τ).loc main_arg0) = A0
  generalize m ((c : Thread nD τ).loc main_arg1) = A1
  unfold entry
  pointwise

end Cert.Project

end
-- ==== Proof.CombineBitsRuns.lean ====
module

public import proofs.«01_k».proof.Proof.Gen.Kernel7.Frame
public import proofs.«01_k».proof.Proof.Gen.Kernel7.Loops

/-! The combine's body, run once for each of the three kinds of grid point. Four points make a run over the expert chunks: the
    first fills the word grid, clears the accumulator and takes its chunk in; a middle one takes its chunk in; the last one
    also writes the output block. -/

@[expose] public section

set_option maxRecDepth 16384

noncomputable section

namespace Cert.Kernel7.Carry

open Cert.Kernel7 Cert.Kernel7.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-- The counted loop's stores cover the word grid, whatever it held before. -/
theorem fill_cover (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x128 .i32) (harg13 : arg13.IsWhole) (arg14 : Memref sig .tc .vmem S512x1024 .f32) (harg14 : arg14.IsWhole) (h : k0_cond1 i = 1#1) (v : IVec S128x128 32) (X6 : BufTy.Contents (Elt F) arg6.view.ty) (X7 : BufTy.Contents (Elt F) arg7.view.ty) (X12 : BufTy.Contents (Elt F) arg12.view.ty) (y : S64x512x128.Idx) :
    ∃ pc ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h v X6 X7 X12 k0_t1_loop.trips, y ∈ pc.1.set :=
  View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h v X6 X7 X12 k0_t1_loop.trips) S64x8x128.size (by sl_kernel_rfl) y

/-- So after the loop the word grid's contents may be stated over any contents. -/
theorem fill_any (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x128 .i32) (harg13 : arg13.IsWhole) (arg14 : Memref sig .tc .vmem S512x1024 .f32) (harg14 : arg14.IsWhole) (h : k0_cond1 i = 1#1) (v : IVec S128x128 32) (X6 : BufTy.Contents (Elt F) arg6.view.ty) (X7 : BufTy.Contents (Elt F) arg7.view.ty) (X12 : BufTy.Contents (Elt F) arg12.view.ty) (f : arg13.view.ty.Contents (Elt F)) :
    arg13.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h v X6 X7 X12 k0_t1_loop.trips) = arg13.view.writes (Elt F) arg13.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h v X6 X7 X12 k0_t1_loop.trips) :=
  (harg13.eq_unread (View.read_writes_eq_canon _ _ _ (fill_cover 𝒱 c bd i arg2 harg2 arg3 harg3 arg4 harg4 arg5 harg5 arg6 harg6 arg7 harg7 arg8 harg8 arg9 harg9 arg10 harg10 arg11 harg11 arg12 harg12 arg13 harg13 arg14 harg14 h v X6 X7 X12))).trans
    (harg13.eq_unread (View.read_writes_eq_canon _ _ _ (fill_cover 𝒱 c bd i arg2 harg2 arg3 harg3 arg4 harg4 arg5 harg5 arg6 harg6 arg7 harg7 arg8 harg8 arg9 harg9 arg10 harg10 arg11 harg11 arg12 harg12 arg13 harg13 arg14 harg14 h v X6 X7 X12))).symm

set_option maxHeartbeats 1000000 in
/-- The body at a first point: the pieces it leaves in the word grid and in the accumulator, whatever the scratch buffers
    held, and its triple. The output block is handed back as it was. -/
def runA (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x128 .i32) (harg13 : arg13.IsWhole) (arg14 : Memref sig .tc .vmem S512x1024 .f32) (harg14 : arg14.IsWhole) (hc0 : k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) :
    Σ' (LG : List (View.Piece (Elt F) S64x512x128 .i32)), { LA : List (View.Piece (Elt F) S512x1024 .f32) //
      ∀ (x9 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ f, arg13.view.loc (c : Thread nD τ) ↦[arg13.view.set]{fullShare} arg13.view.writes (Elt F) f LG) ∗ (∃ f, arg14.view.loc (c : Thread nD τ) ↦[arg14.view.set]{fullShare} arg14.view.writes (Elt F) f LA)) -∗ K ⟨⟩))
          ⊢ wp frame (wpE (defs₀ (F := F)) Variants.none c none) E (cc0_pk_combine i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun x9 E K => ?run⟩
  case run =>
    simp only [cc0_pk_combine_eq_skeleton]; unfold cc0_pk_combine_skel
    simp only [k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, HW⟩, ⟨%d11, %f11, -, HG⟩, ⟨%d12, %f12, -, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    set_option sl_exec.maxSteps 11 in sl_exec (disch := first | sl_exact hc0 | sl_exact hc1)
    unfold runA.sl.v6
    rw [fill_any]
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HW]
    · iexists _, _; isplitr; swap; · iexact HW
      ipureintro; rfl
    isplitl [HG]; · iexists _; iexact HG
    iexists _; iexact HA

set_option maxHeartbeats 1000000 in
/-- The body at a middle point, on the word grid `xg` and the accumulator `xa` the point before left: the pieces it leaves in
    the accumulator, and its triple. The word grid and the output block are handed back as they were. -/
def runB (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x128 .i32) (harg13 : arg13.IsWhole) (arg14 : Memref sig .tc .vmem S512x1024 .f32) (harg14 : arg14.IsWhole) (hc0 : ¬k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x128 .i32) (xa : Vec F S512x1024 .f32) :
    { LA : List (View.Piece (Elt F) S512x1024 .f32) //
      ∀ (x9 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xg ∗ owns (c : Thread nD τ) arg14 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xg ∗ (∃ f, arg14.view.loc (c : Thread nD τ) ↦[arg14.view.set]{fullShare} arg14.view.writes (Elt F) f LA)) -∗ K ⟨⟩))
          ⊢ wp frame (wpE (defs₀ (F := F)) Variants.none c none) E (cc0_pk_combine i arg2 harg2 arg3 harg3 arg4 harg4 arg5 harg5 arg6 harg6 arg7 harg7 arg8 harg8 arg9 harg9 arg10 harg10 arg11 harg11 arg12 harg12 arg13 harg13 arg14 harg14) K } := by
  refine ⟨?_, fun x9 E K => ?run⟩
  case run =>
    simp only [cc0_pk_combine_eq_skeleton]; unfold cc0_pk_combine_skel
    simp only [k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, HW⟩, ⟨%f11, %hf11, HG⟩, ⟨%f12, %hf12, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HW]
    · iexists _, _; isplitr; swap; · iexact HW
      ipureintro; rfl
    isplitl [HG]
    · iexists _; isplitr; · ipureintro; exact harg13.read_unread _
      iexact HG
    iexists _; iexact HA

set_option maxHeartbeats 1000000 in
/-- The body at a last point, on the word grid `xg` and the accumulator `xa` the point before left: the pieces it leaves in the
    output block, whatever that held, and in the accumulator, and its triple. The word grid is handed back as it was. -/
def runC (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x128 .i32) (harg13 : arg13.IsWhole) (arg14 : Memref sig .tc .vmem S512x1024 .f32) (harg14 : arg14.IsWhole) (hc0 : ¬k0_cond1 i = 1#1) (hc1 : k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x128 .i32) (xa : Vec F S512x1024 .f32) :
    Σ' (LO : List (View.Piece (Elt F) S512x1024 .f32)), { LA : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xg ∗ owns (c : Thread nD τ) arg14 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f LO) ∗ (∃ d, owns (c : Thread nD τ) arg12 fullShare d) ∗ owns (c : Thread nD τ) arg13 fullShare xg ∗ (∃ f, arg14.view.loc (c : Thread nD τ) ↦[arg14.view.set]{fullShare} arg14.view.writes (Elt F) f LA)) -∗ K ⟨⟩))
          ⊢ wp frame (wpE (defs₀ (F := F)) Variants.none c none) E (cc0_pk_combine i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_pk_combine_eq_skeleton]; unfold cc0_pk_combine_skel
    simp only [k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, HW⟩, ⟨%f11, %hf11, HG⟩, ⟨%f12, %hf12, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HW]
    · iexists _, _; isplitr; swap; · iexact HW
      ipureintro; rfl
    isplitl [HG]
    · iexists _; isplitr; · ipureintro; exact harg13.read_unread _
      iexact HG
    iexists _; iexact HA

end Cert.Kernel7.Carry

end
-- ==== Proof.CombineTrip.lean ====
module

public import proofs.«01_k».proof.Proof.Gen.Kernel7Ideal.Loops
public import Idealize.ShloMosaic.Lib.Pipeline.ValueKit

@[expose] public section

noncomputable section

namespace Cert.Combine

open Cert.Kernel7Ideal Cert.Kernel7Ideal.Gen Idealize.ShloMosaic Idealize.ShloMosaic.TcCoe Idealize.SL.Sem

theorem off1_eq : ∀ (k : Fin k0_t1_loop.trips) (r : Fin 4) (q : Fin 8),
    k0_off1 k (BitVec.ofNat 32 (8 * r.val)) (BitVec.ofNat 32 q.val) = ![32 * k.val + 8 * r.val + q.val, 0] := by
  decide +kernel

theorem off2_eq : ∀ (k : Fin k0_t1_loop.trips) (r : Fin 4),
    k0_off2 k (BitVec.ofNat 32 (8 * r.val)) = ![0, 32 * k.val + 8 * r.val, 0, 0] := by
  decide +kernel

/-- The token row of the block which the loads of token `q` of store `r` of trip `k` read. -/
def rowAt (k : Fin k0_t1_loop.trips) (r : Fin 4) (q : Fin 8) : Fin 512 :=
  ⟨k0_off1 k (BitVec.ofNat 32 (8 * r.val)) (BitVec.ofNat 32 q.val) 0, by
    have hk : k.val < 16 := k.isLt
    rw [off1_eq k r q]
    show 32 * k.val + 8 * r.val + q.val < 512
    omega⟩

theorem rowAt_val (k : Fin k0_t1_loop.trips) (r : Fin 4) (q : Fin 8) :
    (rowAt k r q).val = 32 * k.val + 8 * r.val + q.val := by
  show k0_off1 k _ _ 0 = _
  rw [off1_eq k r q]
  rfl

/-- The two-digit one-hot product: over the slots of token `tok`, the weights whose first digit is `key`'s at row `n` and
    whose second digit is `iot`'s at row `b`. -/
def cell (key iot : IVec S128x128 32) (x6 x7 : S512x128.Idx → BitVec 32) (x12 : S512x128.Idx → EReal) (n : Fin 128) (tok : Fin 512) (b : Fin 128) : EReal :=
  ∑ s : Fin 128, Scalar.select (Scalar.cmpi .eq (key (ix2 n s)) (x6 (ix2 tok s))) (x12 (ix2 tok s)) 0 * ((((Scalar.cmpi .eq (iot (ix2 b s)) (x7 (ix2 tok s))).setWidth 32).toInt : ℝ) : EReal)

/-- The first store of a trip at the low half of the words. -/
theorem trip_0_0 (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty) (k : Fin k0_t1_loop.trips) (n : Fin 64) (tok : Fin 512) (b : Fin 128) :
    View.AllAt (List.take 1 (List.drop 3 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k))) (ix4 n tok 0 b)
      (cell k0_pay116 v246 (arg6.view.read _ X_arg6) (arg7.view.read _ X_arg7) (arg12.view.read _ X_arg12) ⟨n.val, by omega⟩ tok b) := by
  unfold tripL_k0_t1 trip_k0_t1
  dsimp only [List.drop, List.take]
  refine View.allAt_cons_unit _ _ _ _ _ ?_ (View.allAt_nil _ _)
  intro x hx
  have h0 := hx 0
  have h1 := hx 1
  have h2 := hx 2
  have h3 := hx 3
  have eo : k0_off2 k 0#32 = ![0, 32 * k.val + 8 * (0 : Fin 4).val, 0, 0] := off2_eq k 0
  rw [eo] at h0 h1 h2 h3
  obtain ⟨n', q, p', b', rfl⟩ : ∃ n' q p' b', x = ix4 n' q p' b' := ⟨x 0, x 1, x 2, x 3, eq_ix4 x⟩
  have e0 : n' = n := Fin.ext (by simpa using h0.symm)
  have e2 : p' = 0 := Fin.ext (by simpa using h2.symm)
  have e3 : b' = b := Fin.ext (by simpa using h3.symm)
  subst e0 e2 e3
  have h1' : tok.val = 32 * k.val + 8 * 0 + q.val := h1
  have hq : tok = rowAt k 0 q := Fin.ext (h1'.trans (rowAt_val k 0 q).symm)
  clear hx h0 h1 h2 h3 h1' eo
  subst hq
  sl_unfold_words
  simp only [View.readAt_eq_ld]
  generalize arg6.view.read _ X_arg6 = x6
  generalize arg7.view.read _ X_arg7 = x7
  generalize arg12.view.read _ X_arg12 = x12
  unfold cell
  generalize k0_pay116 = v255
  fin_cases q <;> (pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]; rfl)

/-- The first store of a trip at the high half of the words. -/
theorem trip_0_1 (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty) (k : Fin k0_t1_loop.trips) (n : Fin 64) (tok : Fin 512) (b : Fin 128) :
    View.AllAt (List.take 1 (List.drop 3 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k))) (ix4 n tok 1 b)
      (cell k0_pay116 v246 (arg6.view.read _ X_arg6) (arg7.view.read _ X_arg7) (arg12.view.read _ X_arg12) ⟨64 + n.val, by omega⟩ tok b) := by
  unfold tripL_k0_t1 trip_k0_t1
  dsimp only [List.drop, List.take]
  refine View.allAt_cons_unit _ _ _ _ _ ?_ (View.allAt_nil _ _)
  intro x hx
  have h0 := hx 0
  have h1 := hx 1
  have h2 := hx 2
  have h3 := hx 3
  have eo : k0_off2 k 0#32 = ![0, 32 * k.val + 8 * (0 : Fin 4).val, 0, 0] := off2_eq k 0
  rw [eo] at h0 h1 h2 h3
  obtain ⟨n', q, p', b', rfl⟩ : ∃ n' q p' b', x = ix4 n' q p' b' := ⟨x 0, x 1, x 2, x 3, eq_ix4 x⟩
  have e0 : n' = n := Fin.ext (by simpa using h0.symm)
  have e2 : p' = 1 := Fin.ext (by simpa using h2.symm)
  have e3 : b' = b := Fin.ext (by simpa using h3.symm)
  subst e0 e2 e3
  have h1' : tok.val = 32 * k.val + 8 * 0 + q.val := h1
  have hq : tok = rowAt k 0 q := Fin.ext (h1'.trans (rowAt_val k 0 q).symm)
  clear hx h0 h1 h2 h3 h1' eo
  subst hq
  sl_unfold_words
  simp only [View.readAt_eq_ld]
  generalize arg6.view.read _ X_arg6 = x6
  generalize arg7.view.read _ X_arg7 = x7
  generalize arg12.view.read _ X_arg12 = x12
  unfold cell
  generalize k0_pay116 = v255
  fin_cases q <;> (pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]; rfl)

/-- The second store of a trip at the low half of the words. -/
theorem trip_1_0 (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty) (k : Fin k0_t1_loop.trips) (n : Fin 64) (tok : Fin 512) (b : Fin 128) :
    View.AllAt (List.take 1 (List.drop 2 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k))) (ix4 n tok 0 b)
      (cell k0_pay116 v246 (arg6.view.read _ X_arg6) (arg7.view.read _ X_arg7) (arg12.view.read _ X_arg12) ⟨n.val, by omega⟩ tok b) := by
  unfold tripL_k0_t1 trip_k0_t1
  dsimp only [List.drop, List.take]
  refine View.allAt_cons_unit _ _ _ _ _ ?_ (View.allAt_nil _ _)
  intro x hx
  have h0 := hx 0
  have h1 := hx 1
  have h2 := hx 2
  have h3 := hx 3
  have eo : k0_off2 k 8#32 = ![0, 32 * k.val + 8 * (1 : Fin 4).val, 0, 0] := off2_eq k 1
  rw [eo] at h0 h1 h2 h3
  obtain ⟨n', q, p', b', rfl⟩ : ∃ n' q p' b', x = ix4 n' q p' b' := ⟨x 0, x 1, x 2, x 3, eq_ix4 x⟩
  have e0 : n' = n := Fin.ext (by simpa using h0.symm)
  have e2 : p' = 0 := Fin.ext (by simpa using h2.symm)
  have e3 : b' = b := Fin.ext (by simpa using h3.symm)
  subst e0 e2 e3
  have h1' : tok.val = 32 * k.val + 8 * 1 + q.val := h1
  have hq : tok = rowAt k 1 q := Fin.ext (h1'.trans (rowAt_val k 1 q).symm)
  clear hx h0 h1 h2 h3 h1' eo
  subst hq
  sl_unfold_words
  simp only [View.readAt_eq_ld]
  generalize arg6.view.read _ X_arg6 = x6
  generalize arg7.view.read _ X_arg7 = x7
  generalize arg12.view.read _ X_arg12 = x12
  unfold cell
  generalize k0_pay116 = v255
  fin_cases q <;> (pointwise [k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]; rfl)

/-- The second store of a trip at the high half of the words. -/
theorem trip_1_1 (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty) (k : Fin k0_t1_loop.trips) (n : Fin 64) (tok : Fin 512) (b : Fin 128) :
    View.AllAt (List.take 1 (List.drop 2 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k))) (ix4 n tok 1 b)
      (cell k0_pay116 v246 (arg6.view.read _ X_arg6) (arg7.view.read _ X_arg7) (arg12.view.read _ X_arg12) ⟨64 + n.val, by omega⟩ tok b) := by
  unfold tripL_k0_t1 trip_k0_t1
  dsimp only [List.drop, List.take]
  refine View.allAt_cons_unit _ _ _ _ _ ?_ (View.allAt_nil _ _)
  intro x hx
  have h0 := hx 0
  have h1 := hx 1
  have h2 := hx 2
  have h3 := hx 3
  have eo : k0_off2 k 8#32 = ![0, 32 * k.val + 8 * (1 : Fin 4).val, 0, 0] := off2_eq k 1
  rw [eo] at h0 h1 h2 h3
  obtain ⟨n', q, p', b', rfl⟩ : ∃ n' q p' b', x = ix4 n' q p' b' := ⟨x 0, x 1, x 2, x 3, eq_ix4 x⟩
  have e0 : n' = n := Fin.ext (by simpa using h0.symm)
  have e2 : p' = 1 := Fin.ext (by simpa using h2.symm)
  have e3 : b' = b := Fin.ext (by simpa using h3.symm)
  subst e0 e2 e3
  have h1' : tok.val = 32 * k.val + 8 * 1 + q.val := h1
  have hq : tok = rowAt k 1 q := Fin.ext (h1'.trans (rowAt_val k 1 q).symm)
  clear hx h0 h1 h2 h3 h1' eo
  subst hq
  sl_unfold_words
  simp only [View.readAt_eq_ld]
  generalize arg6.view.read _ X_arg6 = x6
  generalize arg7.view.read _ X_arg7 = x7
  generalize arg12.view.read _ X_arg12 = x12
  unfold cell
  generalize k0_pay116 = v255
  fin_cases q <;> (pointwise [k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]; rfl)

/-- The third store of a trip at the low half of the words. -/
theorem trip_2_0 (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty) (k : Fin k0_t1_loop.trips) (n : Fin 64) (tok : Fin 512) (b : Fin 128) :
    View.AllAt (List.take 1 (List.drop 1 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k))) (ix4 n tok 0 b)
      (cell k0_pay116 v246 (arg6.view.read _ X_arg6) (arg7.view.read _ X_arg7) (arg12.view.read _ X_arg12) ⟨n.val, by omega⟩ tok b) := by
  unfold tripL_k0_t1 trip_k0_t1
  dsimp only [List.drop, List.take]
  refine View.allAt_cons_unit _ _ _ _ _ ?_ (View.allAt_nil _ _)
  intro x hx
  have h0 := hx 0
  have h1 := hx 1
  have h2 := hx 2
  have h3 := hx 3
  have eo : k0_off2 k 16#32 = ![0, 32 * k.val + 8 * (2 : Fin 4).val, 0, 0] := off2_eq k 2
  rw [eo] at h0 h1 h2 h3
  obtain ⟨n', q, p', b', rfl⟩ : ∃ n' q p' b', x = ix4 n' q p' b' := ⟨x 0, x 1, x 2, x 3, eq_ix4 x⟩
  have e0 : n' = n := Fin.ext (by simpa using h0.symm)
  have e2 : p' = 0 := Fin.ext (by simpa using h2.symm)
  have e3 : b' = b := Fin.ext (by simpa using h3.symm)
  subst e0 e2 e3
  have h1' : tok.val = 32 * k.val + 8 * 2 + q.val := h1
  have hq : tok = rowAt k 2 q := Fin.ext (h1'.trans (rowAt_val k 2 q).symm)
  clear hx h0 h1 h2 h3 h1' eo
  subst hq
  sl_unfold_words
  simp only [View.readAt_eq_ld]
  generalize arg6.view.read _ X_arg6 = x6
  generalize arg7.view.read _ X_arg7 = x7
  generalize arg12.view.read _ X_arg12 = x12
  unfold cell
  generalize k0_pay116 = v255
  fin_cases q <;> (pointwise [k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]; rfl)

/-- The third store of a trip at the high half of the words. -/
theorem trip_2_1 (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty) (k : Fin k0_t1_loop.trips) (n : Fin 64) (tok : Fin 512) (b : Fin 128) :
    View.AllAt (List.take 1 (List.drop 1 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k))) (ix4 n tok 1 b)
      (cell k0_pay116 v246 (arg6.view.read _ X_arg6) (arg7.view.read _ X_arg7) (arg12.view.read _ X_arg12) ⟨64 + n.val, by omega⟩ tok b) := by
  unfold tripL_k0_t1 trip_k0_t1
  dsimp only [List.drop, List.take]
  refine View.allAt_cons_unit _ _ _ _ _ ?_ (View.allAt_nil _ _)
  intro x hx
  have h0 := hx 0
  have h1 := hx 1
  have h2 := hx 2
  have h3 := hx 3
  have eo : k0_off2 k 16#32 = ![0, 32 * k.val + 8 * (2 : Fin 4).val, 0, 0] := off2_eq k 2
  rw [eo] at h0 h1 h2 h3
  obtain ⟨n', q, p', b', rfl⟩ : ∃ n' q p' b', x = ix4 n' q p' b' := ⟨x 0, x 1, x 2, x 3, eq_ix4 x⟩
  have e0 : n' = n := Fin.ext (by simpa using h0.symm)
  have e2 : p' = 1 := Fin.ext (by simpa using h2.symm)
  have e3 : b' = b := Fin.ext (by simpa using h3.symm)
  subst e0 e2 e3
  have h1' : tok.val = 32 * k.val + 8 * 2 + q.val := h1
  have hq : tok = rowAt k 2 q := Fin.ext (h1'.trans (rowAt_val k 2 q).symm)
  clear hx h0 h1 h2 h3 h1' eo
  subst hq
  sl_unfold_words
  simp only [View.readAt_eq_ld]
  generalize arg6.view.read _ X_arg6 = x6
  generalize arg7.view.read _ X_arg7 = x7
  generalize arg12.view.read _ X_arg12 = x12
  unfold cell
  generalize k0_pay116 = v255
  fin_cases q <;> (pointwise [k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]; rfl)

/-- The fourth store of a trip at the low half of the words. -/
theorem trip_3_0 (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty) (k : Fin k0_t1_loop.trips) (n : Fin 64) (tok : Fin 512) (b : Fin 128) :
    View.AllAt (List.take 1 (List.drop 0 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k))) (ix4 n tok 0 b)
      (cell k0_pay116 v246 (arg6.view.read _ X_arg6) (arg7.view.read _ X_arg7) (arg12.view.read _ X_arg12) ⟨n.val, by omega⟩ tok b) := by
  unfold tripL_k0_t1 trip_k0_t1
  dsimp only [List.drop, List.take]
  refine View.allAt_cons_unit _ _ _ _ _ ?_ (View.allAt_nil _ _)
  intro x hx
  have h0 := hx 0
  have h1 := hx 1
  have h2 := hx 2
  have h3 := hx 3
  have eo : k0_off2 k 24#32 = ![0, 32 * k.val + 8 * (3 : Fin 4).val, 0, 0] := off2_eq k 3
  rw [eo] at h0 h1 h2 h3
  obtain ⟨n', q, p', b', rfl⟩ : ∃ n' q p' b', x = ix4 n' q p' b' := ⟨x 0, x 1, x 2, x 3, eq_ix4 x⟩
  have e0 : n' = n := Fin.ext (by simpa using h0.symm)
  have e2 : p' = 0 := Fin.ext (by simpa using h2.symm)
  have e3 : b' = b := Fin.ext (by simpa using h3.symm)
  subst e0 e2 e3
  have h1' : tok.val = 32 * k.val + 8 * 3 + q.val := h1
  have hq : tok = rowAt k 3 q := Fin.ext (h1'.trans (rowAt_val k 3 q).symm)
  clear hx h0 h1 h2 h3 h1' eo
  subst hq
  sl_unfold_words
  simp only [View.readAt_eq_ld]
  generalize arg6.view.read _ X_arg6 = x6
  generalize arg7.view.read _ X_arg7 = x7
  generalize arg12.view.read _ X_arg12 = x12
  unfold cell
  generalize k0_pay116 = v255
  fin_cases q <;> (pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay117]; rfl)

/-- The fourth store of a trip at the high half of the words. -/
theorem trip_3_1 (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty) (k : Fin k0_t1_loop.trips) (n : Fin 64) (tok : Fin 512) (b : Fin 128) :
    View.AllAt (List.take 1 (List.drop 0 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k))) (ix4 n tok 1 b)
      (cell k0_pay116 v246 (arg6.view.read _ X_arg6) (arg7.view.read _ X_arg7) (arg12.view.read _ X_arg12) ⟨64 + n.val, by omega⟩ tok b) := by
  unfold tripL_k0_t1 trip_k0_t1
  dsimp only [List.drop, List.take]
  refine View.allAt_cons_unit _ _ _ _ _ ?_ (View.allAt_nil _ _)
  intro x hx
  have h0 := hx 0
  have h1 := hx 1
  have h2 := hx 2
  have h3 := hx 3
  have eo : k0_off2 k 24#32 = ![0, 32 * k.val + 8 * (3 : Fin 4).val, 0, 0] := off2_eq k 3
  rw [eo] at h0 h1 h2 h3
  obtain ⟨n', q, p', b', rfl⟩ : ∃ n' q p' b', x = ix4 n' q p' b' := ⟨x 0, x 1, x 2, x 3, eq_ix4 x⟩
  have e0 : n' = n := Fin.ext (by simpa using h0.symm)
  have e2 : p' = 1 := Fin.ext (by simpa using h2.symm)
  have e3 : b' = b := Fin.ext (by simpa using h3.symm)
  subst e0 e2 e3
  have h1' : tok.val = 32 * k.val + 8 * 3 + q.val := h1
  have hq : tok = rowAt k 3 q := Fin.ext (h1'.trans (rowAt_val k 3 q).symm)
  clear hx h0 h1 h2 h3 h1' eo
  subst hq
  sl_unfold_words
  simp only [View.readAt_eq_ld]
  generalize arg6.view.read _ X_arg6 = x6
  generalize arg7.view.read _ X_arg7 = x7
  generalize arg12.view.read _ X_arg12 = x12
  unfold cell
  generalize k0_pay116 = v255
  fin_cases q <;> (pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay117]; rfl)

/-- Every store of a trip, wherever it holds the cell `(n, tok, p, b)` of the word grid, leaves the product there. -/
theorem trip (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty) (k : Fin k0_t1_loop.trips) (n : Fin 64) (tok : Fin 512) (p : Fin 2) (b : Fin 128) :
    View.AllAt (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k) (ix4 n tok p b)
      (cell k0_pay116 v246 (arg6.view.read _ X_arg6) (arg7.view.read _ X_arg7) (arg12.view.read _ X_arg12) ⟨64 * p.val + n.val, by omega⟩ tok b) := by
  have hl : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k).length = 4 := by unfold tripL_k0_t1 trip_k0_t1; rfl
  intro pc hpc
  obtain ⟨j, hj, rfl⟩ := List.mem_iff_getElem.mp hpc
  have hm : ∀ (L : List (View.Piece (Elt Ideal) S64x512x2x128 .bf16)) (j : ℕ) (hj : j < L.length), L[j] ∈ List.take 1 (List.drop j L) := by
    intro L j hj
    rw [List.drop_eq_getElem_cons hj]
    exact List.mem_cons_self
  have hj4 : j < 4 := hl ▸ hj
  have h := hm _ j hj
  obtain rfl | rfl | rfl | rfl : j = 0 ∨ j = 1 ∨ j = 2 ∨ j = 3 := by omega
  · fin_cases p
    · simpa using trip_3_0 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k n tok b _ h
    · exact trip_3_1 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k n tok b _ h
  · fin_cases p
    · simpa using trip_2_0 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k n tok b _ h
    · exact trip_2_1 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k n tok b _ h
  · fin_cases p
    · simpa using trip_1_0 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k n tok b _ h
    · exact trip_1_1 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k n tok b _ h
  · fin_cases p
    · simpa using trip_0_0 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k n tok b _ h
    · exact trip_0_1 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k n tok b _ h

end Cert.Combine

end
-- ==== Proof.CombineGrid.lean ====
module

public import proofs.«01_k».proof.Proof.CombineTrip
public import Idealize.ShloMosaic.Lib.Tactic
public import Idealize.ShloMosaic.Lib.Ring

/-! The word grid the first point of a run of the combine leaves: at word row `n`, token `tok`, half `p`, lane `b` the sum of
    the weights of the slots of `tok` that name expert `(2 n + p, b)`. -/

@[expose] public section

set_option maxRecDepth 16384

noncomputable section

namespace Cert.Combine

open Cert.Kernel7Ideal Cert.Kernel7Ideal.Gen Idealize.ShloMosaic Idealize.ShloMosaic.TcCoe Idealize.SL.Sem Idealize.ShloMosaic.Tactic

/-- Over the slots of token `tok`, the weights of those that name expert `(e1, e2)`. -/
def hot (x4 x5 : S512x128.Idx → BitVec 32) (w : S512x128.Idx → EReal) (tok : Fin 512) (e1 e2 : ℕ) : EReal :=
  ∑ s : Fin 128, if (x4 (ix2 tok s)).toNat = e1 ∧ (x5 (ix2 tok s)).toNat = e2 then w (ix2 tok s) else 0

/-- The first digit's key at word row `n`, half `p`: `2 n + p`. -/
theorem key_val (n : Fin 64) (p : Fin 2) (s : Fin 128) (h : 64 * p.val + n.val < 128) :
    (k0_pay116 (ix2 ⟨64 * p.val + n.val, h⟩ s))
      = BitVec.ofNat 32 (2 * n.val + p.val) := by
  pointwise [k0_pay116]
  revert h n p
  decide +kernel

theorem iota_val (b s : Fin 128) : (iota .tc S128x128 32 [0] iota_S128x128_d0_w32 (ix2 b s)) = BitVec.ofNat 32 b.val := by
  pointwise

theorem toNat_eq (x : BitVec 32) (n : ℕ) (hn : n < 128) : (BitVec.ofNat 32 n = x) ↔ x.toNat = n := by
  constructor
  · rintro rfl
    rw [BitVec.toNat_ofNat]; omega
  · rintro rfl
    exact BitVec.eq_of_toNat_eq (by rw [BitVec.toNat_ofNat]; omega)

theorem digit (a b c d : BitVec 32) (w : EReal) :
    Scalar.select (Scalar.cmpi .eq a b) w 0 * ((((Scalar.cmpi .eq c d).setWidth 32).toInt : ℝ) : EReal)
      = if a = b ∧ c = d then w else 0 := by
  have e : ∀ x y : BitVec 32, Scalar.cmpi .eq x y = if x = y then 1#1 else 0#1 := fun x y => by
    by_cases h : x = y
    · subst h; simp [Scalar.cmpi, IntOp.cmpi]
    · have hb : (x == y) = false := by simpa using h
      rw [if_neg h]; show BitVec.ofBool (x == y) = 0#1; rw [hb]; rfl
  have h1 : ((((1#1 : BitVec 1).setWidth 32).toInt : ℝ) : EReal) = 1 := by
    rw [show ((1#1 : BitVec 1).setWidth 32).toInt = 1 by decide]; norm_num
  have h0 : ((((0#1 : BitVec 1).setWidth 32).toInt : ℝ) : EReal) = 0 := by
    rw [show ((0#1 : BitVec 1).setWidth 32).toInt = 0 by decide]; norm_num
  rw [e, e]
  by_cases ha : a = b <;> by_cases hc : c = d <;> simp only [ha, hc, if_true, if_false, h1, h0, mul_one, mul_zero, and_self, and_true, and_false, false_and, true_and] <;> rfl

theorem cell_eq (x4 x5 : S512x128.Idx → BitVec 32) (w : S512x128.Idx → EReal) (n : Fin 64) (p : Fin 2) (tok : Fin 512) (b : Fin 128) (h : 64 * p.val + n.val < 128) :
    cell k0_pay116 (iota .tc S128x128 32 [0] iota_S128x128_d0_w32)
      x4 x5 w ⟨64 * p.val + n.val, h⟩ tok b = hot x4 x5 w tok (2 * n.val + p.val) b.val := by
  unfold cell hot
  refine Finset.sum_congr rfl fun s _ => ?_
  rw [digit, key_val, iota_val]
  have hn := n.isLt
  have hp := p.isLt
  simp only [toNat_eq _ (2 * n.val + p.val) (by omega), toNat_eq _ b.val b.isLt]

/-- A list of stores whose every store holding `y` leaves `v` there, one of them holding `y`: whatever older stores follow in
    the list, the contents at `y` are `v`. -/
theorem canon_append {S : Shape} {e : EltTy} (L₂ : List (View.Piece (Elt Ideal) S e)) (y : S.Idx) (v : Elt Ideal e) :
    ∀ L : List (View.Piece (Elt Ideal) S e), (∃ p ∈ L, y ∈ p.1.set) → View.AllAt L y v → View.canon (L ++ L₂) y = v
  | [], hc, _ => by obtain ⟨p, hp, _⟩ := hc; exact absurd hp List.not_mem_nil
  | p :: L, hc, h => by
    rw [List.cons_append]
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine canon_append L₂ y v L ?_ fun q hq => h q (List.mem_cons_of_mem _ hq)
      obtain ⟨q, hq, hyq⟩ := hc
      rcases List.mem_cons.mp hq with rfl | hq'
      · exact absurd hyq hm
      · exact ⟨q, hq', hyq⟩

section Loop

variable (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (v246 : IVec S128x128 32) (X_arg6 : BufTy.Contents (Elt Ideal) arg6.view.ty) (X_arg7 : BufTy.Contents (Elt Ideal) arg7.view.ty) (X_arg12 : BufTy.Contents (Elt Ideal) arg12.view.ty)

/-- The stores of the trips before `k` leave the one-hot products, wherever they hold a cell. -/
theorem pb_allAt (n : Fin 64) (tok : Fin 512) (p : Fin 2) (b : Fin 128) : ∀ k : ℕ, k ≤ k0_t1_loop.trips →
    View.AllAt (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 k) (ix4 n tok p b)
      (cell k0_pay116 v246 (arg6.view.read _ X_arg6) (arg7.view.read _ X_arg7) (arg12.view.read _ X_arg12) ⟨64 * p.val + n.val, by omega⟩ tok b)
  | 0, _ => View.allAt_nil _ _
  | k + 1, hk => by
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 ⟨k, hk⟩]
    intro pc hpc
    rcases List.mem_append.mp hpc with h | h
    · exact trip 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 ⟨k, hk⟩ n tok p b pc h
    · exact pb_allAt n tok p b k (Nat.le_of_succ_le hk) pc h

/-- The loop's stores cover the word grid. -/
theorem pb_cover (y : S64x512x2x128.Idx) :
    ∃ pc ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 16, y ∈ pc.1.set :=
  View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h1 v246 X_arg6 X_arg7 X_arg12 16) S64x8x2x128.size (by sl_kernel_rfl) y

end Loop

end Cert.Combine

end
-- ==== Proof.CombineIdealRuns.lean ====
module

public import proofs.«01_k».proof.Proof.Gen.Kernel7Ideal.Frame
public import proofs.«01_k».proof.Proof.Gen.Kernel7Ideal.Loops

/-! The combine's body, run once for each of the three kinds of grid point. Four points make a run over the expert chunks: the
    first fills the word grid, clears the accumulator and takes its chunk in; a middle one takes its chunk in; the last one
    also writes the output block. -/

@[expose] public section

set_option maxRecDepth 16384

noncomputable section

namespace Cert.Kernel7Ideal.Carry

open Cert.Kernel7Ideal Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The counted loop's stores cover the word grid, whatever it held before. -/
theorem fill_cover (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (h : k0_cond1 i = 1#1) (v : IVec S128x128 32) (X6 : BufTy.Contents (Elt F) arg6.view.ty) (X7 : BufTy.Contents (Elt F) arg7.view.ty) (X12 : BufTy.Contents (Elt F) arg12.view.ty) (y : S64x512x2x128.Idx) :
    ∃ pc ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h v X6 X7 X12 k0_t1_loop.trips, y ∈ pc.1.set :=
  View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h v X6 X7 X12 k0_t1_loop.trips) S64x8x2x128.size (by sl_kernel_rfl) y

/-- So after the loop the word grid's contents may be stated over any contents. -/
theorem fill_any (𝒱 : Variants) (c : Dev nD) (bd : Option 𝒱.V) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (h : k0_cond1 i = 1#1) (v : IVec S128x128 32) (X6 : BufTy.Contents (Elt F) arg6.view.ty) (X7 : BufTy.Contents (Elt F) arg7.view.ty) (X12 : BufTy.Contents (Elt F) arg12.view.ty) (f : arg13.view.ty.Contents (Elt F)) :
    arg13.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h v X6 X7 X12 k0_t1_loop.trips) = arg13.view.writes (Elt F) arg13.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h v X6 X7 X12 k0_t1_loop.trips) :=
  (harg13.eq_unread (View.read_writes_eq_canon _ _ _ (fill_cover 𝒱 c bd i arg2 harg2 arg3 harg3 arg4 harg4 arg5 harg5 arg6 harg6 arg7 harg7 arg8 harg8 arg9 harg9 arg10 harg10 arg11 harg11 arg12 harg12 arg13 harg13 arg14 harg14 h v X6 X7 X12))).trans
    (harg13.eq_unread (View.read_writes_eq_canon _ _ _ (fill_cover 𝒱 c bd i arg2 harg2 arg3 harg3 arg4 harg4 arg5 harg5 arg6 harg6 arg7 harg7 arg8 harg8 arg9 harg9 arg10 harg10 arg11 harg11 arg12 harg12 arg13 harg13 arg14 harg14 h v X6 X7 X12))).symm

set_option maxHeartbeats 1000000 in
/-- The body at a first point: the pieces it leaves in the word grid and in the accumulator, whatever the scratch buffers
    held, and its triple. The output block is handed back as it was. -/
def runA (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) :
    Σ' (LG : List (View.Piece (Elt F) S64x512x2x128 .bf16)), { LA : List (View.Piece (Elt F) S512x1024 .f32) //
      ∀ (x9 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ f, arg13.view.loc (c : Thread nD τ) ↦[arg13.view.set]{fullShare} arg13.view.writes (Elt F) f LG) ∗ (∃ f, arg14.view.loc (c : Thread nD τ) ↦[arg14.view.set]{fullShare} arg14.view.writes (Elt F) f LA)) -∗ K ⟨⟩))
          ⊢ wp frame (wpE (defs₀ (F := F)) Variants.none c none) E (cc0_pk_combine i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun x9 E K => ?run⟩
  case run =>
    simp only [cc0_pk_combine_eq_skeleton]; unfold cc0_pk_combine_skel
    simp only [k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, HW⟩, ⟨%d11, %f11, -, HG⟩, ⟨%d12, %f12, -, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    set_option sl_exec.maxSteps 11 in sl_exec (disch := first | sl_exact hc0 | sl_exact hc1)
    unfold runA.sl.v6_raw
    rw [fill_any]
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HW]
    · iexists _, _; isplitr; swap; · iexact HW
      ipureintro; rfl
    isplitl [HG]; · iexists _; iexact HG
    iexists _; iexact HA

set_option maxHeartbeats 1000000 in
/-- The body at a middle point, on the word grid `xg` and the accumulator `xa` the point before left: the pieces it leaves in
    the accumulator, and its triple. The word grid and the output block are handed back as they were. -/
def runB (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x2x128 .bf16) (xa : Vec F S512x1024 .f32) :
    { LA : List (View.Piece (Elt F) S512x1024 .f32) //
      ∀ (x9 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xg ∗ owns (c : Thread nD τ) arg14 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xg ∗ (∃ f, arg14.view.loc (c : Thread nD τ) ↦[arg14.view.set]{fullShare} arg14.view.writes (Elt F) f LA)) -∗ K ⟨⟩))
          ⊢ wp frame (wpE (defs₀ (F := F)) Variants.none c none) E (cc0_pk_combine i arg2 harg2 arg3 harg3 arg4 harg4 arg5 harg5 arg6 harg6 arg7 harg7 arg8 harg8 arg9 harg9 arg10 harg10 arg11 harg11 arg12 harg12 arg13 harg13 arg14 harg14) K } := by
  refine ⟨?_, fun x9 E K => ?run⟩
  case run =>
    simp only [cc0_pk_combine_eq_skeleton]; unfold cc0_pk_combine_skel
    simp only [k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, HW⟩, ⟨%f11, %hf11, HG⟩, ⟨%f12, %hf12, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HW]
    · iexists _, _; isplitr; swap; · iexact HW
      ipureintro; rfl
    isplitl [HG]
    · iexists _; isplitr; · ipureintro; exact harg13.read_unread _
      iexact HG
    iexists _; iexact HA

set_option maxHeartbeats 1000000 in
/-- The body at a last point, on the word grid `xg` and the accumulator `xa` the point before left: the pieces it leaves in the
    output block, whatever that held, and in the accumulator, and its triple. The word grid is handed back as it was. -/
def runC (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x2x128 .bf16) (xa : Vec F S512x1024 .f32) :
    Σ' (LO : List (View.Piece (Elt F) S512x1024 .f32)), { LA : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xg ∗ owns (c : Thread nD τ) arg14 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f LO) ∗ (∃ d, owns (c : Thread nD τ) arg12 fullShare d) ∗ owns (c : Thread nD τ) arg13 fullShare xg ∗ (∃ f, arg14.view.loc (c : Thread nD τ) ↦[arg14.view.set]{fullShare} arg14.view.writes (Elt F) f LA)) -∗ K ⟨⟩))
          ⊢ wp frame (wpE (defs₀ (F := F)) Variants.none c none) E (cc0_pk_combine i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_pk_combine_eq_skeleton]; unfold cc0_pk_combine_skel
    simp only [k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, HW⟩, ⟨%f11, %hf11, HG⟩, ⟨%f12, %hf12, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HW]
    · iexists _, _; isplitr; swap; · iexact HW
      ipureintro; rfl
    isplitl [HG]
    · iexists _; isplitr; · ipureintro; exact harg13.read_unread _
      iexact HG
    iexists _; iexact HA

end Cert.Kernel7Ideal.Carry

end
-- ==== Proof.CombineIdealFrame.lean ====
module

public import proofs.«01_k».proof.Proof.CombineIdealRuns
public import Idealize.ShloMosaic.Lib.Claim

/-! What the combine's buffers hold after each grid point, and from it the frame: every run of the program ends, with its
    arguments as they were. -/

@[expose] public section

set_option maxRecDepth 16384

noncomputable section

namespace Cert.Kernel7Ideal.Carry

open Cert.Kernel7Ideal Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The word grid a first point leaves, -/
def gridA (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) : Vec F S64x512x2x128 .bf16 :=
  View.canon (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1

/-- … whose pieces cover it. -/
theorem gridA_cover (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) (y : S64x512x2x128.Idx) : ∃ pc ∈ (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1 S64x8x2x128.size (by sl_kernel_rfl) y

/-- The accumulator a first point leaves, -/
def accA (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) : Vec F S512x1024 .f32 :=
  View.canon (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1

/-- … whose pieces cover it. -/
theorem accA_cover (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) (y : S512x1024.Idx) : ∃ pc ∈ (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S512x1024.size (by sl_kernel_rfl) y

/-- The accumulator a middle point leaves, -/
def accB (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x2x128 .bf16) (xa : Vec F S512x1024 .f32) : Vec F S512x1024 .f32 :=
  View.canon (runB c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xg xa).1

/-- … whose pieces cover it. -/
theorem accB_cover (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : ¬k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x2x128 .bf16) (xa : Vec F S512x1024 .f32) (y : S512x1024.Idx) : ∃ pc ∈ (runB c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xg xa).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xg xa).1 S512x1024.size (by sl_kernel_rfl) y

/-- The accumulator a last point leaves, -/
def accC (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x2x128 .bf16) (xa : Vec F S512x1024 .f32) : Vec F S512x1024 .f32 :=
  View.canon (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xg xa).2.1

/-- … whose pieces cover it. -/
theorem accC_cover (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x2x128 .bf16) (xa : Vec F S512x1024 .f32) (y : S512x1024.Idx) : ∃ pc ∈ (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xg xa).2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xg xa).2.1 S512x1024.size (by sl_kernel_rfl) y

/-- The output block a last point leaves, -/
def outC (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x2x128 .bf16) (xa : Vec F S512x1024 .f32) : Vec F S512x1024 .f32 :=
  View.canon (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xg xa).1

/-- … whose pieces cover it. -/
theorem outC_cover (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : k0_cond2 i = 1#1) (x0 : Vec F S512x1024 .f32) (x1 x2 x3 : Vec F S1x1x1024 .f32) (x4 x5 : Vec F S512x128 .i32) (x6 x7 : Vec F S512x128 .f32) (x8 : Vec F S4096x1024 .bf16) (xg : Vec F S64x512x2x128 .bf16) (xa : Vec F S512x1024 .f32) (y : S512x1024.Idx) : ∃ pc ∈ (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xg xa).1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xg xa).1 S512x1024.size (by sl_kernel_rfl) y

/-- Which of the four points of a run a grid point is, read off the body's first condition, -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- and off its second. -/
theorem last_iff : ∀ t : Fin cfg0.N, k0_cond2 (grid0.coords t) = 1#1 ↔ t.val % 4 = 3 :=
  (by decide +kernel : ∀ t : Fin grid0.N, k0_cond2 (grid0.coords t) = 1#1 ↔ t.val % 4 = 3)

/-- The output window is idle but at a last point, -/
theorem idle_out : ∀ t : Fin cfg0.N, cfg0.idle 9 (grid0.coords t) = !decide (t.val % 4 = 3) :=
  (by decide +kernel : ∀ t : Fin grid0.N, cfg0.idle 9 (grid0.coords t) = !decide (t.val % 4 = 3))

/-- and where it is idle its block is not written back. -/
theorem kept_out (t : Fin cfg0.N) (h : ¬t.val % 4 = 3) : (cfg0.win 9).flush t = false :=
  Bool.eq_false_iff.mpr fun hf => h ((flush0_9 t).mp hf)

/-- The staging buffers of a point, and that each is whole. -/
abbrev b0 (t : Fin cfg0.N) : Memref sig .tc .vmem S512x1024 .f32 := win0_0.stage (cfg0.slots t 0)
abbrev b1 (t : Fin cfg0.N) : Memref sig .tc .vmem S1x1x1024 .f32 := win0_1.stage (cfg0.slots t 1)
abbrev b2 (t : Fin cfg0.N) : Memref sig .tc .vmem S1x1x1024 .f32 := win0_2.stage (cfg0.slots t 2)
abbrev b3 (t : Fin cfg0.N) : Memref sig .tc .vmem S1x1x1024 .f32 := win0_3.stage (cfg0.slots t 3)
abbrev b4 (t : Fin cfg0.N) : Memref sig .tc .vmem S512x128 .i32 := win0_4.stage (cfg0.slots t 4)
abbrev b5 (t : Fin cfg0.N) : Memref sig .tc .vmem S512x128 .i32 := win0_5.stage (cfg0.slots t 5)
abbrev b6 (t : Fin cfg0.N) : Memref sig .tc .vmem S512x128 .f32 := win0_6.stage (cfg0.slots t 6)
abbrev b7 (t : Fin cfg0.N) : Memref sig .tc .vmem S512x128 .f32 := win0_7.stage (cfg0.slots t 7)
abbrev b8 (t : Fin cfg0.N) : Memref sig .tc .vmem S4096x1024 .bf16 := win0_8.stage (cfg0.slots t 8)
abbrev b9 (t : Fin cfg0.N) : Memref sig .tc .vmem S512x1024 .f32 := win0_9.stage (cfg0.slots t 9)
abbrev w0 (t : Fin cfg0.N) : (b0 t).IsWhole := hstage0_0 ((cfg0.slots t 0).cast nbuf0_0)
abbrev w1 (t : Fin cfg0.N) : (b1 t).IsWhole := hstage0_1 ((cfg0.slots t 1).cast nbuf0_1)
abbrev w2 (t : Fin cfg0.N) : (b2 t).IsWhole := hstage0_2 ((cfg0.slots t 2).cast nbuf0_2)
abbrev w3 (t : Fin cfg0.N) : (b3 t).IsWhole := hstage0_3 ((cfg0.slots t 3).cast nbuf0_3)
abbrev w4 (t : Fin cfg0.N) : (b4 t).IsWhole := hstage0_4 ((cfg0.slots t 4).cast nbuf0_4)
abbrev w5 (t : Fin cfg0.N) : (b5 t).IsWhole := hstage0_5 ((cfg0.slots t 5).cast nbuf0_5)
abbrev w6 (t : Fin cfg0.N) : (b6 t).IsWhole := hstage0_6 ((cfg0.slots t 6).cast nbuf0_6)
abbrev w7 (t : Fin cfg0.N) : (b7 t).IsWhole := hstage0_7 ((cfg0.slots t 7).cast nbuf0_7)
abbrev w8 (t : Fin cfg0.N) : (b8 t).IsWhole := hstage0_8 ((cfg0.slots t 8).cast nbuf0_8)
abbrev w9 (t : Fin cfg0.N) : (b9 t).IsWhole := hstage0_9 ((cfg0.slots t 9).cast nbuf0_9)

/-- The three scratch buffers. -/
abbrev scW : Memref sig .tc .vmem S512x128 .f32 := Memref.whole cc0_scratch0
abbrev scG : Memref sig .tc .vmem S64x512x2x128 .bf16 := Memref.whole cc0_scratch1
abbrev scA : Memref sig .tc .vmem S512x1024 .f32 := Memref.whole cc0_scratch2

variable (m : (ℓ : Loc nD τ sig) → Buf (Elt F) ℓ) (ρ : Dev nD → PrngReg)

/-- Contents nothing reads. -/
def blank {s : Shape} {e : EltTy} : Vec F s e := View.canon ([] : List (View.Piece (Elt F) s e))

/-- What each kind of point leaves, at a grid point's own blocks. -/
def gridFirst (c : Dev nD) (t : Fin cfg0.N) (h0 : t.val % 4 = 0) : Vec F S64x512x2x128 .bf16 := gridA c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) scW (Memref.isWhole_whole _) scG (Memref.isWhole_whole _) scA (Memref.isWhole_whole _) ((first_iff t).mpr h0) (fun h => by have := (last_iff t).mp h; omega) (iblk m c 0 t) (iblk m c 1 t) (iblk m c 2 t) (iblk m c 3 t) (iblk m c 4 t) (iblk m c 5 t) (iblk m c 6 t) (iblk m c 7 t) (iblk m c 8 t)
def accFirst (c : Dev nD) (t : Fin cfg0.N) (h0 : t.val % 4 = 0) : Vec F S512x1024 .f32 := accA c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) scW (Memref.isWhole_whole _) scG (Memref.isWhole_whole _) scA (Memref.isWhole_whole _) ((first_iff t).mpr h0) (fun h => by have := (last_iff t).mp h; omega) (iblk m c 0 t) (iblk m c 1 t) (iblk m c 2 t) (iblk m c 3 t) (iblk m c 4 t) (iblk m c 5 t) (iblk m c 6 t) (iblk m c 7 t) (iblk m c 8 t)
def accMid (c : Dev nD) (t : Fin cfg0.N) (h0 : ¬t.val % 4 = 0) (h1 : ¬t.val % 4 = 3) (xg : Vec F S64x512x2x128 .bf16) (xa : Vec F S512x1024 .f32) : Vec F S512x1024 .f32 := accB c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) scW (Memref.isWhole_whole _) scG (Memref.isWhole_whole _) scA (Memref.isWhole_whole _) (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) (iblk m c 8 t) xg xa
def accLast (c : Dev nD) (t : Fin cfg0.N) (h1 : t.val % 4 = 3) (xg : Vec F S64x512x2x128 .bf16) (xa : Vec F S512x1024 .f32) : Vec F S512x1024 .f32 := accC c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) scW (Memref.isWhole_whole _) scG (Memref.isWhole_whole _) scA (Memref.isWhole_whole _) (fun h => by have := (first_iff t).mp h; omega) ((last_iff t).mpr h1) (iblk m c 0 t) (iblk m c 1 t) (iblk m c 2 t) (iblk m c 3 t) (iblk m c 4 t) (iblk m c 5 t) (iblk m c 6 t) (iblk m c 7 t) (iblk m c 8 t) xg xa
def outLast (c : Dev nD) (t : Fin cfg0.N) (h1 : t.val % 4 = 3) (xg : Vec F S64x512x2x128 .bf16) (xa : Vec F S512x1024 .f32) : Vec F S512x1024 .f32 := outC c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) scW (Memref.isWhole_whole _) scG (Memref.isWhole_whole _) scA (Memref.isWhole_whole _) (fun h => by have := (first_iff t).mp h; omega) ((last_iff t).mpr h1) (iblk m c 0 t) (iblk m c 1 t) (iblk m c 2 t) (iblk m c 3 t) (iblk m c 4 t) (iblk m c 5 t) (iblk m c 6 t) (iblk m c 7 t) (iblk m c 8 t) xg xa

/-- One point: the output block, the word grid and the accumulator after it, from the word grid and the accumulator before. -/
def step (c : Dev nD) (t : Fin cfg0.N) (xg : Vec F S64x512x2x128 .bf16) (xa : Vec F S512x1024 .f32) : Vec F S512x1024 .f32 × Vec F S64x512x2x128 .bf16 × Vec F S512x1024 .f32 :=
  if h0 : t.val % 4 = 0 then (blank, gridFirst m c t h0, accFirst m c t h0)
  else if h1 : t.val % 4 = 3 then (outLast m c t h1 xg xa, xg, accLast m c t h1 xg xa)
  else (blank, xg, accMid m c t h0 h1 xg xa)

/-- The output block, the word grid and the accumulator after point `n`. -/
def holds (c : Dev nD) : (n : ℕ) → n < cfg0.N → Vec F S512x1024 .f32 × Vec F S64x512x2x128 .bf16 × Vec F S512x1024 .f32
  | 0, h => step m c ⟨0, h⟩ blank blank
  | n + 1, h => step m c ⟨n + 1, h⟩ (holds c n (Nat.lt_of_succ_lt h)).2.1 (holds c n (Nat.lt_of_succ_lt h)).2.2

theorem holds_first (c : Dev nD) (t : Fin cfg0.N) (h0 : t.val % 4 = 0) :
    holds m c t.val t.isLt = (blank, gridFirst m c t h0, accFirst m c t h0) := by
  obtain ⟨n, hn⟩ := t
  cases n with
  | zero => exact (dif_pos h0 : step m c ⟨0, hn⟩ blank blank = _)
  | succ n => exact dif_pos h0

theorem holds_last (c : Dev nD) (t : Fin cfg0.N) (n : ℕ) (hn : n < cfg0.N) (e : t.val = n + 1) (h1 : t.val % 4 = 3) :
    holds m c t.val t.isLt = (outLast m c t h1 (holds m c n hn).2.1 (holds m c n hn).2.2, (holds m c n hn).2.1,
      accLast m c t h1 (holds m c n hn).2.1 (holds m c n hn).2.2) := by
  obtain ⟨k, hk⟩ := t
  dsimp only at e h1
  subst e
  exact (dif_neg (show ¬(n + 1) % 4 = 0 by omega)).trans (dif_pos h1)

theorem holds_mid (c : Dev nD) (t : Fin cfg0.N) (n : ℕ) (hn : n < cfg0.N) (e : t.val = n + 1) (h0 : ¬t.val % 4 = 0)
    (h1 : ¬t.val % 4 = 3) :
    holds m c t.val t.isLt = (blank, (holds m c n hn).2.1, accMid m c t h0 h1 (holds m c n hn).2.1 (holds m c n hn).2.2) := by
  obtain ⟨k, hk⟩ := t
  dsimp only at e h0 h1
  subst e
  exact (dif_neg h0).trans (dif_neg h1)

/-- What the region owns besides its windows before point `n`: the scratch buffers, the word grid and the accumulator at what
    the point before left in them, and the generator register. -/
def inv (c : Dev nD) : (n : ℕ) → n ≤ cfg0.N → sProp 𝕄
  | 0, _ => Pipeline.ΦA spec0 c
  | n + 1, h => iprop(iprop((∃ d, owns (c : Thread nD τ) scW fullShare d) ∗ owns (c : Thread nD τ) scG fullShare (holds m c n h).2.1 ∗ owns (c : Thread nD τ) scA fullShare (holds m c n h).2.2) ∗ (∃ r, prngReg c r))

theorem start_eq (c : Dev nD) : (Pipeline.ΦA spec0 c : sProp 𝕄) = iprop(iprop((∃ d, owns (c : Thread nD τ) scW fullShare d) ∗ (∃ d, owns (c : Thread nD τ) scG fullShare d) ∗ (∃ d, owns (c : Thread nD τ) scA fullShare d)) ∗ (∃ r, prngReg c r)) := by
  unfold Pipeline.ΦA; rw [scopedRest0_eq]; simp only [scW, scG, scA, owns_whole]; try rfl

/-- The contents forgotten. -/
theorem inv_any (c : Dev nD) (n : ℕ) (h : n ≤ cfg0.N) : inv m c n h ⊢ Pipeline.ΦA spec0 c := by
  cases n with
  | zero => exact Idealize.SL.BI.Entails.refl _
  | succ n =>
    rw [start_eq]
    unfold inv
    iintro ⟨⟨HW, HG, HA⟩, Hr⟩
    isplitl [HW HG HA]
    · isplitl [HW]; · iexact HW
      isplitl [HG]; · iexists _; iexact HG
      iexists _; iexact HA
    iexact Hr

/-- The proof data of the region: its arrays as it finds them, each input's buffer at its block, the output's at what the
    point leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (holds m c t.val t.isLt).1
  Φ t := inv m c t.val (Nat.le_of_lt_succ t.isLt)
  q _ := fullShare
  owed _ := 0

theorem inv_before (c : Dev nD) (t : Fin cfg0.N) (n : ℕ) (hn : n < cfg0.N) (e : t.val = n + 1) :
    (dats m 0 c).Φ t.castSucc = iprop(iprop((∃ d, owns (c : Thread nD τ) scW fullShare d) ∗ owns (c : Thread nD τ) scG fullShare (holds m c n hn).2.1 ∗ owns (c : Thread nD τ) scA fullShare (holds m c n hn).2.2) ∗ (∃ r, prngReg c r)) := by
  obtain ⟨k, hk⟩ := t
  dsimp only at e
  subst e
  rfl

theorem arr_eq (c : Dev nD) (w : Fin cfg0.W) : (dats m 0 c).A w = V m c (Pipeline.arrRef spec0 w) := by
  dsimp only [dats]

/-- An input's buffer holds its block before the body and after it. -/
theorem pre0 (c : Dev nD) (t : Fin cfg0.N) (d) : (dats m 0 c).before 0 t d = iblk m c 0 t :=
  before0_0_of m (dats m 0 c) (arr_eq m c 0) (fun _ => by dsimp only [dats]) t d
theorem post0 (c : Dev nD) (t : Fin cfg0.N) : (dats m 0 c).leavesExact 0 t = owns (c : Thread nD τ) (b0 t) fullShare (iblk m c 0 t) := by
  unfold Dat.leavesExact
  rw [show cfg0.idle 0 (grid0.coords t) = false from rfl]
  dsimp only [dats]
theorem pre1 (c : Dev nD) (t : Fin cfg0.N) (d) : (dats m 0 c).before 1 t d = iblk m c 1 t :=
  before0_1_of m (dats m 0 c) (arr_eq m c 1) (fun _ => by dsimp only [dats]) t d
theorem post1 (c : Dev nD) (t : Fin cfg0.N) : (dats m 0 c).leavesExact 1 t = owns (c : Thread nD τ) (b1 t) fullShare (iblk m c 1 t) := by
  unfold Dat.leavesExact
  rw [show cfg0.idle 1 (grid0.coords t) = false from rfl]
  dsimp only [dats]
theorem pre2 (c : Dev nD) (t : Fin cfg0.N) (d) : (dats m 0 c).before 2 t d = iblk m c 2 t :=
  before0_2_of m (dats m 0 c) (arr_eq m c 2) (fun _ => by dsimp only [dats]) t d
theorem post2 (c : Dev nD) (t : Fin cfg0.N) : (dats m 0 c).leavesExact 2 t = owns (c : Thread nD τ) (b2 t) fullShare (iblk m c 2 t) := by
  unfold Dat.leavesExact
  rw [show cfg0.idle 2 (grid0.coords t) = false from rfl]
  dsimp only [dats]
theorem pre3 (c : Dev nD) (t : Fin cfg0.N) (d) : (dats m 0 c).before 3 t d = iblk m c 3 t :=
  before0_3_of m (dats m 0 c) (arr_eq m c 3) (fun _ => by dsimp only [dats]) t d
theorem post3 (c : Dev nD) (t : Fin cfg0.N) : (dats m 0 c).leavesExact 3 t = owns (c : Thread nD τ) (b3 t) fullShare (iblk m c 3 t) := by
  unfold Dat.leavesExact
  rw [show cfg0.idle 3 (grid0.coords t) = false from rfl]
  dsimp only [dats]
theorem pre4 (c : Dev nD) (t : Fin cfg0.N) (d) : (dats m 0 c).before 4 t d = iblk m c 4 t :=
  before0_4_of m (dats m 0 c) (arr_eq m c 4) (fun _ => by dsimp only [dats]) t d
theorem post4 (c : Dev nD) (t : Fin cfg0.N) : (dats m 0 c).leavesExact 4 t = owns (c : Thread nD τ) (b4 t) fullShare (iblk m c 4 t) := by
  unfold Dat.leavesExact
  rw [show cfg0.idle 4 (grid0.coords t) = false from rfl]
  dsimp only [dats]
theorem pre5 (c : Dev nD) (t : Fin cfg0.N) (d) : (dats m 0 c).before 5 t d = iblk m c 5 t :=
  before0_5_of m (dats m 0 c) (arr_eq m c 5) (fun _ => by dsimp only [dats]) t d
theorem post5 (c : Dev nD) (t : Fin cfg0.N) : (dats m 0 c).leavesExact 5 t = owns (c : Thread nD τ) (b5 t) fullShare (iblk m c 5 t) := by
  unfold Dat.leavesExact
  rw [show cfg0.idle 5 (grid0.coords t) = false from rfl]
  dsimp only [dats]
theorem pre6 (c : Dev nD) (t : Fin cfg0.N) (d) : (dats m 0 c).before 6 t d = iblk m c 6 t :=
  before0_6_of m (dats m 0 c) (arr_eq m c 6) (fun _ => by dsimp only [dats]) t d
theorem post6 (c : Dev nD) (t : Fin cfg0.N) : (dats m 0 c).leavesExact 6 t = owns (c : Thread nD τ) (b6 t) fullShare (iblk m c 6 t) := by
  unfold Dat.leavesExact
  rw [show cfg0.idle 6 (grid0.coords t) = false from rfl]
  dsimp only [dats]
theorem pre7 (c : Dev nD) (t : Fin cfg0.N) (d) : (dats m 0 c).before 7 t d = iblk m c 7 t :=
  before0_7_of m (dats m 0 c) (arr_eq m c 7) (fun _ => by dsimp only [dats]) t d
theorem post7 (c : Dev nD) (t : Fin cfg0.N) : (dats m 0 c).leavesExact 7 t = owns (c : Thread nD τ) (b7 t) fullShare (iblk m c 7 t) := by
  unfold Dat.leavesExact
  rw [show cfg0.idle 7 (grid0.coords t) = false from rfl]
  dsimp only [dats]
theorem pre8 (c : Dev nD) (t : Fin cfg0.N) (d) : (dats m 0 c).before 8 t d = iblk m c 8 t :=
  before0_8_of m (dats m 0 c) (arr_eq m c 8) (fun _ => by dsimp only [dats]) t d
theorem post8 (c : Dev nD) (t : Fin cfg0.N) : (dats m 0 c).leavesExact 8 t = owns (c : Thread nD τ) (b8 t) fullShare (iblk m c 8 t) := by
  unfold Dat.leavesExact
  rw [show cfg0.idle 8 (grid0.coords t) = false from rfl]
  dsimp only [dats]

theorem post9 (c : Dev nD) (t : Fin cfg0.N) (h1 : t.val % 4 = 3) :
    (dats m 0 c).leavesExact 9 t = owns (c : Thread nD τ) (b9 t) fullShare (holds m c t.val t.isLt).1 := by
  unfold Dat.leavesExact
  rw [show cfg0.idle 9 (grid0.coords t) = false by rw [idle_out, decide_eq_true h1]; rfl]
  dsimp only [dats]

/-- What the body is called with at a point, and what it returns. -/
def callPre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d))
    ∗ (∃ d, owns (c : Thread nD τ) (b9 t) fullShare ((dats m 0 c).before 9 t d)))

def callPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at a first point. -/
theorem body_first (c : Dev nD) (t : Fin cfg0.N) (h0 : t.val % 4 = 0) :
    callPre m c t ⊢ wp frame (wpE (defs₀ (F := F)) Variants.none c none) Set.univ (bodyAt0 t) (fun _ => callPost m c t) := by
  have h1 : ¬t.val % 4 = 3 := by omega
  unfold callPre callPost bodyAt0
  simp only [pre0, pre1, pre2, pre3, pre4, pre5, pre6, pre7, pre8, post0, post1, post2, post3, post4, post5, post6, post7, post8]
  rw [show (dats m 0 c).owesAt () t.succ = (dats m 0 c).owesAt () t.castSucc from rfl]
  rw [show (dats m 0 c).Φ t.succ = iprop(iprop((∃ d, owns (c : Thread nD τ) scW fullShare d) ∗ owns (c : Thread nD τ) scG fullShare (holds m c t.val t.isLt).2.1 ∗ owns (c : Thread nD τ) scA fullShare (holds m c t.val t.isLt).2.2) ∗ (∃ r, prngReg c r)) from rfl]
  rw [Dat.leavesExact_idle (dats m 0 c) 9 t (by rw [idle_out, decide_eq_false h1]; rfl) (kept_out t h1)]
  rw [holds_first m c t h0]
  unfold gridFirst accFirst gridA accA
  dsimp only
  have hany : (dats m 0 c).Φ t.castSucc ⊢ iprop(iprop((∃ d, owns (c : Thread nD τ) scW fullShare d) ∗ (∃ d, owns (c : Thread nD τ) scG fullShare d) ∗ (∃ d, owns (c : Thread nD τ) scA fullShare d)) ∗ (∃ r, prngReg c r)) := by
    rw [← start_eq]; exact inv_any m c _ _
  refine (sep_mono hany .rfl).trans ?_
  iintro ⟨⟨⟨HW, HG, HA⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords t) _ _ _ _ _ _ _ _ _ _ _ _ _ _ _ _ _ _ _ _ _ _ _ _ _ _ ((first_iff t).mpr h0) (fun h => by have := (last_iff t).mp h; omega) (iblk m c 0 t) (iblk m c 1 t) (iblk m c 2 t) (iblk m c 3 t) (iblk m c 4 t) (iblk m c 5 t) (iblk m c 6 t) (iblk m c 7 t) (iblk m c 8 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HW]; · iexact HW
  isplitl [HG]; · iexact HG
  isplitl [HA]; · iexact HA
  iintro ⟨H0, H1, H2, H3, H4, H5, H6, H7, H8, H9, HW, ⟨%eg, HG⟩, ⟨%ea, HA⟩⟩
  isplitl [HW HG HA Hr]
  · isplitl [HW HG HA]
    · isplitl [HW]; · iexact HW
      isplitl [HG]
      · unfold owns; iexists _; isplitr
        swap; · iexact HG
        ipureintro; exact View.read_writes_eq_canon _ _ _ (gridA_cover c _ _ _ _ _ _ _ _ _ _ _ _ _ _ _ _ _ _ _ _ _ _ _ _ _ _ _ _ _ _ _ _ _ _ _ _ _ _)
      unfold owns; iexists _; isplitr
      swap; · iexact HA
      ipureintro; exact View.read_writes_eq_canon _ _ _ (accA_cover c _ _ _ _ _ _ _ _ _ _ _ _ _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4000000 in
/-- The body at a middle point. -/
theorem body_mid (c : Dev nD) (t : Fin cfg0.N) (h0 : ¬t.val % 4 = 0) (h1 : ¬t.val % 4 = 3) :
    callPre m c t ⊢ wp frame (wpE (defs₀ (F := F)) Variants.none c none) Set.univ (bodyAt0 t) (fun _ => callPost m c t) := by
  unfold callPre callPost bodyAt0
  simp only [pre0, pre1, pre2, pre3, pre4, pre5, pre6, pre7, pre8, post0, post1, post2, post3, post4, post5, post6, post7, post8]
  rw [show (dats m 0 c).owesAt () t.succ = (dats m 0 c).owesAt () t.castSucc from rfl]
  rw [show (dats m 0 c).Φ t.succ = iprop(iprop((∃ d, owns (c : Thread nD τ) scW fullShare d) ∗ owns (c : Thread nD τ) scG fullShare (holds m c t.val t.isLt).2.1 ∗ owns (c : Thread nD τ) scA fullShare (holds m c t.val t.isLt).2.2) ∗ (∃ r, prngReg c r)) from rfl]
  rw [Dat.leavesExact_idle (dats m 0 c) 9 t (by rw [idle_out, decide_eq_false h1]; rfl) (kept_out t h1)]
  obtain ⟨n, e⟩ : ∃ k, t.val = k + 1 := ⟨t.val - 1, by omega⟩
  have hn : n < cfg0.N := by have := t.isLt; omega
  rw [holds_mid m c t n hn e h0 h1, inv_before m c t n hn e]
  unfold accMid accB
  dsimp only
  iintro ⟨⟨⟨HW, HG, HA⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) _ _ _ _ _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) (iblk m c 8 t) _ _).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HW]; · iexact HW
  isplitl [HG]; · iexact HG
  isplitl [HA]; · iexact HA
  iintro ⟨H0, H1, H2, H3, H4, H5, H6, H7, H8, H9, HW, HG, ⟨%ea, HA⟩⟩
  isplitl [HW HG HA Hr]
  · isplitl [HW HG HA]
    · isplitl [HW]; · iexact HW
      isplitl [HG]; · iexact HG
      unfold owns; iexists _; isplitr
      swap; · iexact HA
      ipureintro; exact View.read_writes_eq_canon _ _ _ (accB_cover c _ _ _ _ _ _ _ _ _ _ _ _ _ _ _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4000000 in
/-- The body at a last point. -/
theorem body_last (c : Dev nD) (t : Fin cfg0.N) (h1 : t.val % 4 = 3) :
    callPre m c t ⊢ wp frame (wpE (defs₀ (F := F)) Variants.none c none) Set.univ (bodyAt0 t) (fun _ => callPost m c t) := by
  unfold callPre callPost bodyAt0
  simp only [pre0, pre1, pre2, pre3, pre4, pre5, pre6, pre7, pre8, post0, post1, post2, post3, post4, post5, post6, post7, post8]
  rw [show (dats m 0 c).owesAt () t.succ = (dats m 0 c).owesAt () t.castSucc from rfl]
  rw [show (dats m 0 c).Φ t.succ = iprop(iprop((∃ d, owns (c : Thread nD τ) scW fullShare d) ∗ owns (c : Thread nD τ) scG fullShare (holds m c t.val t.isLt).2.1 ∗ owns (c : Thread nD τ) scA fullShare (holds m c t.val t.isLt).2.2) ∗ (∃ r, prngReg c r)) from rfl]
  rw [post9 m c t h1]
  obtain ⟨n, e⟩ : ∃ k, t.val = k + 1 := ⟨t.val - 1, by omega⟩
  have hn : n < cfg0.N := by have := t.isLt; omega
  rw [holds_last m c t n hn e h1, inv_before m c t n hn e]
  unfold outLast accLast outC accC
  dsimp only
  iintro ⟨⟨⟨HW, HG, HA⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runC c (grid0.coords t) _ _ _ _ _ _ _ _ _ _ _ _ _ _ _ _ _ _ _ _ _ _ _ _ _ _ (fun h => by have := (first_iff t).mp h; omega) ((last_iff t).mpr h1) (iblk m c 0 t) (iblk m c 1 t) (iblk m c 2 t) (iblk m c 3 t) (iblk m c 4 t) (iblk m c 5 t) (iblk m c 6 t) (iblk m c 7 t) (iblk m c 8 t) _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HW]; · iexact HW
  isplitl [HG]; · iexact HG
  isplitl [HA]; · iexact HA
  iintro ⟨H0, H1, H2, H3, H4, H5, H6, H7, H8, ⟨%e9, H9⟩, HW, HG, ⟨%ea, HA⟩⟩
  isplitl [HW HG HA Hr]
  · isplitl [HW HG HA]
    · isplitl [HW]; · iexact HW
      isplitl [HG]; · iexact HG
      unfold owns; iexists _; isplitr
      swap; · iexact HA
      ipureintro; exact View.read_writes_eq_canon _ _ _ (accC_cover c _ _ _ _ _ _ _ _ _ _ _ _ _ _ _ _ _ _ _ _ _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_eq_canon _ _ _ (outC_cover c _ _ _ _ _ _ _ _ _ _ _ _ _ _ _ _ _ _ _ _ _ _ _ _ _ _ _ _ _ _ _ _ _ _ _ _ _ _ _ _)

/-- The body at every point. -/
theorem body_all (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (?_ : callPre m c t ⊢ wp frame (wpE (defs₀ (F := F)) Variants.none c none) Set.univ (bodyAt0 t) (fun _ => callPost m c t)) rfl .rfl fun _ => .rfl
  by_cases h0 : t.val % 4 = 0
  · exact body_first m c t h0
  by_cases h1 : t.val % 4 = 3
  · exact body_last m c t h1
  · exact body_mid m c t h0 h1

set_option backward.isDefEq.respectTransparency.types false in
/-- Every run of the program ends, with the region's arrays at what the proof data says and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_all m c).loose) (hshare := fun c => (dats m 0 c).share_full fun _ => rfl)
    (howed := fun _ _ => rfl) (V := V m) (hmain := hmain m Variants.none) (hA := arr_eq m)
    (hin := fun _ => Idealize.SL.BI.Entails.refl _) (hout := fun c => (inv_any m c cfg0.N (Nat.le_refl _) : inv m c cfg0.N (Nat.le_refl _) ⊢ Pipeline.ΦA spec0 c))

/-- The frame: every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (arr_eq m) ((θ_run defs _ _).mono (fun _ h => h.1) (run_all m ρ)))
    ((θ_run defs _ _).mono (fun _ h => h.2) (run_all m ρ))

end Cert.Kernel7Ideal.Carry

end
-- ==== Proof.CombineStep.lean ====
module

public import proofs.«01_k».proof.Proof.CombineGrid
public import proofs.«01_k».proof.Proof.CombineIdealFrame

/-! What one grid point of the combine leaves in the carried word grid, in the carried accumulator and in the output block,
    read at an index. -/

@[expose] public section

noncomputable section

namespace Cert.Combine

open Cert.Kernel7Ideal Cert.Kernel7Ideal.Carry Cert.Kernel7Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem off3_eq : ∀ (i : grid0.Coords) (q : Fin 16),
    k0_off3 i (BitVec.ofNat 32 q.val) = ![16 * (i 1).val + q.val, 0, 0, 0] := by
  decide +kernel

/-- The sixteen word rows of a chunk laid side by side, each split into its two halves. -/
def words (g : Fin 16 → Vec Ideal S1x512x2x128 .bf16) : FVec Ideal S512x4096 .bf16 :=
  k0_pay1 (k0_pay118 (g 0)) (k0_pay119 (g 0)) (k0_pay120 (g 1)) (k0_pay121 (g 1)) (k0_pay124 (k0_pay122 (g 2))) (k0_pay125 (k0_pay123 (g 2))) (k0_pay126 (g 3)) (k0_pay127 (g 3)) (k0_pay128 (g 4)) (k0_pay129 (g 4)) (k0_pay132 (k0_pay130 (g 5))) (k0_pay133 (k0_pay131 (g 5))) (k0_pay134 (g 6)) (k0_pay135 (g 6)) (k0_pay136 (g 7)) (k0_pay137 (g 7)) (k0_pay140 (k0_pay138 (g 8))) (k0_pay141 (k0_pay139 (g 8))) (k0_pay142 (g 9)) (k0_pay143 (g 9)) (k0_pay144 (g 10)) (k0_pay145 (g 10)) (k0_pay148 (k0_pay146 (g 11))) (k0_pay149 (k0_pay147 (g 11))) (k0_pay150 (g 12)) (k0_pay151 (g 12)) (k0_pay152 (g 13)) (k0_pay153 (g 13)) (k0_pay154 (g 14)) (k0_pay155 (g 14)) (g 15)

/-- Half `p` of a word row. -/
def half (p : Fin 2) (x : Vec Ideal S1x512x2x128 .bf16) : FVec Ideal S512x128 .bf16 :=
  shapeCast S512x128 (shapeCast S1x512x128
    (rowsOfParity p S1x512x1x128 x bitcasts_S1x512x2x128_w16_S1x512x1x128_w32) shapeCasts_S1x512x1x128_S1x512x128)
    shapeCasts_S1x512x128_S512x128

theorem half_at (p : Fin 2) (x : Vec Ideal S1x512x2x128 .bf16) (tok : Fin 512) (b : Fin 128) :
    half p x (ix2 tok b) = x (ix4 0 tok p b) := by
  fin_cases p <;> pointwise [half]

/-- The thirty-two halves in the order in which they are laid out. -/
def part (g : Fin 16 → Vec Ideal S1x512x2x128 .bf16) (j : Fin 32) : FVec Ideal S512x128 .bf16 :=
  half ⟨j.val % 2, by omega⟩ (g ⟨j.val / 2, by omega⟩)

theorem words_eq (g : Fin 16 → Vec Ideal S1x512x2x128 .bf16) :
    words g = concatenate S512x4096 1 (List.ofFn fun j : Fin 32 => ⟨S512x128, part g j⟩)
      concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x4096_d1 := by
  rfl

/-- The laid-out row at column `128 (2 k + p) + b`: half `p`, lane `b` of word row `k`. -/
theorem words_at (g : Fin 16 → Vec Ideal S1x512x2x128 .bf16) (tok : Fin 512) (k : Fin 16) (p : Fin 2) (b : Fin 128) :
    words g (ix2 tok ⟨128 * (2 * k.val + p.val) + b.val, by omega⟩) = g k (ix4 0 tok p b) := by
  refine ((congrFun (words_eq g) _).trans (concatenate_ofFn_apply (t := S512x4096) 1 (part g) _ rfl 128 rfl _
    ⟨2 * k.val + p.val, by omega⟩ ?_ (ix2 tok b) ?_ ?_)).trans ?_
  · show (128 * (2 * k.val + p.val) + b.val) / 128 = 2 * k.val + p.val
    omega
  · show b.val = (128 * (2 * k.val + p.val) + b.val) % 128
    omega
  · intro c hc; fin_cases c
    · rfl
    · exact absurd rfl hc
  · unfold part
    rw [half_at]
    have h1 : (⟨(2 * k.val + p.val) / 2, by omega⟩ : Fin 16) = k := Fin.ext (by show (2 * k.val + p.val) / 2 = k.val; omega)
    have h2 : (⟨(2 * k.val + p.val) % 2, by omega⟩ : Fin 2) = p := Fin.ext (by show (2 * k.val + p.val) % 2 = p.val; omega)
    show g ⟨(2 * k.val + p.val) / 2, _⟩ (ix4 0 tok ⟨(2 * k.val + p.val) % 2, _⟩ b) = _
    rw [h1, h2]

/-- The laid-out row at any column. -/
theorem words_col (g : Fin 16 → Vec Ideal S1x512x2x128 .bf16) (tok : Fin 512) (q : Fin 4096) :
    words g (ix2 tok q) = g ⟨q.val / 256, by omega⟩ (ix4 0 tok ⟨q.val / 128 % 2, by omega⟩ ⟨q.val % 128, by omega⟩) := by
  rw [← words_at g tok ⟨q.val / 256, by omega⟩ ⟨q.val / 128 % 2, by omega⟩ ⟨q.val % 128, by omega⟩]
  congr 2
  exact Fin.ext (by show q.val = 128 * (2 * (q.val / 256) + q.val / 128 % 2) + q.val % 128; omega)

/-- The accumulator and the product of a chunk's laid-out row with its value vectors. -/
def chunk (acc : Vec Ideal S512x1024 .f32) (g : Fin 16 → Vec Ideal S1x512x2x128 .bf16) (x8 : Vec Ideal S4096x1024 .bf16)
    (tok : Fin 512) (d : Fin 1024) : EReal :=
  acc (ix2 tok d) + ∑ q : Fin 4096, g ⟨q.val / 256, by omega⟩ (ix4 0 tok ⟨q.val / 128 % 2, by omega⟩ ⟨q.val % 128, by omega⟩) * x8 (ix2 q d)

/-- The accumulator after a chunk: what it held and the product of the laid-out row with the chunk of value vectors. -/
theorem pay2_at (acc : Vec Ideal S512x1024 .f32) (g : Fin 16 → Vec Ideal S1x512x2x128 .bf16) (x8 : Vec Ideal S4096x1024 .bf16)
    (tok : Fin 512) (d : Fin 1024) :
    k0_pay2 acc (words g) x8 (ix2 tok d) = chunk acc g x8 tok d := by
  unfold chunk
  simp only [← words_col]
  generalize words g = W
  pointwise [k0_pay2]

/-- Word row `q` of the grid's chunk `i 1`, as a value of the grid. -/
def rows (i : grid0.Coords) (G : Vec Ideal S64x512x2x128 .bf16) (q : Fin 16) : Vec Ideal S1x512x2x128 .bf16 :=
  fun y => G (ix4 ⟨16 * (i 1).val + q.val, by have := (i 1).isLt; have : (i 1).val < 4 := this; omega⟩ (y 1) (y 2) (y 3))

theorem ld_rows (i : grid0.Coords) (G : Vec Ideal S64x512x2x128 .bf16) (q : Fin 16) (off : Fin 4 → ℕ)
    (ho : off = ![16 * (i 1).val + q.val, 0, 0, 0]) (h) :
    View.ld G (Rect.unit off S1x512x2x128.size h) = rows i G q := by
  subst ho
  funext y
  refine View.ld_unit_apply_of _ _ _ _ _ _ ?_
  intro a
  fin_cases a
  · show 16 * (i 1).val + q.val = 16 * (i 1).val + q.val + (y 0).val
    have := (y 0).isLt
    have : (y 0).val < 1 := this
    omega
  all_goals exact (Nat.zero_add _).symm

theorem words_of (v0 v1 v2 v3 v4 v5 v6 v7 v8 v9 v10 v11 v12 v13 v14 v15 : Vec Ideal S1x512x2x128 .bf16) (g : Fin 16 → Vec Ideal S1x512x2x128 .bf16)
    (h0 : v0 = g 0) (h1 : v1 = g 1) (h2 : v2 = g 2) (h3 : v3 = g 3) (h4 : v4 = g 4) (h5 : v5 = g 5) (h6 : v6 = g 6) (h7 : v7 = g 7) (h8 : v8 = g 8) (h9 : v9 = g 9) (h10 : v10 = g 10) (h11 : v11 = g 11) (h12 : v12 = g 12) (h13 : v13 = g 13) (h14 : v14 = g 14) (h15 : v15 = g 15) :
    k0_pay1 (k0_pay118 v0) (k0_pay119 v0) (k0_pay120 v1) (k0_pay121 v1) (k0_pay124 (k0_pay122 v2)) (k0_pay125 (k0_pay123 v2)) (k0_pay126 v3) (k0_pay127 v3) (k0_pay128 v4) (k0_pay129 v4) (k0_pay132 (k0_pay130 v5)) (k0_pay133 (k0_pay131 v5)) (k0_pay134 v6) (k0_pay135 v6) (k0_pay136 v7) (k0_pay137 v7) (k0_pay140 (k0_pay138 v8)) (k0_pay141 (k0_pay139 v8)) (k0_pay142 v9) (k0_pay143 v9) (k0_pay144 v10) (k0_pay145 v10) (k0_pay148 (k0_pay146 v11)) (k0_pay149 (k0_pay147 v11)) (k0_pay150 v12) (k0_pay151 v12) (k0_pay152 v13) (k0_pay153 v13) (k0_pay154 v14) (k0_pay155 v14) v15 = words g := by
  subst_vars; rfl

/-- A middle point of a run: the accumulator it found and the product of its chunk. -/
theorem sout_B2 (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : ¬k0_cond2 i = 1#1) (x0 : Vec Ideal S512x1024 .f32) (x1 x2 x3 : Vec Ideal S1x1x1024 .f32) (x4 x5 : Vec Ideal S512x128 .i32) (x6 x7 : Vec Ideal S512x128 .f32) (x8 : Vec Ideal S4096x1024 .bf16) (xs1 : Vec Ideal S64x512x2x128 .bf16) (xs2 : Vec Ideal S512x1024 .f32) (tok : Fin 512) (d : Fin 1024) :
    accB (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs1 xs2 (ix2 tok d) = chunk xs2 (rows i xs1) x8 tok d := by
  unfold accB
  unfold runB
  dsimp only
  rw [View.canon_unit_zero hz2]
  sl_unfold_words
  simp only [View.readAt_eq_ld, harg10.read_unread, harg13.read_unread, harg14.read_unread, View.ld_unit_zero (S := S512x1024) hz2, View.ld_unit_zero (S := S4096x1024) hz2]
  refine (congrFun (congrArg (fun W => k0_pay2 xs2 W x8) (words_of _ _ _ _ _ _ _ _ _ _ _ _ _ _ _ _ (rows i xs1) (ld_rows i xs1 0 _ (off3_eq i 0) _) (ld_rows i xs1 1 _ (off3_eq i 1) _) (ld_rows i xs1 2 _ (off3_eq i 2) _) (ld_rows i xs1 3 _ (off3_eq i 3) _) (ld_rows i xs1 4 _ (off3_eq i 4) _) (ld_rows i xs1 5 _ (off3_eq i 5) _) (ld_rows i xs1 6 _ (off3_eq i 6) _) (ld_rows i xs1 7 _ (off3_eq i 7) _) (ld_rows i xs1 8 _ (off3_eq i 8) _) (ld_rows i xs1 9 _ (off3_eq i 9) _) (ld_rows i xs1 10 _ (off3_eq i 10) _) (ld_rows i xs1 11 _ (off3_eq i 11) _) (ld_rows i xs1 12 _ (off3_eq i 12) _) (ld_rows i xs1 13 _ (off3_eq i 13) _) (ld_rows i xs1 14 _ (off3_eq i 14) _) (ld_rows i xs1 15 _ (off3_eq i 15) _))) _).trans (pay2_at xs2 (rows i xs1) x8 tok d)

/-- The last point of a run: the accumulator it found and the product of its chunk. -/
theorem sout_C2 (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : k0_cond2 i = 1#1) (x0 : Vec Ideal S512x1024 .f32) (x1 x2 x3 : Vec Ideal S1x1x1024 .f32) (x4 x5 : Vec Ideal S512x128 .i32) (x6 x7 : Vec Ideal S512x128 .f32) (x8 : Vec Ideal S4096x1024 .bf16) (xs1 : Vec Ideal S64x512x2x128 .bf16) (xs2 : Vec Ideal S512x1024 .f32) (tok : Fin 512) (d : Fin 1024) :
    accC (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs1 xs2 (ix2 tok d) = chunk xs2 (rows i xs1) x8 tok d := by
  unfold accC
  unfold runC
  dsimp only
  sl_unfold_words
  rw [View.canon_unit_zero hz2]
  simp only [View.readAt_eq_ld, harg10.read_unread, harg13.read_unread, harg14.read_unread, View.ld_unit_zero (S := S512x1024) hz2, View.ld_unit_zero (S := S4096x1024) hz2]
  refine (congrFun (congrArg (fun W => k0_pay2 xs2 W x8) (words_of _ _ _ _ _ _ _ _ _ _ _ _ _ _ _ _ (rows i xs1) (ld_rows i xs1 0 _ (off3_eq i 0) _) (ld_rows i xs1 1 _ (off3_eq i 1) _) (ld_rows i xs1 2 _ (off3_eq i 2) _) (ld_rows i xs1 3 _ (off3_eq i 3) _) (ld_rows i xs1 4 _ (off3_eq i 4) _) (ld_rows i xs1 5 _ (off3_eq i 5) _) (ld_rows i xs1 6 _ (off3_eq i 6) _) (ld_rows i xs1 7 _ (off3_eq i 7) _) (ld_rows i xs1 8 _ (off3_eq i 8) _) (ld_rows i xs1 9 _ (off3_eq i 9) _) (ld_rows i xs1 10 _ (off3_eq i 10) _) (ld_rows i xs1 11 _ (off3_eq i 11) _) (ld_rows i xs1 12 _ (off3_eq i 12) _) (ld_rows i xs1 13 _ (off3_eq i 13) _) (ld_rows i xs1 14 _ (off3_eq i 14) _) (ld_rows i xs1 15 _ (off3_eq i 15) _))) _).trans (pay2_at xs2 (rows i xs1) x8 tok d)

/-- The output block of the last point of a run: the layer norm of the tokens scaled and the gated accumulator. -/
theorem out_C9 (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : ¬k0_cond1 i = 1#1) (hc1 : k0_cond2 i = 1#1) (x0 : Vec Ideal S512x1024 .f32) (x1 x2 x3 : Vec Ideal S1x1x1024 .f32) (x4 x5 : Vec Ideal S512x128 .i32) (x6 x7 : Vec Ideal S512x128 .f32) (x8 : Vec Ideal S4096x1024 .bf16) (xs1 : Vec Ideal S64x512x2x128 .bf16) (xs2 : Vec Ideal S512x1024 .f32) :
    outC (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs1 xs2
      = k0_pay3 x0 x1 (fun y => chunk xs2 (rows i xs1) x8 (y 0) (y 1)) x2 x3 := by
  unfold outC
  unfold runC
  dsimp only
  sl_unfold_words
  rw [View.canon_unit_zero hz2]
  simp only [View.readAt_eq_ld, harg2.read_unread, harg3.read_unread, harg4.read_unread, harg5.read_unread, harg10.read_unread, harg13.read_unread, harg14.read_unread, View.ld_unit_zero (S := S512x1024) hz2, View.ld_unit_zero (S := S4096x1024) hz2, View.ld_unit_zero (S := S1x1x1024) hz3, View.readCov_unit_zero (S := S512x1024) _ hz2]
  congr 1
  funext y
  obtain ⟨tok, d, rfl⟩ : ∃ tok d, y = ix2 tok d := ⟨y 0, y 1, by funext a; fin_cases a <;> rfl⟩
  refine (congrFun (congrArg (fun W => k0_pay2 xs2 W x8) (words_of _ _ _ _ _ _ _ _ _ _ _ _ _ _ _ _ (rows i xs1) (ld_rows i xs1 0 _ (off3_eq i 0) _) (ld_rows i xs1 1 _ (off3_eq i 1) _) (ld_rows i xs1 2 _ (off3_eq i 2) _) (ld_rows i xs1 3 _ (off3_eq i 3) _) (ld_rows i xs1 4 _ (off3_eq i 4) _) (ld_rows i xs1 5 _ (off3_eq i 5) _) (ld_rows i xs1 6 _ (off3_eq i 6) _) (ld_rows i xs1 7 _ (off3_eq i 7) _) (ld_rows i xs1 8 _ (off3_eq i 8) _) (ld_rows i xs1 9 _ (off3_eq i 9) _) (ld_rows i xs1 10 _ (off3_eq i 10) _) (ld_rows i xs1 11 _ (off3_eq i 11) _) (ld_rows i xs1 12 _ (off3_eq i 12) _) (ld_rows i xs1 13 _ (off3_eq i 13) _) (ld_rows i xs1 14 _ (off3_eq i 14) _) (ld_rows i xs1 15 _ (off3_eq i 15) _))) _).trans (pay2_at xs2 (rows i xs1) x8 tok d)

/-- The words of the grid after the first point of a run. -/
def grid (x4 x5 : S512x128.Idx → BitVec 32) (w : S512x128.Idx → EReal) : Vec Ideal S64x512x2x128 .bf16 :=
  fun y => hot x4 x5 w (y 1) (2 * (y 0).val + (y 2).val) (y 3).val

/-- The stores of the first point of a run leave the word grid of its tokens. -/
theorem grid_canon (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (x0 : Vec Ideal S512x1024 .f32) (x1 x2 x3 : Vec Ideal S1x1x1024 .f32) (x4 x5 : Vec Ideal S512x128 .i32) (x6 x7 : Vec Ideal S512x128 .f32) (x8 : Vec Ideal S4096x1024 .bf16)
    (f : BufTy.Contents (Elt Ideal) arg12.view.ty) (w : Vec Ideal S512x128 .f32) (hw : arg12.view.read _ f = w) :
    View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h1 (iota Kind.tc S128x128 32 [0] iota_S128x128_d0_w32) (harg6.unread x4) (harg7.unread x5) f 16)
      = grid x4 x5 w := by
  funext y
  obtain ⟨n, tok, p, b, rfl⟩ : ∃ n tok p b, y = ix4 n tok p b := ⟨y 0, y 1, y 2, y 3, by funext a; fin_cases a <;> rfl⟩
  rw [← List.append_nil (pb_k0_t1 (F := Ideal) _ _ _ _ _ _ _ _ _ _ _ _ _ _ _ _ _ _ _ _ _ _ _ _ _ _ _ _ _ _ _ _ _ _ _ _)]
  refine (canon_append [] _ _ _ (pb_cover Variants.none c none i arg2 harg2 arg3 harg3 arg4 harg4 arg5 harg5 arg6 harg6 arg7 harg7 arg8 harg8 arg9 harg9 arg10 harg10 arg11 harg11 arg12 harg12 arg13 harg13 arg14 harg14 k0_h1 _ _ _ _ _)
    (pb_allAt Variants.none c none i arg2 harg2 arg3 harg3 arg4 harg4 arg5 harg5 arg6 harg6 arg7 harg7 arg8 harg8 arg9 harg9 arg10 harg10 arg11 harg11 arg12 harg12 arg13 harg13 arg14 harg14 k0_h1 _ _ _ _ n tok p b 16 (by decide +kernel))).trans ?_
  rw [harg6.read_unread, harg7.read_unread, hw]
  exact cell_eq x4 x5 w n p tok b _

/-- The first point of a run leaves the word grid of its tokens. -/
theorem sout_A1 (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : k0_cond1 i = 1#1) (hc1 : ¬k0_cond2 i = 1#1) (x0 : Vec Ideal S512x1024 .f32) (x1 x2 x3 : Vec Ideal S1x1x1024 .f32) (x4 x5 : Vec Ideal S512x128 .i32) (x6 x7 : Vec Ideal S512x128 .f32) (x8 : Vec Ideal S4096x1024 .bf16) :
    gridA (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = grid x4 x5 (k0_pay114 x7 x6) := by
  unfold gridA
  unfold runA
  dsimp only
  sl_unfold_words
  refine grid_canon c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 _ _ ?_
  rw [View.read_writes_eq_canon _ _ _ (View.cover_of_tiledL _ S512x128.size (by sl_kernel_rfl))]
  rw [View.canon_unit_zero hz2]
  simp only [View.readAt_eq_ld, harg8.read_unread, harg9.read_unread, View.ld_unit_zero (S := S512x128) hz2]

theorem grid_read (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (k0_h1 : k0_cond1 i = 1#1) (x0 : Vec Ideal S512x1024 .f32) (x1 x2 x3 : Vec Ideal S1x1x1024 .f32) (x4 x5 : Vec Ideal S512x128 .i32) (x6 x7 : Vec Ideal S512x128 .f32) (x8 : Vec Ideal S4096x1024 .bf16)
    (f : BufTy.Contents (Elt Ideal) arg12.view.ty) (w : Vec Ideal S512x128 .f32) (hw : arg12.view.read _ f = w) (k : ℕ) (hk : k = 16) :
    arg13.view.read (Elt Ideal) (arg13.view.writes (Elt Ideal) arg13.view.junk (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h1 (iota Kind.tc S128x128 32 [0] iota_S128x128_d0_w32) (harg6.unread x4) (harg7.unread x5) f k))
      = grid x4 x5 w := by
  subst hk
  rw [← grid_canon c i arg2 harg2 arg3 harg3 arg4 harg4 arg5 harg5 arg6 harg6 arg7 harg7 arg8 harg8 arg9 harg9 arg10 harg10 arg11 harg11 arg12 harg12 arg13 harg13 arg14 harg14 k0_h1 x0 x1 x2 x3 x4 x5 x6 x7 x8 f w hw]
  funext y
  exact View.read_writes_junk_apply_eq_canon _ _ _

/-- The first point of a run: zeros and the product of its chunk, on the word grid it has just stored. -/
theorem sout_A2 (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x128 .i32) (harg6 : arg6.IsWhole) (arg7 : Memref sig .tc .vmem S512x128 .i32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x1024 .bf16) (harg10 : arg10.IsWhole) (arg11 : Memref sig .tc .vmem S512x1024 .f32) (harg11 : arg11.IsWhole) (arg12 : Memref sig .tc .vmem S512x128 .f32) (harg12 : arg12.IsWhole) (arg13 : Memref sig .tc .vmem S64x512x2x128 .bf16) (harg13 : arg13.IsWhole) (arg14 : Memref sig .tc .vmem S512x1024 .f32) (harg14 : arg14.IsWhole) (hc0 : k0_cond1 i = 1#1) (hc1 : ¬k0_cond2 i = 1#1) (x0 : Vec Ideal S512x1024 .f32) (x1 x2 x3 : Vec Ideal S1x1x1024 .f32) (x4 x5 : Vec Ideal S512x128 .i32) (x6 x7 : Vec Ideal S512x128 .f32) (x8 : Vec Ideal S4096x1024 .bf16) (tok : Fin 512) (d : Fin 1024) :
    accA (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 (ix2 tok d) = chunk (fun _ => 0) (rows i (grid x4 x5 (k0_pay114 x7 x6))) x8 tok d := by
  unfold accA
  unfold runA
  dsimp only
  sl_unfold_words
  rw [View.canon_cons_unit_zero (S := S512x1024) hz2]
  have hw : arg12.view.read (Elt Ideal) (arg12.view.writes (Elt Ideal) arg12.view.junk [⟨Rect.unit ![0,0] S512x128.size (by decide), k0_pay114 x7 x6⟩]) = k0_pay114 x7 x6 := by
    rw [View.read_writes_eq_canon _ _ _ (View.cover_of_tiledL _ S512x128.size (by sl_kernel_rfl)), View.canon_unit_zero hz2]
  simp only [View.readCov_unit_zero (S := S512x1024) _ hz2, View.readAt_eq_ld, harg8.read_unread, harg9.read_unread, harg10.read_unread, View.ld_unit_zero (S := S512x128) hz2, View.ld_unit_zero (S := S4096x1024) hz2]
  rw [grid_read c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 _ _ hw _ (by decide +kernel)]
  refine (congrFun (congrArg (fun W => k0_pay2 _ W x8) (words_of _ _ _ _ _ _ _ _ _ _ _ _ _ _ _ _ (rows i (grid x4 x5 (k0_pay114 x7 x6))) (ld_rows i _ 0 _ (off3_eq i 0) _) (ld_rows i _ 1 _ (off3_eq i 1) _) (ld_rows i _ 2 _ (off3_eq i 2) _) (ld_rows i _ 3 _ (off3_eq i 3) _) (ld_rows i _ 4 _ (off3_eq i 4) _) (ld_rows i _ 5 _ (off3_eq i 5) _) (ld_rows i _ 6 _ (off3_eq i 6) _) (ld_rows i _ 7 _ (off3_eq i 7) _) (ld_rows i _ 8 _ (off3_eq i 8) _) (ld_rows i _ 9 _ (off3_eq i 9) _) (ld_rows i _ 10 _ (off3_eq i 10) _) (ld_rows i _ 11 _ (off3_eq i 11) _) (ld_rows i _ 12 _ (off3_eq i 12) _) (ld_rows i _ 13 _ (off3_eq i 13) _) (ld_rows i _ 14 _ (off3_eq i 14) _) (ld_rows i _ 15 _ (off3_eq i 15) _))) _).trans
    ((pay2_at _ _ x8 tok d).trans ?_)
  unfold chunk
  refine congrArg (· + _) ?_
  pointwise [k0_pay115]

end Cert.Combine

end
-- ==== Proof.CombineBlocks.lean ====
module

public import proofs.«01_k».proof.Proof.CombineStep
public import Idealize.ShloMosaic.Lib.Claim

/-! The blocks the combine reads at a grid point, as entries of the arguments, and its elementwise parts at an index. -/

@[expose] public section

noncomputable section

namespace Cert.Combine

open Cert.Kernel7Ideal Cert.Kernel7Ideal.Gen Idealize.ShloMosaic Idealize.ShloMosaic.TcCoe Idealize.SL.Sem

/-- The token row scaled, and the gated sum of value vectors added to it. -/
def resid (x gv y : Fin 1024 → EReal) (d : Fin 1024) : EReal := Ideal.ofBits .f32 0x3FD744FD#32 * x d + gv d * y d

/-- The mean of a row. -/
def mean (z : Fin 1024 → EReal) : EReal := Ideal.div (∑ d, z d) (Ideal.ofBits .f32 0x44800000#32)

/-- The layer norm of a row with its scale and shift. -/
def lnorm (z g b : Fin 1024 → EReal) (d : Fin 1024) : EReal :=
  (z d - mean z) * Ideal.rsqrt (mean (fun x => (z x - mean z) * (z x - mean z)) + Ideal.ofBits .f32 0x3727C5AC#32) * g d + b d

/-- The tanh form of gelu. -/
def gelu (a : EReal) : EReal :=
  a * (Ideal.ofBits .f32 0x3F000000#32 * (1 + Ideal.tanh (Ideal.ofBits .f32 0x3F4C422A#32 * (a + Ideal.ofBits .f32 0x3D372713#32 * (a * (a * a))))))

theorem pay3_at (x : Vec Ideal S512x1024 .f32) (gv : Vec Ideal S1x1x1024 .f32) (acc : Vec Ideal S512x1024 .f32)
    (g b : Vec Ideal S1x1x1024 .f32) (tok : Fin 512) (d : Fin 1024) :
    k0_pay3 x gv acc g b (ix2 tok d)
      = lnorm (resid (fun x' => x (ix2 tok x')) (fun x' => gv (ix3 0 0 x')) (fun x' => acc (ix2 tok x')))
          (fun x' => g (ix3 0 0 x')) (fun x' => b (ix3 0 0 x')) d := by
  pointwise [k0_pay3]
  rfl

theorem pay114_at (act gate : Vec Ideal S512x128 .f32) (tok : Fin 512) (s : Fin 128) :
    k0_pay114 act gate (ix2 tok s) = gelu (act (ix2 tok s)) * gate (ix2 tok s) := by
  pointwise [k0_pay114]
  rfl

variable (m : (ℓ : Loc nD τ sig) → Buf (Elt Ideal) ℓ)

/-- Where each window's block lies at a grid point: token blocks by `t / 4`, the batch by thirty-two token blocks, the
    value-vector block by `t % 4`. -/
theorem idx : ∀ t : Fin grid0.N, win0_0.index t = ![t.val / 4, 0] ∧ win0_1.index t = ![t.val / 4 / 32, 0, 0]
    ∧ win0_2.index t = ![0, 0, 0] ∧ win0_3.index t = ![0, 0, 0] ∧ win0_4.index t = ![t.val / 4, 0]
    ∧ win0_5.index t = ![t.val / 4, 0] ∧ win0_6.index t = ![t.val / 4, 0] ∧ win0_7.index t = ![t.val / 4, 0]
    ∧ win0_8.index t = ![t.val % 4, 0] := by decide +kernel

/-- The kernel arguments of a memory, by name. -/
abbrev argX (c : Dev nD) : Vec Ideal S2x16384x1024 .f32 := m ((c : Thread nD τ).loc main_arg0)
abbrev argGv (c : Dev nD) : Vec Ideal S2x1x1024 .f32 := m ((c : Thread nD τ).loc main_arg1)
abbrev argLg (c : Dev nD) : Vec Ideal S1024 .f32 := m ((c : Thread nD τ).loc main_arg2)
abbrev argLb (c : Dev nD) : Vec Ideal S1024 .f32 := m ((c : Thread nD τ).loc main_arg3)
abbrev argI1 (c : Dev nD) : Vec Ideal S32768x128 .i32 := m ((c : Thread nD τ).loc main_arg4)
abbrev argI2 (c : Dev nD) : Vec Ideal S32768x128 .i32 := m ((c : Thread nD τ).loc main_arg5)
abbrev argGate (c : Dev nD) : Vec Ideal S32768x128 .f32 := m ((c : Thread nD τ).loc main_arg6)
abbrev argAct (c : Dev nD) : Vec Ideal S32768x128 .f32 := m ((c : Thread nD τ).loc main_arg7)
abbrev argV (c : Dev nD) : Vec Ideal S16384x1024 .f32 := m ((c : Thread nD τ).loc main_arg8)

theorem tlt (t : Fin cfg0.N) : t.val < 256 := Nat.lt_of_lt_of_eq t.isLt N_0

/-- The array row that row `r` of point `t`'s token block is. -/
abbrev rowOf (t : Fin cfg0.N) (r : Fin 512) : Fin 32768 := ⟨t.val / 4 * 512 + r.val, by have := tlt t; omega⟩

theorem blk_x (c : Dev nD) (t : Fin cfg0.N) (r : Fin 512) (d : Fin 1024) : iblk m c 0 t (ix2 r d)
    = argX m c (ix3 ⟨(rowOf t r).val / 16384, by have := (rowOf t r).isLt; omega⟩ ⟨(rowOf t r).val % 16384, by omega⟩ d) := by
  have := tlt t
  unfold iblk
  rw [View.read_apply]
  show V m c main_v0 _ = _
  entry_read
  pointwise
  blk_ext [idx t]

theorem blk_gv (c : Dev nD) (t : Fin cfg0.N) (r : Fin 512) (d : Fin 1024) : iblk m c 1 t (ix3 0 0 d)
    = argGv m c (ix3 ⟨(rowOf t r).val / 16384, by have := (rowOf t r).isLt; omega⟩ 0 d) := by
  have := tlt t
  blk_ext [iblk, V, idx t]

theorem blk_lg (c : Dev nD) (t : Fin cfg0.N) (d : Fin 1024) : iblk m c 2 t (ix3 0 0 d) = argLg m c (ix1 d) := by
  have := tlt t
  unfold iblk
  rw [View.read_apply]
  show V m c main_v1 _ = _
  entry_read
  pointwise
  blk_ext [idx t]

theorem blk_lb (c : Dev nD) (t : Fin cfg0.N) (d : Fin 1024) : iblk m c 3 t (ix3 0 0 d) = argLb m c (ix1 d) := by
  have := tlt t
  unfold iblk
  rw [View.read_apply]
  show V m c main_v2 _ = _
  entry_read
  pointwise
  blk_ext [idx t]

theorem blk_i1 (c : Dev nD) (t : Fin cfg0.N) (r : Fin 512) (k : Fin 128) :
    iblk m c 4 t (ix2 r k) = argI1 m c (ix2 (rowOf t r) k) := by
  have := tlt t
  blk_ext [iblk, V, idx t]

theorem blk_i2 (c : Dev nD) (t : Fin cfg0.N) (r : Fin 512) (k : Fin 128) :
    iblk m c 5 t (ix2 r k) = argI2 m c (ix2 (rowOf t r) k) := by
  have := tlt t
  blk_ext [iblk, V, idx t]

theorem blk_gate (c : Dev nD) (t : Fin cfg0.N) (r : Fin 512) (k : Fin 128) :
    iblk m c 6 t (ix2 r k) = argGate m c (ix2 (rowOf t r) k) := by
  have := tlt t
  blk_ext [iblk, V, idx t]

theorem blk_act (c : Dev nD) (t : Fin cfg0.N) (r : Fin 512) (k : Fin 128) :
    iblk m c 7 t (ix2 r k) = argAct m c (ix2 (rowOf t r) k) := by
  have := tlt t
  blk_ext [iblk, V, idx t]

theorem blk_v (c : Dev nD) (t : Fin cfg0.N) (q : Fin 4096) (d : Fin 1024) :
    iblk m c 8 t (ix2 q d) = argV m c (ix2 ⟨t.val % 4 * 4096 + q.val, by omega⟩ d) := by
  have := tlt t
  unfold iblk
  rw [View.read_apply]
  show V m c main_v3 _ = _
  entry_read
  pointwise
  blk_ext [idx t]

end Cert.Combine

end
-- ==== Proof.CombineIdealValue.lean ====
module

public import proofs.«01_k».proof.Proof.CombineIdealFrame
public import Idealize.ShloMosaic.Lib.Pipeline.Value
public import Idealize.ShloMosaic.Lib.Pipeline.ValueKit

/-! The combine's result array after a run: at every index what the last point of the index's token block leaves in the
    output block there. -/

@[expose] public section

set_option maxRecDepth 16384

noncomputable section

namespace Cert.Kernel7Ideal.Carry

open Cert.Kernel7Ideal Cert.Kernel7Ideal.Gen Idealize.ShloMosaic Idealize.ShloMosaic.TcCoe Idealize.ShloMosaic.Tactic
open Idealize.SL Idealize.SL.Sem
open Idealize.ShloMosaic.Pipeline (Dat)

variable {F : FTy → Type} [FloatOps F] (m : (ℓ : Loc nD τ sig) → Buf (Elt F) ℓ) (ρ : Dev nD → PrngReg)

/-- The last point of the run that fills row `r`'s block. -/
def fills (r : Fin 32768) : Fin cfg0.N := ⟨4 * (r.val / 512) + 3, lt_of_lt_of_eq (by omega) N_0.symm⟩

/-- The result array. -/
def result (c : Dev nD) : Buf (Elt F) ((c : Thread nD τ).loc main_v4) := fun i =>
  (holds m c (fills (i 0)).val (fills (i 0)).isLt).1 (ix2 ⟨(i 0).val % 512, Nat.mod_lt _ (by decide)⟩ (i 1))

/-- The output block a point writes back. -/
theorem out_index : ∀ t : Fin cfg0.N, win0_9.index t (0 : Fin 2) = t.val / 4 ∧ win0_9.index t (1 : Fin 2) = 0 :=
  (by decide +kernel : ∀ t : Fin grid0.N, win0_9.index t (0 : Fin 2) = t.val / 4 ∧ win0_9.index t (1 : Fin 2) = 0)

theorem holds_congr (c : Dev nD) (n n' : ℕ) (h : n < cfg0.N) (h' : n' < cfg0.N) (e : n = n') : holds m c n h = holds m c n' h' := by
  subst e; rfl

/-- What a last point writes back is its block of the result. -/
theorem flushed_eq (c : Dev nD) (t : Fin cfg0.N) (hf : (cfg0.win 9).flush t = true) :
    (dats m 0 c).flushed 9 t = ((cfg0.win 9).blk t).view.read (Elt F) (result m c) := by
  have hm : t.val % 4 = 3 := (flush0_9 t).mp hf
  obtain ⟨e0, e1⟩ := out_index t
  funext y
  have hy0 : (y 0).val < 512 := (y 0).isLt
  have hy1 : (y 1).val < 1024 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 1024 + 1 * (y 1).val := rfl
  rw [e0] at hb0
  rw [e1] at hb1
  show (holds m c t.val t.isLt).1 ((cfg0.win 9).xinj (grid0.coords t) y) = result m c (((cfg0.win 9).blk t).view.emb y)
  unfold result
  rw [holds_congr m c (fills (((cfg0.win 9).blk t).view.emb y 0)).val t.val _ t.isLt
    (by show 4 * ((((cfg0.win 9).blk t).view.emb y 0).val / 512) + 3 = t.val; rw [hb0]; omega)]
  refine congrArg (holds m c t.val t.isLt).1 ?_
  funext a; apply Fin.ext
  match a with
  | ⟨0, _⟩ => show (y 0).val = (((cfg0.win 9).blk t).view.emb y 0).val % 512; rw [hb0]; omega
  | ⟨1, _⟩ => show (y 1).val = (((cfg0.win 9).blk t).view.emb y 1).val; rw [hb1]; omega

/-- Every index lies in the block its run's last point writes back. -/
theorem covered (i : S32768x1024.Idx) : ∃ t : Fin cfg0.N, (cfg0.win 9).flush t = true ∧ i ∈ ((cfg0.win 9).blk t).view.set := by
  have hi0 : (i 0).val < 32768 := (i 0).isLt
  have hi1 : (i 1).val < 1024 := (i 1).isLt
  obtain ⟨e0, e1⟩ := out_index (fills (i 0))
  refine ⟨fills (i 0), (flush0_9 _).mpr (by show (4 * ((i 0).val / 512) + 3) % 4 = 3; omega), ?_⟩
  show i ∈ ((View.whole main_v4).slice (win0_9.rect (fills (i 0)))).set
  rw [View.set_slice_whole, Rect.mem_set_unit]
  have ev : (fills (i 0)).val = 4 * ((i 0).val / 512) + 3 := rfl
  intro a
  match a with
  | ⟨0, _⟩ =>
    show win0_9.index (fills (i 0)) (0 : Fin 2) * 512 ≤ (i 0).val ∧ (i 0).val < win0_9.index (fills (i 0)) (0 : Fin 2) * 512 + 512
    rw [e0, ev]; omega
  | ⟨1, _⟩ =>
    show win0_9.index (fills (i 0)) (1 : Fin 2) * 1024 ≤ (i 1).val ∧ (i 1).val < win0_9.index (fills (i 0)) (1 : Fin 2) * 1024 + 1024
    rw [e1]; omega

/-- Every run ends with the result array so filled and the arguments as they were. -/
theorem run : θ_run defs (onTc (τ := τ) (main (F := F))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h' c => have h := h'.1
      ⟨((h c).1 9).trans ((dats m 0 c).arrAt_eq_of_cover 9 _ (fun t hf => flushed_eq m c t hf) covered),
      ((h c).2 main_arg0 (Pipeline.mem_restRefs_of main_arg0 (by decide) (by decide))).trans (V_main_arg0 m c),
      ((h c).1 1).trans (((dats m 0 c).arrAt_in 1 rfl _).trans ((arr_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((arr_eq m c 4).trans (V_main_arg4 m c))),
      ((h c).1 5).trans (((dats m 0 c).arrAt_in 5 rfl _).trans ((arr_eq m c 5).trans (V_main_arg5 m c))),
      ((h c).1 6).trans (((dats m 0 c).arrAt_in 6 rfl _).trans ((arr_eq m c 6).trans (V_main_arg6 m c))),
      ((h c).1 7).trans (((dats m 0 c).arrAt_in 7 rfl _).trans ((arr_eq m c 7).trans (V_main_arg7 m c))),
      ((h c).2 main_arg8 (Pipeline.mem_restRefs_of main_arg8 (by decide) (by decide))).trans (V_main_arg8 m c)⟩)
    (run_all m ρ)

end Cert.Kernel7Ideal.Carry

end
-- ==== Proof.CombineFold.lean ====
module

public import proofs.«01_k».proof.Proof.CombineBlocks
public import proofs.«01_k».proof.Proof.CombineIdealValue

/-! What the combine's result array holds: the layer norm of each token row with the weighted sum of its experts' value
    vectors, the sum written over all the experts. -/

@[expose] public section

noncomputable section

namespace Cert.Combine

open Cert.Kernel7Ideal Cert.Kernel7Ideal.Carry Cert.Kernel7Ideal.Gen Idealize.ShloMosaic Idealize.ShloMosaic.TcCoe Idealize.SL.Sem

/-- The weight token `R` gives to expert number `x`: the sum over the slots that name it. -/
def give (I1 I2 : Vec Ideal S32768x128 .i32) (G A : Vec Ideal S32768x128 .f32) (R : Fin 32768) (x : ℕ) : EReal :=
  ∑ s : Fin 128, if (I1 (ix2 R s)).toNat = x / 128 ∧ (I2 (ix2 R s)).toNat = x % 128 then gelu (A (ix2 R s)) * G (ix2 R s) else 0

/-- Chunk `e` of the sum over the experts. -/
def share (I1 I2 : Vec Ideal S32768x128 .i32) (G A : Vec Ideal S32768x128 .f32) (U : Vec Ideal S16384x1024 .f32)
    (R : Fin 32768) (d : Fin 1024) (e : ℕ) : EReal :=
  ∑ q : Fin 4096, give I1 I2 G A R (4096 * e + q.val) * U (ix2 ⟨(4096 * e + q.val) % 16384, Nat.mod_lt _ (by decide)⟩ d)

variable (m : (ℓ : Loc nD τ sig) → Buf (Elt Ideal) ℓ)

abbrev giveOf (c : Dev nD) := give (argI1 m c) (argI2 m c) (argGate m c) (argAct m c)
abbrev shareOf (c : Dev nD) := share (argI1 m c) (argI2 m c) (argGate m c) (argAct m c) (argV m c)

/-- The word grid of point `t`'s token block. -/
theorem grid_at (c : Dev nD) (t : Fin cfg0.N) (n : Fin 64) (tok : Fin 512) (p : Fin 2) (b : Fin 128) :
    grid (iblk m c 4 t) (iblk m c 5 t) (k0_pay114 (iblk m c 7 t) (iblk m c 6 t)) (ix4 n tok p b)
      = giveOf m c (rowOf t tok) (128 * (2 * n.val + p.val) + b.val) := by
  show hot _ _ _ tok (2 * n.val + p.val) b.val = _
  unfold hot giveOf give
  refine Finset.sum_congr rfl fun s _ => ?_
  rw [blk_i1, blk_i2, pay114_at, blk_act, blk_gate]
  exact if_congr (by
    rw [show (128 * (2 * n.val + p.val) + b.val) / 128 = 2 * n.val + p.val by omega,
      show (128 * (2 * n.val + p.val) + b.val) % 128 = b.val by omega]) rfl rfl

/-- A chunk's product, once the grid holds the given weights. -/
theorem chunk_eq (c : Dev nD) (t : Fin cfg0.N) (G : Vec Ideal S64x512x2x128 .bf16) (acc : Vec Ideal S512x1024 .f32)
    (hG : ∀ n tok p b, G (ix4 n tok p b) = giveOf m c (rowOf t tok) (128 * (2 * n.val + p.val) + b.val))
    (tok : Fin 512) (d : Fin 1024) :
    chunk acc (rows (grid0.coords t) G) (iblk m c 8 t) tok d = acc (ix2 tok d) + shareOf m c (rowOf t tok) d (t.val % 4) := by
  have e1 : (grid0.coords t 1).val = t.val / 1 % 4 := Pipeline.Grid.coords_val t 1 (by decide) rfl
  unfold chunk shareOf share
  refine congrArg (acc (ix2 tok d) + ·) (Finset.sum_congr rfl fun q _ => ?_)
  rw [blk_v]
  refine congrArg₂ (· * ·) ?_ ?_
  · refine (hG _ tok _ _).trans (congrArg (giveOf m c (rowOf t tok)) ?_)
    show 128 * (2 * (16 * (grid0.coords t 1).val + q.val / 256) + q.val / 128 % 2) + q.val % 128 = 4096 * (t.val % 4) + q.val
    rw [e1]
    omega
  · congr 2
    apply Fin.ext
    show t.val % 4 * 4096 + q.val = (4096 * (t.val % 4) + q.val) % 16384
    omega

/-- After point `n`: the carried grid holds the weights of its token block, and the carried accumulator the chunks met so
    far. -/
theorem outs_eq (c : Dev nD) : ∀ (n : ℕ) (hn : n < cfg0.N),
    (∀ k tok p b, (holds m c n hn).2.1 (ix4 k tok p b) = giveOf m c (rowOf ⟨n, hn⟩ tok) (128 * (2 * k.val + p.val) + b.val))
    ∧ ∀ (tok : Fin 512) (d : Fin 1024), (holds m c n hn).2.2 (ix2 tok d)
      = ∑ e ∈ Finset.range (n % 4 + 1), shareOf m c (rowOf ⟨n, hn⟩ tok) d e := by
  have hstart : ∀ (t : Fin cfg0.N), t.val % 4 = 0 →
      (∀ k tok p b, (holds m c t.val t.isLt).2.1 (ix4 k tok p b) = giveOf m c (rowOf t tok) (128 * (2 * k.val + p.val) + b.val))
      ∧ ∀ (tok : Fin 512) (d : Fin 1024), (holds m c t.val t.isLt).2.2 (ix2 tok d)
        = ∑ e ∈ Finset.range (t.val % 4 + 1), shareOf m c (rowOf t tok) d e := by
    intro t h0
    rw [holds_first m c t h0]
    unfold gridFirst accFirst
    dsimp only
    refine ⟨fun k tok p b => ?_, fun tok d => ?_⟩
    · rw [sout_A1, grid_at]
    · rw [sout_A2, chunk_eq m c t _ _ (grid_at m c t), h0, Finset.sum_range_one, zero_add]
  intro n
  induction n with
  | zero => intro hn; exact hstart ⟨0, hn⟩ rfl
  | succ n ih =>
    intro hn
    by_cases h0 : (n + 1) % 4 = 0
    · exact hstart ⟨n + 1, hn⟩ h0
    obtain ⟨i1, i2⟩ := ih (Nat.lt_of_succ_lt hn)
    have er : ∀ r, rowOf (⟨n, Nat.lt_of_succ_lt hn⟩ : Fin cfg0.N) r = rowOf (⟨n + 1, hn⟩ : Fin cfg0.N) r := fun r => Fin.ext (by dsimp only; omega)
    simp only [er] at i1 i2
    have hm : (n + 1) % 4 = n % 4 + 1 := by omega
    by_cases h1 : (n + 1) % 4 = 3
    · rw [holds_last m c ⟨n + 1, hn⟩ n (Nat.lt_of_succ_lt hn) rfl h1]
      unfold accLast
      dsimp only
      refine ⟨fun k tok p b => i1 k tok p b, fun tok d => ?_⟩
      rw [sout_C2]
      refine (chunk_eq m c ⟨n + 1, hn⟩ _ _ i1 tok d).trans ?_
      refine (congrArg (· + _) (i2 tok d)).trans ?_
      dsimp only
      rw [hm, Finset.sum_range_succ _ (n % 4 + 1)]
    · rw [holds_mid m c ⟨n + 1, hn⟩ n (Nat.lt_of_succ_lt hn) rfl h0 h1]
      unfold accMid
      dsimp only
      refine ⟨fun k tok p b => i1 k tok p b, fun tok d => ?_⟩
      rw [sout_B2]
      refine (chunk_eq m c ⟨n + 1, hn⟩ _ _ i1 tok d).trans ?_
      refine (congrArg (· + _) (i2 tok d)).trans ?_
      dsimp only
      rw [hm, Finset.sum_range_succ _ (n % 4 + 1)]

/-- Entry `(R, d)` of the result: the layer norm of the token row with the weighted sum over all the experts. -/
def combined (X : Vec Ideal S2x16384x1024 .f32) (Gv : Vec Ideal S2x1x1024 .f32) (Lg Lb : Vec Ideal S1024 .f32)
    (y : Fin 1024 → EReal) (R : Fin 32768) : Fin 1024 → EReal :=
  lnorm (resid (fun d => X (ix3 ⟨R.val / 16384, by omega⟩ ⟨R.val % 16384, by omega⟩ d)) (fun d => Gv (ix3 ⟨R.val / 16384, by omega⟩ 0 d)) y)
    (fun d => Lg (ix1 d)) (fun d => Lb (ix1 d))

/-- The output block of a run's last point. -/
theorem out_eq (c : Dev nD) (t : Fin cfg0.N) (h1 : t.val % 4 = 3) (tok : Fin 512) (d : Fin 1024) :
    (holds m c t.val t.isLt).1 (ix2 tok d)
      = combined (argX m c) (argGv m c) (argLg m c) (argLb m c)
          (fun d => ∑ e : Fin 4, shareOf m c (rowOf t tok) d e.val) (rowOf t tok) d := by
  obtain ⟨n, hn⟩ := t
  obtain ⟨n, rfl⟩ : ∃ k, n = k + 1 := ⟨n - 1, by dsimp only at h1; omega⟩
  dsimp only at h1
  obtain ⟨i1, i2⟩ := outs_eq m c n (Nat.lt_of_succ_lt hn)
  have er : ∀ r, rowOf (⟨n, Nat.lt_of_succ_lt hn⟩ : Fin cfg0.N) r = rowOf (⟨n + 1, hn⟩ : Fin cfg0.N) r := fun r => Fin.ext (by dsimp only; omega)
  simp only [er] at i1 i2
  rw [holds_last m c ⟨n + 1, hn⟩ n (Nat.lt_of_succ_lt hn) rfl h1]
  unfold outLast
  dsimp only
  rw [out_C9, pay3_at]
  unfold combined
  refine congrFun (congr (congrArg₂ lnorm (congr (congrArg₂ resid ?_ ?_) ?_) ?_) ?_) d
  · funext d; exact blk_x m c ⟨n + 1, hn⟩ tok d
  · funext d; exact blk_gv m c ⟨n + 1, hn⟩ tok d
  · funext d
    refine (chunk_eq m c ⟨n + 1, hn⟩ _ _ i1 tok d).trans ?_
    refine (congrArg (· + _) (i2 tok d)).trans ?_
    dsimp only
    rw [h1, show n % 4 + 1 = 3 by omega, ← Finset.sum_range_succ, Finset.sum_range]
  · funext d; exact blk_lg m c ⟨n + 1, hn⟩ d
  · funext d; exact blk_lb m c ⟨n + 1, hn⟩ d

/-- The result array, entry by entry. -/
theorem result_eq (c : Dev nD) (R : Fin 32768) (d : Fin 1024) : result m c (ix2 R d)
    = combined (argX m c) (argGv m c) (argLg m c) (argLb m c) (fun d => ∑ e : Fin 4, shareOf m c R d e.val) R d := by
  have ev : (fills R).val = 4 * (R.val / 512) + 3 := rfl
  refine (out_eq m c (fills R) (by rw [ev]; omega) ⟨R.val % 512, Nat.mod_lt _ (by decide)⟩ d).trans ?_
  have hr : rowOf (fills R) ⟨R.val % 512, Nat.mod_lt _ (by decide)⟩ = R := by
    apply Fin.ext
    show (fills R).val / 4 * 512 + R.val % 512 = R.val
    rw [ev]; omega
  rw [hr]

end Cert.Combine

end
-- ==== Proof.CombineRef.lean ====
module

public import proofs.«01_k».proof.Proof.CombineFold
public import proofs.«01_k».proof.Proof.ScoreRef
public import proofs.«01_k».proof.Proof.Gen.Reference7Ideal.Run

/-! The reference of the combine, read at an index. -/

@[expose] public section

noncomputable section

namespace Cert.Combine

open Idealize.ShloMosaic Idealize.ShloMosaic.TcCoe Idealize.SL.Sem Cert.Reference7Ideal Cert.Reference7Ideal.Gen

/-- The slots' weights, as the host computes them. -/
def weightT (G A : FVec Ideal S32768x128 .f32) : FVec Ideal S32768x128 .f32 :=
  mulf G (mulf A (mulf (broadcastInDim S32768x128 ![] bcast_S_S32768x128 (constant S_ .f32 0x3F000000#32)) (addf (broadcastInDim S32768x128 ![] bcast_S_S32768x128 (constant S_ .f32 0x3F800000#32)) (Host.tanh (mulf (broadcastInDim S32768x128 ![] bcast_S_S32768x128 (constant S_ .f32 0x3F4C422A#32)) (addf A (mulf (broadcastInDim S32768x128 ![] bcast_S_S32768x128 (constant S_ .f32 0x3D372713#32)) (mulf (mulf A A) A))))))))

/-- The experts' value vectors, gathered slot by slot. -/
def pickT (I1 I2 : IVec S32768x128 32) (U : FVec Ideal S16384x1024 .f32) : FVec Ideal S32768x128x1024 .f32 :=
  Host.gather gather_S16384x1024_S32768x128x1_S32768x128x1024_2_0_n_n_0_2_11024 U (broadcastInDim S32768x128x1 ![0, 1] bcast_S32768x128_S32768x128x1_0_1 (select (cmpi .slt (addi (muli I1 (broadcastInDim S32768x128 ![] bcast_S_S32768x128 (constantI S_ 32 128#32))) I2) (broadcastInDim S32768x128 ![] bcast_S_S32768x128 (constantI S_ 32 0#32))) (addi (addi (muli I1 (broadcastInDim S32768x128 ![] bcast_S_S32768x128 (constantI S_ 32 128#32))) I2) (broadcastInDim S32768x128 ![] bcast_S_S32768x128 (constantI S_ 32 16384#32))) (addi (muli I1 (broadcastInDim S32768x128 ![] bcast_S_S32768x128 (constantI S_ 32 128#32))) I2)))

/-- The weighted sums over the slots. -/
def mixT (W : FVec Ideal S32768x128 .f32) (P : FVec Ideal S32768x128x1024 .f32) : FVec Ideal S32768x1024 .f32 :=
  Host.dotGeneral dot_S32768x128_S32768x128x1024_S32768x1024_1_1_n_2_0_0 none W P

/-- The residual sum. -/
def resT (X : FVec Ideal S2x16384x1024 .f32) (Gv : FVec Ideal S2x1x1024 .f32) (Y : FVec Ideal S32768x1024 .f32) : FVec Ideal S2x16384x1024 .f32 :=
  addf (mulf (broadcastInDim S2x16384x1024 ![] bcast_S_S2x16384x1024 (constant S_ .f32 0x3FD744FD#32)) X) (mulf (broadcastInDim S2x16384x1024 ![0, 1, 2] bcast_S2x1x1024_S2x16384x1024_0_1_2 Gv) (shapeCast _ Y shapeCasts_S32768x1024_S2x16384x1024))

/-- The rows' means. -/
def meanT (Z : FVec Ideal S2x16384x1024 .f32) : FVec Ideal S2x16384x1 .f32 :=
  Host.divf (broadcastInDim S2x16384x1 ![0, 1] bcast_S2x16384_S2x16384x1_0_1 (Host.reduceAdd Z (constant S_ .f32 0x00000000#32) reducesTo_S2x16384x1024_S2x16384_d2 h_S_)) (broadcastInDim S2x16384x1 ![] bcast_S_S2x16384x1 (constant S_ .f32 0x44800000#32))

/-- The rows less their means. -/
def centT (Z : FVec Ideal S2x16384x1024 .f32) : FVec Ideal S2x16384x1024 .f32 :=
  subf Z (broadcastInDim S2x16384x1024 ![0, 1, 2] bcast_S2x16384x1_S2x16384x1024_0_1_2 (meanT Z))

/-- The layer norm over the last axis. -/
def normT (Z : FVec Ideal S2x16384x1024 .f32) (Lg Lb : FVec Ideal S1024 .f32) : FVec Ideal S32768x1024 .f32 :=
  shapeCast _ (addf (mulf (mulf (centT Z) (broadcastInDim S2x16384x1024 ![0, 1, 2] bcast_S2x16384x1_S2x16384x1024_0_1_2 (Host.rsqrt (addf (meanT (mulf (centT Z) (centT Z))) (broadcastInDim S2x16384x1 ![] bcast_S_S2x16384x1 (constant S_ .f32 0x3727C5AC#32)))))) (broadcastInDim S2x16384x1024 ![0, 1, 2] bcast_S1x1x1024_S2x16384x1024_0_1_2 (broadcastInDim S1x1x1024 ![2] bcast_S1024_S1x1x1024_2 Lg))) (broadcastInDim S2x16384x1024 ![0, 1, 2] bcast_S1x1x1024_S2x16384x1024_0_1_2 (broadcastInDim S1x1x1024 ![2] bcast_S1024_S1x1x1024_2 Lb))) shapeCasts_S2x16384x1024_S32768x1024

/-- The host's result is these steps in a row. -/
theorem res_eq (m : (ℓ : Loc nD τ sig) → Buf (Elt Ideal) ℓ) (c : Dev nD) :
    Cert.Reference7Ideal.Value.res_main_v55 m c
      = normT (resT (m ((c.tc : Thread nD τ).loc main_arg0)) (m ((c.tc : Thread nD τ).loc main_arg1))
          (mixT (weightT (m ((c.tc : Thread nD τ).loc main_arg6)) (m ((c.tc : Thread nD τ).loc main_arg7)))
            (pickT (m ((c.tc : Thread nD τ).loc main_arg4)) (m ((c.tc : Thread nD τ).loc main_arg5)) (m ((c.tc : Thread nD τ).loc main_arg8)))))
        (m ((c.tc : Thread nD τ).loc main_arg2)) (m ((c.tc : Thread nD τ).loc main_arg3)) := rfl

/-- A slot's weight is the kernel's. -/
theorem weight_at (G A : FVec Ideal S32768x128 .f32) (R : Fin 32768) (s : Fin 128) :
    weightT G A (ix2 R s) = gelu (A (ix2 R s)) * G (ix2 R s) := by
  pointwise [weightT]
  unfold gelu
  rw [mul_comm (G _), mul_assoc (A _) (A _) (A _)]

/-- A gathered entry. -/
theorem pick_at (I1 I2 : IVec S32768x128 32) (U : FVec Ideal S16384x1024 .f32) (h1 : ∀ R k, (I1 (ix2 R k)).toNat < 128)
    (h2 : ∀ R k, (I2 (ix2 R k)).toNat < 128) (R : Fin 32768) (s : Fin 128) (d : Fin 1024) :
    pickT I1 I2 U (ix3 R s d) = U (ix2 ⟨(I1 (ix2 R s)).toNat * 128 + (I2 (ix2 R s)).toNat, by have := h1 R s; have := h2 R s; omega⟩ d) := by
  refine (Cert.Score.gather_rows_apply (by decide) gather_S16384x1024_S32768x128x1_S32768x128x1024_2_0_n_n_0_2_11024.wf U _ R s d).trans ?_
  pointwise
  congr 2
  refine Fin.ext ((Cert.Score.expert_word _ _ (h1 R s) (h2 R s)).trans ?_)
  have := h1 R s
  have := h2 R s
  dsimp only
  omega

/-- An entry of the weighted sums. -/
theorem mix_at (W : FVec Ideal S32768x128 .f32) (P : FVec Ideal S32768x128x1024 .f32) (R : Fin 32768) (d : Fin 1024) :
    mixT W P (ix2 R d) = ∑ s : Fin 128, W (ix2 R s) * P (ix3 R s d) := by
  pointwise [mixT]

/-- An entry of the residual sum. -/
theorem res_at (X : FVec Ideal S2x16384x1024 .f32) (Gv : FVec Ideal S2x1x1024 .f32) (Y : FVec Ideal S32768x1024 .f32) (b : Fin 2)
    (s : Fin 16384) (d : Fin 1024) :
    resT X Gv Y (ix3 b s d) = resid (fun d => X (ix3 b s d)) (fun d => Gv (ix3 b 0 d)) (fun d => Y (ix2 ⟨b.val * 16384 + s.val, by omega⟩ d)) d := by
  pointwise [resT, resid]

/-- A row's mean. -/
theorem mean_at (Z : FVec Ideal S2x16384x1024 .f32) (b : Fin 2) (s : Fin 16384) :
    meanT Z (ix3 b s 0) = mean (fun d => Z (ix3 b s d)) := by
  pointwise [meanT, mean]

/-- An entry less its row's mean. -/
theorem cent_at (Z : FVec Ideal S2x16384x1024 .f32) (b : Fin 2) (s : Fin 16384) (d : Fin 1024) :
    centT Z (ix3 b s d) = Z (ix3 b s d) - mean (fun d => Z (ix3 b s d)) := by
  rw [← mean_at]
  pointwise [centT]

/-- An entry of the layer norm. -/
theorem norm_at (Z : FVec Ideal S2x16384x1024 .f32) (Lg Lb : FVec Ideal S1024 .f32) (R : Fin 32768) (d : Fin 1024) :
    normT Z Lg Lb (ix2 R d)
      = lnorm (fun d => Z (ix3 ⟨R.val / 16384, by omega⟩ ⟨R.val % 16384, by omega⟩ d)) (fun d => Lg (ix1 d)) (fun d => Lb (ix1 d)) d := by
  pointwise [normT]
  have e : ∀ b s d, mulf (centT Z) (centT Z) (ix3 b s d) = centT Z (ix3 b s d) * centT Z (ix3 b s d) := fun _ _ _ => rfl
  simp only [cent_at, mean_at, e]
  rfl

end Cert.Combine

end
-- ==== Proof.CombinePre.lean ====
module

public import proofs.«01_k».proof.Proof.ScorePre
public import proofs.«01_k».proof.Proof.CombineRef
public import proofs.«01_k».proof.Proof.Gen.Pre_experts_finite

/-! The precondition of the combine, read as two ranges and three arrays of real numbers. -/

@[expose] public section

noncomputable section

namespace Cert.Combine

open Idealize.ShloMosaic Idealize.ShloMosaic.TcCoe Idealize.SL.Sem

/-- An extended real is a real number. -/
def IsReal (x : EReal) : Prop := ∃ r : ℝ, x = (r : EReal)

/-- A value whose absolute value is below the top is a real number. -/
theorem real_of_bits (x : EReal) (h : BitVec.ofBool (decide (max x (-x) < Ideal.ofBits .f32 0x7F800000#32)) = 1#1) : IsReal x := by
  have ht : Ideal.ofBits .f32 0x7F800000#32 = ⊤ := by simp [Ideal.ofBits, Ideal.ieee]
  rw [ht] at h
  have hl : max x (-x) < ⊤ := of_decide_eq_true (Cert.Score.bit_true _ h)
  induction x with
  | bot => simp at hl
  | top => simp at hl
  | coe r => exact ⟨r, rfl⟩

/-- A float word whose exponent field is not full is a real number. -/
theorem real_word (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split <;> exact ⟨_, rfl⟩

theorem real_add {x y : EReal} (hx : IsReal x) (hy : IsReal y) : IsReal (x + y) := by
  obtain ⟨r, rfl⟩ := hx
  obtain ⟨s, rfl⟩ := hy
  exact ⟨r + s, (EReal.coe_add r s).symm⟩

theorem real_mul {x y : EReal} (hx : IsReal x) (hy : IsReal y) : IsReal (x * y) := by
  obtain ⟨r, rfl⟩ := hx
  obtain ⟨s, rfl⟩ := hy
  exact ⟨r * s, (EReal.coe_mul r s).symm⟩

theorem real_tanh {x : EReal} (hx : IsReal x) : IsReal (Ideal.tanh x) := by
  obtain ⟨r, rfl⟩ := hx
  exact ⟨_, Ideal.tanh_coe r⟩

/-- The activation of a real number is a real number. -/
theorem gelu_real (x : EReal) (h : IsReal x) : IsReal (gelu x) := by
  unfold gelu
  exact real_mul h (real_mul (real_word _ (by decide)) (real_add ⟨1, rfl⟩ (real_tanh (real_mul (real_word _ (by decide))
    (real_add h (real_mul (real_word _ (by decide)) (real_mul h (real_mul h h))))))))

section

open Cert.Pre_experts_finite Cert.Pre_experts_finite.Gen

/-- The precondition: the halves of the experts' numbers lie in 0 … 127, and the gates, activations and values are real. -/
theorem bounds (X : FVec Ideal S2x16384x1024 .f32) (Gv : FVec Ideal S2x1x1024 .f32) (Lg Lb : FVec Ideal S1024 .f32)
    (I1 I2 : IVec S32768x128 32) (G A : FVec Ideal S32768x128 .f32) (U : FVec Ideal S16384x1024 .f32)
    (h : fn (F := Ideal) X Gv Lg Lb I1 I2 G A U = fun _ => 1#1) :
    (∀ R k, (I1 (ix2 R k)).toNat < 128) ∧ (∀ R k, (I2 (ix2 R k)).toNat < 128) ∧ (∀ R k, IsReal (G (ix2 R k)))
      ∧ (∀ R k, IsReal (A (ix2 R k))) ∧ ∀ x d, IsReal (U (ix2 x d)) := by
  have h0 := congrFun h (fun i => i.elim0)
  dsimp only [fn, fn_part1] at h0
  obtain ⟨h0, hU⟩ := IntOp.andi_eq_one.1 h0
  obtain ⟨h0, hA⟩ := IntOp.andi_eq_one.1 h0
  obtain ⟨h0, hG⟩ := IntOp.andi_eq_one.1 h0
  obtain ⟨h1, h2⟩ := IntOp.andi_eq_one.1 h0
  exact ⟨fun R k => Cert.Score.range_of_bits _ (Host.reduce_andi_all _ _ _ _ _ h1 (ix2 R k)),
    fun R k => Cert.Score.range_of_bits _ (Host.reduce_andi_all _ _ _ _ _ h2 (ix2 R k)),
    fun R k => real_of_bits _ (Host.reduce_andi_all _ _ _ _ _ hG (ix2 R k)),
    fun R k => real_of_bits _ (Host.reduce_andi_all _ _ _ _ _ hA (ix2 R k)),
    fun x d => real_of_bits _ (Host.reduce_andi_all _ _ _ _ _ hU (ix2 x d))⟩

end

end Cert.Combine

end
-- ==== Proof.CombineMath.lean ====
module

public import Idealize.ShloMosaic.Lib.Pipeline.ValueKit

/-! The two-digit expert table summed: four chunks of one-hot sums times value rows are the sum over the slots. -/

@[expose] public section

namespace Cert.Combine

/-- A sum of reals, read among the extended reals. -/
theorem sum_coe {ι : Type*} [Fintype ι] (f : ι → ℝ) : (∑ i, (f i : EReal)) = ((∑ i, f i : ℝ) : EReal) := by
  classical
  refine Finset.induction_on Finset.univ (by simp) ?_
  intro a s ha ih
  rw [Finset.sum_insert ha, Finset.sum_insert ha, ih, EReal.coe_add]

/-- One-hot sums over all experts times the experts' values are the sum over the slots of weight times value. -/
theorem onehot_sum {S N : ℕ} (e : Fin S → Fin N) (w : Fin S → ℝ) (v : Fin N → ℝ) :
    (∑ x, (∑ s, if e s = x then (w s : EReal) else 0) * (v x : EReal)) = ∑ s, (w s : EReal) * (v (e s) : EReal) := by
  have h1 : ∀ x, (∑ s, if e s = x then (w s : EReal) else 0) * (v x : EReal)
      = (((∑ s, if e s = x then w s else 0) * v x : ℝ) : EReal) := by
    intro x
    rw [EReal.coe_mul, ← sum_coe]
    congr 1
    refine Finset.sum_congr rfl fun s _ => ?_
    split <;> simp
  have h2 : ∀ s, (w s : EReal) * (v (e s) : EReal) = ((w s * v (e s) : ℝ) : EReal) := fun s => (EReal.coe_mul _ _).symm
  simp only [h1, h2, sum_coe]
  congr 1
  simp only [Finset.sum_mul]
  rw [Finset.sum_comm]
  refine Finset.sum_congr rfl fun s _ => ?_
  simp [ite_mul]

/-- A sum over 16384 indices is that of its four chunks of 4096. -/
theorem chunks (f : Fin 16384 → EReal) :
    ∑ x, f x = ∑ e : Fin 4, ∑ q : Fin 4096, f ⟨4096 * e.val + q.val, by omega⟩ := by
  rw [← Fintype.sum_prod_type']
  refine (Fintype.sum_equiv (finProdFinEquiv (m := 4) (n := 4096)) _ _ fun x => ?_).symm
  congr 1
  exact Fin.ext (by simp [finProdFinEquiv]; omega)

end Cert.Combine
-- ==== Proof.CombineClaim.lean ====
module

public import proofs.«01_k».proof.Proof.CombinePre
public import proofs.«01_k».proof.Proof.CombineMath
public import proofs.«01_k».proof.Defs
public import Idealize.ShloMosaic.Adequacy
public import Idealize.ShloMosaic.Init
public import Idealize.ShloMosaic.Lib.Quiescent

/-! The claim about the combine: the kernel's result array is the reference's, on expert numbers in range and real gates,
    activations and values. -/

@[expose] public section

noncomputable section

namespace Cert.Combine

open Idealize.ShloMosaic Idealize.ShloMosaic.TcCoe Idealize.SL.Sem

/-- The reference runs, ends and keeps its arguments. -/
theorem reference_quiet : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The same run under the precondition. -/
theorem reference_quiet_pre : Cert.quiescent_Reference7Ideal_pre_experts_finite := fun m ρ _ =>
  (θ_run Cert.Reference7Ideal.defs _ _).mono (fun r h => ⟨fun c => (h c).2, sem_eq_zero_of_no_sems (by decide) r.2⟩)
    (Cert.Reference7Ideal.Value.run (F := Ideal) m ρ)

section

open Cert.Kernel7Ideal Cert.Kernel7Ideal.Gen

/-- The sum over all the experts is the sum over the slots. -/
theorem sums_eq (I1 I2 : IVec S32768x128 32) (G A : FVec Ideal S32768x128 .f32) (U : FVec Ideal S16384x1024 .f32)
    (h1 : ∀ R k, (I1 (ix2 R k)).toNat < 128) (h2 : ∀ R k, (I2 (ix2 R k)).toNat < 128) (hG : ∀ R k, IsReal (G (ix2 R k)))
    (hA : ∀ R k, IsReal (A (ix2 R k))) (hU : ∀ x d, IsReal (U (ix2 x d))) (R : Fin 32768) (d : Fin 1024) :
    ∑ e : Fin 4, share I1 I2 G A U R d e.val = mixT (weightT G A) (pickT I1 I2 U) (ix2 R d) := by
  have hw : ∀ s, IsReal (gelu (A (ix2 R s)) * G (ix2 R s)) := fun s => real_mul (gelu_real _ (hA R s)) (hG R s)
  choose w hw using hw
  choose u hu using fun x => hU x d
  let e : Fin 128 → Fin 16384 := fun s => ⟨(I1 (ix2 R s)).toNat * 128 + (I2 (ix2 R s)).toNat, by have := h1 R s; have := h2 R s; omega⟩
  have hgive : ∀ x : Fin 16384, give I1 I2 G A R x.val = ∑ s, if e s = x then (w s : EReal) else 0 := by
    intro x
    unfold give
    refine Finset.sum_congr rfl fun s _ => ?_
    rw [hw s]
    refine if_congr ?_ rfl rfl
    have := h1 R s
    have := h2 R s
    rw [Fin.ext_iff]
    dsimp only [e]
    omega
  have hshare : ∀ c : Fin 4, share I1 I2 G A U R d c.val
      = ∑ q : Fin 4096, (∑ s, if e s = (⟨4096 * c.val + q.val, by omega⟩ : Fin 16384) then (w s : EReal) else 0)
          * (u ⟨4096 * c.val + q.val, by omega⟩ : EReal) := by
    intro c
    unfold share
    refine Finset.sum_congr rfl fun q _ => congrArg₂ (· * ·) (hgive ⟨4096 * c.val + q.val, by omega⟩) ?_
    rw [← hu]
    congr 2
    exact Fin.ext (Nat.mod_eq_of_lt (by omega))
  rw [Finset.sum_congr rfl fun c _ => hshare c,
    ← chunks (fun x => (∑ s, if e s = x then (w s : EReal) else 0) * (u x : EReal)), onehot_sum, mix_at]
  refine Finset.sum_congr rfl fun s _ => ?_
  rw [weight_at, pick_at I1 I2 U h1 h2, hw s, hu]

end

/-- An entry of the reference. -/
theorem ref_at (X : FVec Ideal Cert.Reference7Ideal.S2x16384x1024 .f32) (Gv : FVec Ideal Cert.Reference7Ideal.S2x1x1024 .f32)
    (Lg Lb : FVec Ideal Cert.Reference7Ideal.S1024 .f32) (Y : FVec Ideal Cert.Reference7Ideal.S32768x1024 .f32) (R : Fin 32768) (d : Fin 1024) :
    normT (resT X Gv Y) Lg Lb (ix2 R d) = combined X Gv Lg Lb (fun d => Y (ix2 R d)) R d := by
  rw [norm_at]
  unfold combined
  have hr : ∀ h, (⟨R.val / 16384 * 16384 + R.val % 16384, h⟩ : Fin 32768) = R := fun h => Fin.ext (by dsimp only; omega)
  refine congrFun (congrArg (lnorm · _ _) ?_) d
  funext x
  rw [res_at]
  dsimp only
  rw [hr]

/-- The kernel's result is the reference's. -/
theorem value : Cert.algebraic_Kernel7Ideal_Reference7Ideal_pre_experts_finite := by
  intro m ρ m' ρ' hpre hagree
  refine ⟨_, Cert.Kernel7Ideal.Carry.run (F := Ideal) m ρ, ?_⟩
  refine (θ_run Cert.Reference7Ideal.defs _ _).mono (fun _ h c => ⟨?_, (h c).2⟩) (Cert.Reference7Ideal.Value.run (F := Ideal) m' ρ')
  obtain ⟨h1, h2, hG, hA, hU⟩ := bounds _ _ _ _ _ _ _ _ _ (hpre c)
  obtain ⟨a0, a1, a2, a3, a4, a5, a6, a7, a8⟩ := hagree c
  rw [(h c).1, res_eq, a0, a1, a2, a3, a4, a5, a6, a7, a8]
  funext i
  rw [eq_ix2 i]
  refine (ref_at _ _ _ _ _ (i 0) (i 1)).trans (Eq.trans ?_ (result_eq m c (i 0) (i 1)).symm)
  refine congrArg (fun y => combined _ _ _ _ y (i 0) (i 1)) ?_
  funext d
  exact (sums_eq _ _ _ _ _ h1 h2 hG hA hU (i 0) d).symm

end Cert.Combine

end
-- ==== Proof.FilterMath.lean ====
module

public import Idealize.ShloMosaic.PureOps.Ideal
public import Mathlib.Data.EReal.Operations

/-! The filter network of the Hyena mixer as a formula of one time, and the two facts about sums that its products need. -/

@[expose] public section

noncomputable section

namespace Cert.Filter

open Idealize.ShloMosaic

/-- The angle of a band at a time. -/
def angle (t β : EReal) : EReal := Ideal.ofBits .f32 0x40C90FDB#32 * t * β

/-- The first hidden layer at a time: the time, the bands' cosines and negated sines against the weights' rows. -/
def inner (t : EReal) (B : Fin 16 → EReal) (W1 : Fin 33 → Fin 64 → EReal) (b1 : Fin 64 → EReal) (n : Fin 64) : EReal :=
  Ideal.sin (t * W1 0 n + (∑ b : Fin 16, Ideal.cos (angle t (B b)) * W1 ⟨1 + b.val, by omega⟩ n)
    + (∑ b : Fin 16, -Ideal.sin (angle t (B b)) * W1 ⟨17 + b.val, by omega⟩ n) + b1 n)

/-- The second hidden layer at a time. -/
def outer (t : EReal) (B : Fin 16 → EReal) (W1 : Fin 33 → Fin 64 → EReal) (b1 : Fin 64 → EReal) (W2 : Fin 64 → Fin 64 → EReal)
    (b2 : Fin 64 → EReal) (p : Fin 64) : EReal :=
  Ideal.sin ((∑ n : Fin 64, inner t B W1 b1 n * W2 n p) + b2 p)

/-- The network's output column at a time. -/
def net (t : EReal) (B : Fin 16 → EReal) (W1 : Fin 33 → Fin 64 → EReal) (b1 : Fin 64 → EReal) (W2 : Fin 64 → Fin 64 → EReal)
    (b2 : Fin 64 → EReal) (W3 : Fin 64 → Fin 2048 → EReal) (q : Fin 2048) : EReal :=
  ∑ p : Fin 64, outer t B W1 b1 W2 b2 p * W3 p q

/-- The decaying window at a time. -/
def window (t δ : EReal) : EReal := Ideal.exp (-t * δ) + Ideal.ofBits .f32 0x3D4CCCCD#32

/-- A sine is never `⊤`. -/
theorem sin_ne_top (x : EReal) : Ideal.sin x ≠ ⊤ := by
  induction x with
  | bot => exact bot_ne_top
  | top => exact bot_ne_top
  | coe r => exact EReal.coe_ne_top _

/-- A factor and its rounding error against a real factor: the two remainders add nothing to the product. -/
theorem split_mul (x : EReal) (hx : x ≠ ⊤) (r : ℝ) : x * (r : EReal) + (x * ((r : EReal) - r) + (x - x) * r) = x * r := by
  have hr : ((r : EReal) - r) = 0 := by rw [← EReal.coe_sub, sub_self]; rfl
  rw [hr, mul_zero, zero_add]
  induction x with
  | top => exact absurd rfl hx
  | coe s =>
    rw [← EReal.coe_sub, sub_self, EReal.coe_zero, zero_mul, add_zero]
  | bot =>
    show (⊥ : EReal) * r + ⊥ * r = ⊥ * r
    rcases lt_trichotomy r 0 with h | h | h
    · rw [EReal.bot_mul_coe_of_neg h]; rfl
    · subst h; rw [EReal.coe_zero, mul_zero, add_zero]
    · rw [EReal.bot_mul_coe_of_pos h]; rfl

/-- A product in three parts, summed: what the remainders' sums add to the leading sum is nothing. -/
theorem split_sum {N : ℕ} (x : Fin N → EReal) (hx : ∀ p, x p ≠ ⊤) (w : Fin N → EReal) (hw : ∀ p, ∃ r : ℝ, w p = r) :
    (∑ p, x p * w p) + ((∑ p, x p * (w p - w p)) + ∑ p, (x p - x p) * w p) = ∑ p, x p * w p := by
  rw [← Finset.sum_add_distrib, ← Finset.sum_add_distrib]
  refine Finset.sum_congr rfl fun p _ => ?_
  obtain ⟨r, hr⟩ := hw p
  rw [hr]
  exact split_mul _ (hx p) r

/-- A sum over the 33 features: the time's, the sixteen cosines' and the sixteen sines'. -/
theorem sum_features (f : Fin 33 → EReal) :
    ∑ k, f k = f 0 + (∑ b : Fin 16, f ⟨1 + b.val, by omega⟩) + ∑ b : Fin 16, f ⟨17 + b.val, by omega⟩ := by
  rw [Fin.sum_univ_add (a := 17) (b := 16) f, Fin.sum_univ_add (a := 1) (b := 16) fun i => f (Fin.castAdd 16 i)]
  rw [Fin.sum_univ_one]
  rfl

end Cert.Filter

end
-- ==== Proof.FilterRef.lean ====
module

public import proofs.«01_k».proof.Proof.FilterMath
public import proofs.«01_k».proof.Proof.Gen.Reference8Ideal.Run
public import proofs.«01_k».proof.Defs
public import Idealize.ShloMosaic.Lib.Pipeline.ValueKit

/-! The reference of the Hyena filter, read at an index. -/

@[expose] public section

noncomputable section

namespace Cert.Filter

open Cert.Reference8Ideal Cert.Reference8Ideal.Gen Idealize.ShloMosaic Idealize.ShloMosaic.TcCoe Idealize.SL.Sem

/-- The reference runs, ends and keeps its arguments. -/
theorem reference_quiet : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The sampled times. -/
def timesV : FVec Ideal S16384 .f32 :=
  Host.divf (sitofp .f32 (iotaInDim S16384 32 0)) (broadcastInDim S16384 ![] bcast_S_S16384 (constant S_ .f32 0x46800000#32))

/-- The bands' frequencies: evenly spaced. -/
def bandsV : FVec Ideal S16 .f32 :=
  (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0)

/-- The columns' decay rates: evenly spaced, made positive. -/
def deltasV : FVec Ideal S1024 .f32 :=
  (Host.absf (concatenate S1024 0 [⟨S1023, (addf (mulf (broadcastInDim S1023 ![0] bcast_S1_S1023_0 (shapeCast _ (id (constant S_ .f32 0xC0447CBD#32)) shapeCasts_S_S1)) (subf (broadcastInDim S1023 ![] bcast_S_S1023 (constant S_ .f32 0x3F800000#32)) (Host.divf (sitofp .f32 (iotaInDim S1023 32 0)) (broadcastInDim S1023 ![] bcast_S_S1023 (constant S_ .f32 0x447FC000#32))))) (mulf (broadcastInDim S1023 ![0] bcast_S1_S1023_0 (shapeCast _ (id (constant S_ .f32 0xC1759BEC#32)) shapeCasts_S_S1)) (Host.divf (sitofp .f32 (iotaInDim S1023 32 0)) (broadcastInDim S1023 ![] bcast_S_S1023 (constant S_ .f32 0x447FC000#32)))))⟩, ⟨S1, (broadcastInDim S1 ![] bcast_S_S1 (id (constant S_ .f32 0xC1759BEC#32)))⟩] concatenates_S1023_S1_S1024_d0))

/-- The bands' angles at the times. -/
def anglesV : FVec Ideal S16384x16 .f32 :=
  mulf (broadcastInDim S16384x16 ![0, 1] bcast_S16384x1_S16384x16_0_1 (mulf (broadcastInDim S16384x1 ![] bcast_S_S16384x1 (constant S_ .f32 0x40C90FDB#32)) (broadcastInDim S16384x1 ![0] bcast_S16384_S16384x1_0 timesV))) (broadcastInDim S16384x16 ![0, 1] bcast_S1x16_S16384x16_0_1 (broadcastInDim S1x16 ![1] bcast_S16_S1x16_1 bandsV))

/-- The features of the times. -/
def featV : FVec Ideal S16384x33 .f32 :=
  concatenate S16384x33 1 [⟨S16384x1, (broadcastInDim S16384x1 ![0] bcast_S16384_S16384x1_0 timesV)⟩, ⟨S16384x16, (Host.cos anglesV)⟩, ⟨S16384x16, (Host.negf (Host.sin anglesV))⟩] concatenates_S16384x1_S16384x16_S16384x16_S16384x33_d1

/-- The first hidden layer. -/
def innerV (W1 : FVec Ideal S33x64 .f32) (b1 : FVec Ideal S64 .f32) : FVec Ideal S16384x64 .f32 :=
  Host.sin (addf (Host.dotGeneral dot_S16384x33_S33x64_S16384x64_1_0_0_1_n_n none featV W1) (broadcastInDim S16384x64 ![0, 1] bcast_S1x64_S16384x64_0_1 (broadcastInDim S1x64 ![1] bcast_S64_S1x64_1 b1)))

/-- The second hidden layer. -/
def outerV (W1 : FVec Ideal S33x64 .f32) (b1 : FVec Ideal S64 .f32) (W2 : FVec Ideal S64x64 .f32) (b2 : FVec Ideal S64 .f32) : FVec Ideal S16384x64 .f32 :=
  Host.sin (addf (Host.dotGeneral dot_S16384x64_S64x64_S16384x64_1_0_0_1_n_n none (innerV W1 b1) W2) (broadcastInDim S16384x64 ![0, 1] bcast_S1x64_S16384x64_0_1 (broadcastInDim S1x64 ![1] bcast_S64_S1x64_1 b2)))

/-- The network's output. -/
def netV (W1 : FVec Ideal S33x64 .f32) (b1 : FVec Ideal S64 .f32) (W2 : FVec Ideal S64x64 .f32) (b2 : FVec Ideal S64 .f32) (W3 : FVec Ideal S64x2048 .f32) : FVec Ideal S16384x2048 .f32 :=
  Host.dotGeneral dot_S16384x64_S64x2048_S16384x2048_1_0_0_1_n_n none (outerV W1 b1 W2 b2) W3

/-- The decaying window. -/
def windowV : FVec Ideal S16384x1024 .f32 :=
  addf (Host.exp (mulf (broadcastInDim S16384x1024 ![0, 1] bcast_S16384x1_S16384x1024_0_1 (Host.negf (broadcastInDim S16384x1 ![0] bcast_S16384_S16384x1_0 timesV))) (broadcastInDim S16384x1024 ![0, 1] bcast_S1x1024_S16384x1024_0_1 (broadcastInDim S1x1024 ![1] bcast_S1024_S1x1024_1 deltasV)))) (broadcastInDim S16384x1024 ![] bcast_S_S16384x1024 (constant S_ .f32 0x3D4CCCCD#32))

/-- The forward half of the filter. -/
def forwardV (N : FVec Ideal S16384x2048 .f32) : FVec Ideal S16384x1024 .f32 :=
  mulf (extractStridedSlice S16384x1024 ![0, 0] N slices_S16384x2048_S16384x1024_0_0) windowV

/-- The backward half of the filter, in order of time. -/
def backwardV (N : FVec Ideal S16384x2048 .f32) : FVec Ideal S16384x1024 .f32 :=
  mulf (extractStridedSlice S16384x1024 ![0, 1024] N slices_S16384x2048_S16384x1024_0_1024) windowV

/-- The two-sided filter: the forward half, a zero row, and the backward half reversed without its first row. -/
def filterV (N : FVec Ideal S16384x2048 .f32) : FVec Ideal S32768x1024 .f32 :=
  concatenate S32768x1024 0 [⟨S16384x1024, forwardV N⟩, ⟨S1x1024, (broadcastInDim S1x1024 ![] bcast_S_S1x1024 (constant (F := Ideal) S_ .f32 0x00000000#32))⟩, ⟨S16383x1024, (Host.reverse [0] (extractStridedSlice S16383x1024 ![1, 0] (backwardV N) slices_S16384x1024_S16383x1024_1_0))⟩] concatenates_S16384x1024_S1x1024_S16383x1024_S32768x1024_d0

/-- The reference's result by its parts. -/
theorem out_eq (m : (ℓ : Loc nD τ sig) → Buf (Elt Ideal) ℓ) (c : Dev nD) :
    Cert.Reference8Ideal.Value.res_out0 m c = filterV (netV (m ((c : Thread nD τ).loc main_arg0)) (m ((c : Thread nD τ).loc main_arg1)) (m ((c : Thread nD τ).loc main_arg2)) (m ((c : Thread nD τ).loc main_arg3)) (m ((c : Thread nD τ).loc main_arg4))) := rfl

/-- A word's time. -/
def time (w : BitVec 32) : EReal := Ideal.div ((w.toInt : ℝ) : EReal) (Ideal.ofBits .f32 0x46800000#32)

theorem times_apply (k : Fin 16384) : timesV (ix1 k) = time (BitVec.ofNat 32 k.val) := by
  pointwise [timesV, time]
  rfl

theorem angles_apply (k : Fin 16384) (b : Fin 16) : anglesV (ix2 k b) = angle (time (BitVec.ofNat 32 k.val)) (bandsV (ix1 b)) := by
  pointwise [anglesV, angle, times_apply]

theorem feat_time (k : Fin 16384) : featV (ix2 k 0) = time (BitVec.ofNat 32 k.val) := by
  pointwise [featV, times_apply]

theorem feat_cos (k : Fin 16384) (b : Fin 16) : featV (ix2 k ⟨1 + b.val, by omega⟩) = Ideal.cos (angle (time (BitVec.ofNat 32 k.val)) (bandsV (ix1 b))) := by
  unfold featV
  refine (concatenate_apply_piece (t := S16384x33) 1 _ _ _ 1 (by show 1 < 3; decide) S16384x16 (Host.cos anglesV) rfl rfl 1 rfl (ix2 k b) ?_ rfl).trans ?_
  · intro a ha
    match a with
    | ⟨0, _⟩ => rfl
    | ⟨1, _⟩ => exact absurd rfl ha
  · pointwise [angles_apply]

theorem feat_sin (k : Fin 16384) (b : Fin 16) : featV (ix2 k ⟨17 + b.val, by omega⟩) = -Ideal.sin (angle (time (BitVec.ofNat 32 k.val)) (bandsV (ix1 b))) := by
  unfold featV
  refine (concatenate_apply_piece (t := S16384x33) 1 _ _ _ 2 (by show 2 < 3; decide) S16384x16 (Host.negf (Host.sin anglesV)) rfl rfl 17 rfl (ix2 k b) ?_ rfl).trans ?_
  · intro a ha
    match a with
    | ⟨0, _⟩ => rfl
    | ⟨1, _⟩ => exact absurd rfl ha
  · pointwise [angles_apply]

section

variable (W1 : FVec Ideal S33x64 .f32) (b1 : FVec Ideal S64 .f32) (W2 : FVec Ideal S64x64 .f32) (b2 : FVec Ideal S64 .f32) (W3 : FVec Ideal S64x2048 .f32)

theorem inner_apply (k : Fin 16384) (n : Fin 64) : innerV W1 b1 (ix2 k n)
    = inner (time (BitVec.ofNat 32 k.val)) (fun b => bandsV (ix1 b)) (fun a n => W1 (ix2 a n)) (fun n => b1 (ix1 n)) n := by
  have e : innerV W1 b1 (ix2 k n) = Ideal.sin ((∑ a : Fin 33, featV (ix2 k a) * W1 (ix2 a n)) + b1 (ix1 n)) := by
    pointwise [innerV]
  rw [e, sum_features]
  unfold inner
  rw [feat_time]
  simp only [feat_cos, feat_sin]

theorem outer_apply (k : Fin 16384) (p : Fin 64) : outerV W1 b1 W2 b2 (ix2 k p)
    = outer (time (BitVec.ofNat 32 k.val)) (fun b => bandsV (ix1 b)) (fun a n => W1 (ix2 a n)) (fun n => b1 (ix1 n))
        (fun n p => W2 (ix2 n p)) (fun p => b2 (ix1 p)) p := by
  have e : outerV W1 b1 W2 b2 (ix2 k p) = Ideal.sin ((∑ n : Fin 64, innerV W1 b1 (ix2 k n) * W2 (ix2 n p)) + b2 (ix1 p)) := by
    pointwise [outerV]
  rw [e]
  simp only [inner_apply]
  rfl

theorem net_apply (k : Fin 16384) (q : Fin 2048) : netV W1 b1 W2 b2 W3 (ix2 k q)
    = net (time (BitVec.ofNat 32 k.val)) (fun b => bandsV (ix1 b)) (fun a n => W1 (ix2 a n)) (fun n => b1 (ix1 n))
        (fun n p => W2 (ix2 n p)) (fun p => b2 (ix1 p)) (fun p q => W3 (ix2 p q)) q := by
  have e : netV W1 b1 W2 b2 W3 (ix2 k q) = ∑ p : Fin 64, outerV W1 b1 W2 b2 (ix2 k p) * W3 (ix2 p q) := by
    pointwise [netV]
  rw [e]
  simp only [outer_apply]
  rfl

end

theorem window_apply (k : Fin 16384) (d : Fin 1024) : windowV (ix2 k d) = window (time (BitVec.ofNat 32 k.val)) (deltasV (ix1 d)) := by
  pointwise [windowV, window, times_apply]

theorem forward_apply (N : FVec Ideal S16384x2048 .f32) (k : Fin 16384) (d : Fin 1024) :
    forwardV N (ix2 k d) = N (ix2 k ⟨d.val, by omega⟩) * window (time (BitVec.ofNat 32 k.val)) (deltasV (ix1 d)) := by
  pointwise [forwardV, window_apply]

theorem backward_apply (N : FVec Ideal S16384x2048 .f32) (k : Fin 16384) (d : Fin 1024) :
    backwardV N (ix2 k d) = N (ix2 k ⟨1024 + d.val, by omega⟩) * window (time (BitVec.ofNat 32 k.val)) (deltasV (ix1 d)) := by
  pointwise [backwardV, window_apply]

/-- A row of the forward half. -/
theorem filter_forward (N : FVec Ideal S16384x2048 .f32) (R : Fin 32768) (h : R.val < 16384) (d : Fin 1024) :
    filterV N (ix2 R d) = forwardV N (ix2 ⟨R.val, h⟩ d) := by
  unfold filterV
  refine concatenate_apply_piece (t := S32768x1024) 0 _ _ _ 0 (by show 0 < 3; decide) S16384x1024 (forwardV N) rfl rfl 0 rfl (ix2 ⟨R.val, h⟩ d) ?_ (Nat.zero_add _)
  intro a ha
  match a with
  | ⟨0, _⟩ => exact absurd rfl ha
  | ⟨1, _⟩ => rfl

/-- The zero row. -/
theorem filter_zero (N : FVec Ideal S16384x2048 .f32) (R : Fin 32768) (h : R.val = 16384) (d : Fin 1024) :
    filterV N (ix2 R d) = 0 := by
  unfold filterV
  refine (concatenate_apply_piece (t := S32768x1024) 0 _ _ _ 1 (by show 1 < 3; decide) S1x1024 _ rfl rfl 16384 rfl (ix2 0 d) ?_ (by show 16384 + 0 = R.val; omega)).trans ?_
  · intro a ha
    match a with
    | ⟨0, _⟩ => exact absurd rfl ha
    | ⟨1, _⟩ => rfl
  · pointwise

/-- A row of the backward half: the row that lies as far from the end. -/
theorem filter_backward (N : FVec Ideal S16384x2048 .f32) (R : Fin 32768) (h : 16384 < R.val) (d : Fin 1024) :
    filterV N (ix2 R d) = backwardV N (ix2 ⟨32768 - R.val, by omega⟩ d) := by
  unfold filterV
  refine (concatenate_apply_piece (t := S32768x1024) 0 _ _ _ 2 (by show 2 < 3; decide) S16383x1024 _ rfl rfl 16385 rfl (ix2 ⟨R.val - 16385, by have := R.isLt; omega⟩ d) ?_ (by show 16385 + (R.val - 16385) = R.val; omega)).trans ?_
  · intro a ha
    match a with
    | ⟨0, _⟩ => exact absurd rfl ha
    | ⟨1, _⟩ => rfl
  · refine congrArg (backwardV N) (funext fun a => Fin.ext ?_)
    match a with
    | ⟨0, _⟩ => show 1 + (16383 - (R.val - 16385 + 1)) = 32768 - R.val; have := R.isLt; omega
    | ⟨1, _⟩ => show 0 + d.val = d.val; omega

end Cert.Filter

end
-- ==== Proof.FilterBody.lean ====
module

public import proofs.«01_k».proof.Proof.FilterRef
public import proofs.«01_k».proof.Proof.Gen.Kernel8Ideal.Value
public import Idealize.ShloMosaic.Lib.Pipeline.ValueKit

/-! What the filter's body stores, entry by entry. -/

@[expose] public section

noncomputable section

namespace Cert.Filter

open Cert.Kernel8Ideal Cert.Kernel8Ideal.Gen Idealize.ShloMosaic Idealize.ShloMosaic.TcCoe Idealize.SL.Sem

/-- The word of a block's row. -/
theorem row_word (i : grid0.Coords) (r : Fin 512) : k0_pay2 i (ix2 r 0) = BitVec.ofNat 32 ((i 0).val * 512 + r.val) := by
  pointwise [k0_pay2]
  show BitVec.ofNat 32 (i 0).val * 512#32 + BitVec.ofNat 32 _ = _
  rw [BitVec.ofNat_add, BitVec.ofNat_mul]

/-- The time of a block's row. -/
theorem row_time (i : grid0.Coords) (r : Fin 512) :
    k0_pay3 (F := Ideal) i (ix2 r 0)
      = time (Scalar.select (IntOp.cmpi .slt (k0_pay2 i (ix2 r 0)) 16384#32) (k0_pay2 i (ix2 r 0)) (IntOp.subi 32768#32 (k0_pay2 i (ix2 r 0)))) := by
  pointwise [k0_pay3, time]
  rfl

/-- The first hidden layer of a block. -/
theorem hidden_apply (i : grid0.Coords) (B : Vec Ideal S1x16 .f32) (w : Vec Ideal S1x64 .f32) (wc ws : Vec Ideal S16x64 .f32)
    (b1 : Vec Ideal S1x64 .f32) (r : Fin 512) (n : Fin 64) :
    k0_pay4 i B w wc ws b1 (ix2 r n)
      = Ideal.sin (k0_pay3 (F := Ideal) i (ix2 r 0) * w (ix2 0 n)
          + (∑ b : Fin 16, Ideal.cos (angle (k0_pay3 (F := Ideal) i (ix2 r 0)) (B (ix2 0 b))) * wc (ix2 b n))
          + (∑ b : Fin 16, -Ideal.sin (angle (k0_pay3 (F := Ideal) i (ix2 r 0)) (B (ix2 0 b))) * ws (ix2 b n)) + b1 (ix2 0 n)) := by
  pointwise [k0_pay4, angle, zero_sub]

/-- The network's output in its three parts. -/
def parts (h : Fin 64 → EReal) (W3 : Fin 64 → Fin 2048 → EReal) (q : Fin 2048) : EReal :=
  (∑ p, h p * W3 p q) + ((∑ p, h p * (W3 p q - W3 p q)) + ∑ p, (h p - h p) * W3 p q)

/-- The windowed output of a block. -/
theorem taps_apply (v3 : IVec S512x1 32) (T : FVec Ideal S512x1 .f32) (H : FVec Ideal S512x64 .f32) (W2 : Vec Ideal S64x64 .f32)
    (b2 : Vec Ideal S1x64 .f32) (W3 : Vec Ideal S64x2048 .f32) (D : Vec Ideal S1x1024 .f32) (r : Fin 512) (d : Fin 1024) :
    k0_pay5 v3 T H W2 b2 W3 D (ix2 r d)
      = Scalar.select (IntOp.cmpi .slt (v3 (ix2 r 0)) 16384#32)
          (parts (fun p => Ideal.sin ((∑ n, H (ix2 r n) * W2 (ix2 n p)) + b2 (ix2 0 p))) (fun p q => W3 (ix2 p q)) ⟨d.val, by omega⟩)
          (parts (fun p => Ideal.sin ((∑ n, H (ix2 r n) * W2 (ix2 n p)) + b2 (ix2 0 p))) (fun p q => W3 (ix2 p q)) ⟨1024 + d.val, by omega⟩)
        * window (T (ix2 r 0)) (D (ix2 0 d)) := by
  pointwise [k0_pay5, parts, window, zero_sub]

/-- The store: zero at the row of the length, the windowed output elsewhere. -/
theorem store_apply (v : FVec Ideal S512x1024 .f32) (z : EReal) (v3 : IVec S512x1 32) (r : Fin 512) (d : Fin 1024) :
    k0_pay1 (F := Ideal) v z (k0_pay6 v3) (ix2 r d) = Scalar.select (IntOp.cmpi .eq (v3 (ix2 r 0)) 16384#32) z (v (ix2 r d)) := by
  pointwise [k0_pay1, k0_pay6]

/-- The parts are the network's output, where the last weights are real. -/
theorem parts_eq (t : EReal) (B : Fin 16 → EReal) (W1 : Fin 33 → Fin 64 → EReal) (b1 : Fin 64 → EReal) (W2 : Fin 64 → Fin 64 → EReal)
    (b2 : Fin 64 → EReal) (W3 : Fin 64 → Fin 2048 → EReal) (hw : ∀ p q, ∃ r : ℝ, W3 p q = r) (q : Fin 2048) :
    parts (outer t B W1 b1 W2 b2) W3 q = net t B W1 b1 W2 b2 W3 q :=
  split_sum _ (fun _ => sin_ne_top _) _ fun p => hw p q

/-! The row's word against the length. -/

theorem slt_word (R : ℕ) (h : R < 32768) : IntOp.cmpi .slt (BitVec.ofNat 32 R) 16384#32 = BitVec.ofBool (decide (R < 16384)) := by
  show BitVec.ofBool ((BitVec.ofNat 32 R).slt 16384#32) = _
  congr 1
  rw [BitVec.slt_eq_decide]
  have e : (BitVec.ofNat 32 R).toInt = R := by
    rw [BitVec.toInt_eq_toNat_cond, BitVec.toNat_ofNat, Nat.mod_eq_of_lt (by omega), if_pos (by omega)]
  have e' : (16384#32).toInt = 16384 := by decide
  rw [e, e']
  exact decide_eq_decide.2 (by omega)

theorem eq_word (R : ℕ) (h : R < 32768) : IntOp.cmpi .eq (BitVec.ofNat 32 R) 16384#32 = BitVec.ofBool (decide (R = 16384)) := by
  show BitVec.ofBool (BitVec.ofNat 32 R == 16384#32) = _
  congr 1
  rw [Bool.eq_iff_iff]
  simp only [beq_iff_eq, decide_eq_true_eq]
  constructor
  · intro e
    have := congrArg BitVec.toNat e
    rw [BitVec.toNat_ofNat, BitVec.toNat_ofNat] at this
    omega
  · intro e; rw [e]

theorem sub_word (R : ℕ) (h : R ≤ 32768) : IntOp.subi 32768#32 (BitVec.ofNat 32 R) = BitVec.ofNat 32 (32768 - R) := by
  show 32768#32 - BitVec.ofNat 32 R = _
  apply BitVec.eq_of_toNat_eq
  rw [BitVec.toNat_sub, BitVec.toNat_ofNat, BitVec.toNat_ofNat, BitVec.toNat_ofNat]
  omega

theorem select_true (x y : EReal) : Scalar.select (BitVec.ofBool true) x y = x := rfl
theorem select_false (x y : EReal) : Scalar.select (BitVec.ofBool false) x y = y := rfl
theorem select_word_true (x y : BitVec 32) : Scalar.select (BitVec.ofBool true) x y = x := rfl
theorem select_word_false (x y : BitVec 32) : Scalar.select (BitVec.ofBool false) x y = y := rfl

end Cert.Filter

end
-- ==== Proof.FilterClaim.lean ====
module

public import proofs.«01_k».proof.Proof.FilterBody
public import proofs.«01_k».proof.Proof.CombinePre
public import proofs.«01_k».proof.Proof.Gen.Pre_filter_finite
public import Idealize.ShloMosaic.Lib.Claim

/-! The Hyena filter: the kernel's array is the reference's, entry by entry. -/

@[expose] public section

noncomputable section

namespace Cert.Filter

open Cert.Kernel8Ideal Cert.Kernel8Ideal.Gen Idealize.ShloMosaic Idealize.ShloMosaic.TcCoe Idealize.SL.Sem

/-- The reference runs, ends and keeps its arguments under the precondition too. -/
theorem reference_quiet_pre : Cert.quiescent_Reference8Ideal_pre_filter_finite := fun m ρ _ =>
  (θ_run Cert.Reference8Ideal.defs _ _).mono (fun r h => ⟨fun c => (h c).2, sem_eq_zero_of_no_sems (by decide) r.2⟩)
    (Cert.Reference8Ideal.Value.run (F := Ideal) m ρ)

section

open Cert.Pre_filter_finite Cert.Pre_filter_finite.Gen

/-- The precondition: the last weights are real numbers. -/
theorem finite (W1 : FVec Ideal Pre_filter_finite.S33x64 .f32) (b1 : FVec Ideal Pre_filter_finite.S64 .f32) (W2 : FVec Ideal Pre_filter_finite.S64x64 .f32) (b2 : FVec Ideal Pre_filter_finite.S64 .f32)
    (W3 : FVec Ideal Pre_filter_finite.S64x2048 .f32) (h : Pre_filter_finite.fn (F := Ideal) W1 b1 W2 b2 W3 = fun _ => 1#1) : ∀ p q, ∃ r : ℝ, W3 (ix2 p q) = r := by
  have h0 := congrFun h (fun i => i.elim0)
  dsimp only [Pre_filter_finite.fn] at h0
  exact fun p q => Cert.Combine.real_of_bits _ (Host.reduce_andi_all _ _ _ _ _ h0 (ix2 p q))

end

/-- Where each window's block lies: every operand is one block, and the result's row blocks follow the grid. -/
theorem idx : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ (grid0.coords t 0).val = t.val := by decide +kernel

theorem tlt (t : Fin cfg0.N) : t.val < 64 := Nat.lt_of_lt_of_eq t.isLt N_0

/-- The row of the result that a point's block row is. -/
abbrev rowOf (t : Fin cfg0.N) (r : Fin 512) : Fin 32768 := ⟨t.val * 512 + r.val, by have := tlt t; omega⟩

/-- The entry of the result that a point's block entry lands on. -/
theorem cell (t : Fin cfg0.N) (r : Fin 512) (d : Fin 1024) :
    ((View.whole main_v10).slice (win0_9.rect t)).emb (ix2 r d) = ix2 (rowOf t r) d := by
  blk_ext [idx t]

variable (m : (ℓ : Loc nD τ sig) → Buf (Elt Ideal) ℓ)

/-! The blocks of a point as entries of the arguments. -/

theorem blk_w (c : Dev nD) (t : Fin cfg0.N) (n : Fin 64) : iblk m c 0 t (ix2 0 n) = (m ((c : Thread nD τ).loc main_arg0) : Vec Ideal S33x64 .f32) (ix2 0 n) := by
  unfold iblk
  rw [View.read_apply]
  show V m c main_v5 _ = _
  have e : (V m c main_v5 : Vec Ideal S1x64 .f32) = extractStridedSlice S1x64 ![0, 0] (m ((c : Thread nD τ).loc main_arg0) : Vec Ideal S33x64 .f32) slices_S33x64_S1x64_0_0 := by
    entry_read
    rfl
  rw [e]
  pointwise
  blk_ext [idx t]

theorem blk_wc (c : Dev nD) (t : Fin cfg0.N) (b : Fin 16) (n : Fin 64) : iblk m c 1 t (ix2 b n) = (m ((c : Thread nD τ).loc main_arg0) : Vec Ideal S33x64 .f32) (ix2 ⟨1 + b.val, by omega⟩ n) := by
  unfold iblk
  rw [View.read_apply]
  show V m c main_v6 _ = _
  have e : (V m c main_v6 : Vec Ideal S16x64 .f32) = extractStridedSlice S16x64 ![1, 0] (m ((c : Thread nD τ).loc main_arg0) : Vec Ideal S33x64 .f32) slices_S33x64_S16x64_1_0 := by
    entry_read
    rfl
  rw [e]
  pointwise
  blk_ext [idx t]

theorem blk_ws (c : Dev nD) (t : Fin cfg0.N) (b : Fin 16) (n : Fin 64) : iblk m c 2 t (ix2 b n) = (m ((c : Thread nD τ).loc main_arg0) : Vec Ideal S33x64 .f32) (ix2 ⟨17 + b.val, by omega⟩ n) := by
  unfold iblk
  rw [View.read_apply]
  show V m c main_v7 _ = _
  have e : (V m c main_v7 : Vec Ideal S16x64 .f32) = extractStridedSlice S16x64 ![17, 0] (m ((c : Thread nD τ).loc main_arg0) : Vec Ideal S33x64 .f32) slices_S33x64_S16x64_17_0 := by
    entry_read
    rfl
  rw [e]
  pointwise
  blk_ext [idx t]

theorem blk_b1 (c : Dev nD) (t : Fin cfg0.N) (n : Fin 64) : iblk m c 3 t (ix2 0 n) = (m ((c : Thread nD τ).loc main_arg1) : Vec Ideal S64 .f32) (ix1 n) := by
  unfold iblk
  rw [View.read_apply]
  show V m c main_v8 _ = _
  have e : (V m c main_v8 : Vec Ideal S1x64 .f32) = shapeCast S1x64 (m ((c : Thread nD τ).loc main_arg1) : Vec Ideal S64 .f32) shapeCasts_S64_S1x64 := by
    entry_read
    rfl
  rw [e]
  pointwise
  blk_ext [idx t]

theorem blk_w2 (c : Dev nD) (t : Fin cfg0.N) (n p : Fin 64) : iblk m c 4 t (ix2 n p) = (m ((c : Thread nD τ).loc main_arg2) : Vec Ideal S64x64 .f32) (ix2 n p) := by
  blk_ext [iblk, V, idx t]

theorem blk_b2 (c : Dev nD) (t : Fin cfg0.N) (n : Fin 64) : iblk m c 5 t (ix2 0 n) = (m ((c : Thread nD τ).loc main_arg3) : Vec Ideal S64 .f32) (ix1 n) := by
  unfold iblk
  rw [View.read_apply]
  show V m c main_v9 _ = _
  have e : (V m c main_v9 : Vec Ideal S1x64 .f32) = shapeCast S1x64 (m ((c : Thread nD τ).loc main_arg3) : Vec Ideal S64 .f32) shapeCasts_S64_S1x64 := by
    entry_read
    rfl
  rw [e]
  pointwise
  blk_ext [idx t]

theorem blk_w3 (c : Dev nD) (t : Fin cfg0.N) (p : Fin 64) (q : Fin 2048) : iblk m c 6 t (ix2 p q) = (m ((c : Thread nD τ).loc main_arg4) : Vec Ideal S64x2048 .f32) (ix2 p q) := by
  blk_ext [iblk, V, idx t]

theorem blk_bands (c : Dev nD) (t : Fin cfg0.N) (b : Fin 16) : iblk m c 7 t (ix2 0 b) = bandsV (ix1 b) := by
  unfold iblk
  rw [View.read_apply]
  show V m c main_v1 _ = _
  have e : (V m c main_v1 : Vec Ideal S1x16 .f32) = shapeCast S1x16 bandsV shapeCasts_S16_S1x16 := by
    entry_read
    rfl
  rw [e]
  generalize bandsV = Q
  pointwise
  blk_ext [idx t]

theorem blk_deltas (c : Dev nD) (t : Fin cfg0.N) (d : Fin 1024) : iblk m c 8 t (ix2 0 d) = deltasV (ix1 d) := by
  unfold iblk
  rw [View.read_apply]
  show V m c main_v4 _ = _
  have e : (V m c main_v4 : Vec Ideal S1x1024 .f32) = shapeCast S1x1024 deltasV shapeCasts_S1024_S1x1024 := by
    entry_read
    rfl
  rw [e]
  generalize deltasV = Q
  pointwise
  blk_ext [idx t]

/-- The body's second hidden layer at a row is the network's at the row's time. -/
theorem outer_eq (c : Dev nD) (t : Fin cfg0.N) (r : Fin 512) (p : Fin 64) :
    Ideal.sin ((∑ n, k0_pay4 (grid0.coords t) (iblk m c 7 t) (iblk m c 0 t) (iblk m c 1 t) (iblk m c 2 t) (iblk m c 3 t) (ix2 r n) * (iblk m c 4 t : Vec Ideal S64x64 .f32) (ix2 n p)) + (iblk m c 5 t : Vec Ideal S1x64 .f32) (ix2 0 p))
      = outer (k0_pay3 (F := Ideal) (grid0.coords t) (ix2 r 0)) (fun b => bandsV (ix1 b)) (fun a n => (m ((c : Thread nD τ).loc main_arg0) : Vec Ideal S33x64 .f32) (ix2 a n))
          (fun n => (m ((c : Thread nD τ).loc main_arg1) : Vec Ideal S64 .f32) (ix1 n)) (fun n p => (m ((c : Thread nD τ).loc main_arg2) : Vec Ideal S64x64 .f32) (ix2 n p))
          (fun p => (m ((c : Thread nD τ).loc main_arg3) : Vec Ideal S64 .f32) (ix1 p)) p := by
  unfold outer inner
  simp only [hidden_apply, blk_w m c t, blk_wc m c t, blk_ws m c t, blk_b1 m c t, blk_w2 m c t, blk_b2 m c t, blk_bands m c t]

/-- What a point stores is the filter's entry there. -/
theorem block_eq (c : Dev nD) (hw : ∀ p q, ∃ x : ℝ, ((m ((c : Thread nD τ).loc main_arg4) : Vec Ideal S64x2048 .f32) (ix2 p q) : EReal) = (x : EReal)) (t : Fin cfg0.N) (r : Fin 512) (d : Fin 1024) :
    k0_pay1 (k0_pay5 (k0_pay2 (grid0.coords t)) (k0_pay3 (F := Ideal) (grid0.coords t)) (k0_pay4 (grid0.coords t) (iblk m c 7 t) (iblk m c 0 t) (iblk m c 1 t) (iblk m c 2 t) (iblk m c 3 t)) (iblk m c 4 t) (iblk m c 5 t) (iblk m c 6 t) (iblk m c 8 t))
        (Scalar.ofBits .f32 0x00000000#32) (k0_pay6 (k0_pay2 (grid0.coords t))) (ix2 r d)
      = filterV (netV (m ((c : Thread nD τ).loc main_arg0)) (m ((c : Thread nD τ).loc main_arg1)) (m ((c : Thread nD τ).loc main_arg2)) (m ((c : Thread nD τ).loc main_arg3)) (m ((c : Thread nD τ).loc main_arg4))) (ix2 (rowOf t r) d) := by
  have hR := (rowOf t r).isLt
  have hword : k0_pay2 (grid0.coords t) (ix2 r 0) = BitVec.ofNat 32 (rowOf t r).val := by
    rw [row_word, (idx t).2.2.2.2.2.2.2.2.2.2]
  rw [store_apply, taps_apply]
  simp only [outer_eq m c t r, blk_w3 m c t, blk_deltas m c t]
  rw [parts_eq _ _ _ _ _ _ _ hw, parts_eq _ _ _ _ _ _ _ hw, row_time, hword, slt_word _ hR, eq_word _ hR, sub_word _ hR.le]
  generalize rowOf t r = R
  rcases lt_trichotomy R.val 16384 with h | h | h
  · rw [filter_forward _ R h d, forward_apply, net_apply, decide_eq_true h, decide_eq_false (by omega), select_false, select_true, select_word_true]
  · rw [filter_zero _ R h d, decide_eq_true h, select_true]
    exact Ideal.ofBits_zero_f32
  · rw [filter_backward _ R h d, backward_apply, net_apply, decide_eq_false (by omega), decide_eq_false (by omega), select_false, select_false, select_word_false]

/-- The kernel's array is the reference's. -/
theorem value : Cert.algebraic_Kernel8Ideal_Reference8Ideal_pre_filter_finite := by
  intro m ρ m' ρ' hpre hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  have hw := finite _ _ _ _ _ (hpre c)
  obtain ⟨a0, a1, a2, a3, a4⟩ := hagree c
  rw [(h c).1]
  refine (out_eq m' c).trans ?_
  rw [a0, a1, a2, a3, a4]
  symm
  refine (dats m 0 c).arrAt_eq_of_covers 9 _ (by decide +kernel) fun t hf y => ?_
  blk_simp
  rw [after0_9]
  frame_out
  rw [eq_ix2 y]
  refine (block_eq m c hw t (y 0) (y 1)).trans ?_
  exact (congrArg _ (cell t (y 0) (y 1))).symm

end Cert.Filter

end
-- ==== Proof.NormClaim.lean ====
module

public import proofs.«01_k».proof.Proof.CombineClaim
public import proofs.«01_k».proof.Proof.Gen.Kernel9Ideal.Value
public import proofs.«01_k».proof.Proof.Gen.Reference9Ideal.Run
public import Idealize.ShloMosaic.Lib.Claim

/-! The residual and norm after a mixer: the kernel's array is the reference's, entry by entry. -/

@[expose] public section

noncomputable section

namespace Cert.Norm

open Cert.Kernel9Ideal Cert.Kernel9Ideal.Gen Idealize.ShloMosaic Idealize.ShloMosaic.TcCoe Idealize.SL.Sem
open Cert.Combine (resid mean lnorm combined resT normT)

/-- The reference runs, ends and keeps its arguments. -/
theorem reference_quiet : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference's result: the layer norm of the residual sum. -/
theorem out_eq (m : (ℓ : Loc Cert.Reference9Ideal.nD Cert.Reference9Ideal.τ Cert.Reference9Ideal.sig) → Buf (Elt Ideal) ℓ) (c : Dev Cert.Reference9Ideal.nD) :
    Cert.Reference9Ideal.Value.res_out0 m c
      = normT (resT (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg2))
          (m ((c.tc : Thread Cert.Reference9Ideal.nD Cert.Reference9Ideal.τ).loc Cert.Reference9Ideal.main_arg1)))
        (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) := rfl

/-- Where each window's block lies at a grid point. -/
theorem idx : ∀ t : Fin grid0.N, win0_0.index t = ![t.val, 0] ∧ win0_1.index t = ![t.val, 0] ∧ win0_2.index t = ![t.val / 32, 0, 0] ∧ win0_3.index t = ![0, 0, 0] ∧ win0_4.index t = ![0, 0, 0] ∧ win0_5.index t = ![t.val, 0] := by decide +kernel

theorem tlt (t : Fin cfg0.N) : t.val < 64 := Nat.lt_of_lt_of_eq t.isLt N_0

/-- The row of the result that a point's block row is. -/
abbrev rowOf (t : Fin cfg0.N) (r : Fin 512) : Fin 32768 := ⟨t.val * 512 + r.val, by have := tlt t; omega⟩

/-- The body's store at an entry: the layer norm of the residual row. -/
theorem pay_apply (x y : Vec Ideal S512x1024 .f32) (g lg lb : Vec Ideal S1x1x1024 .f32) (r : Fin 512) (d : Fin 1024) :
    k0_pay1 x y g lg lb (ix2 r d)
      = lnorm (resid (fun d => x (ix2 r d)) (fun d => g (ix3 0 0 d)) (fun d => y (ix2 r d))) (fun d => lg (ix3 0 0 d)) (fun d => lb (ix3 0 0 d)) d := by
  pointwise [k0_pay1, lnorm, mean, resid]

/-- The entry of the result that a point's block entry lands on. -/
theorem cell (t : Fin cfg0.N) (r : Fin 512) (d : Fin 1024) :
    ((View.whole main_v3).slice (win0_5.rect t)).emb (ix2 r d) = ix2 (rowOf t r) d := by
  blk_ext [idx t]

variable (m : (ℓ : Loc nD τ sig) → Buf (Elt Ideal) ℓ)

/-! The blocks of a point as entries of the arguments. -/

theorem blk_x (c : Dev nD) (t : Fin cfg0.N) (r : Fin 512) (d : Fin 1024) : iblk m c 0 t (ix2 r d) = (m ((c : Thread nD τ).loc main_arg0) : Vec Ideal S2x16384x1024 .f32) (ix3 ⟨(rowOf t r).val / 16384, by have := (rowOf t r).isLt; omega⟩ ⟨(rowOf t r).val % 16384, by omega⟩ d) := by
  have := tlt t
  unfold iblk
  rw [View.read_apply]
  show V m c main_v0 _ = _
  entry_read
  pointwise
  blk_ext [idx t]

theorem blk_y (c : Dev nD) (t : Fin cfg0.N) (r : Fin 512) (d : Fin 1024) : iblk m c 1 t (ix2 r d) = (m ((c : Thread nD τ).loc main_arg1) : Vec Ideal S32768x1024 .f32) (ix2 (rowOf t r) d) := by
  have := tlt t
  blk_ext [iblk, V, idx t]

theorem blk_g (c : Dev nD) (t : Fin cfg0.N) (r : Fin 512) (d : Fin 1024) : iblk m c 2 t (ix3 0 0 d) = (m ((c : Thread nD τ).loc main_arg2) : Vec Ideal S2x1x1024 .f32) (ix3 ⟨(rowOf t r).val / 16384, by have := (rowOf t r).isLt; omega⟩ 0 d) := by
  have := tlt t
  blk_ext [iblk, V, idx t]

theorem blk_lg (c : Dev nD) (t : Fin cfg0.N) (d : Fin 1024) : iblk m c 3 t (ix3 0 0 d) = (m ((c : Thread nD τ).loc main_arg3) : Vec Ideal S1024 .f32) (ix1 d) := by
  unfold iblk
  rw [View.read_apply]
  show V m c main_v1 _ = _
  entry_read
  pointwise
  blk_ext [idx t]

theorem blk_lb (c : Dev nD) (t : Fin cfg0.N) (d : Fin 1024) : iblk m c 4 t (ix3 0 0 d) = (m ((c : Thread nD τ).loc main_arg4) : Vec Ideal S1024 .f32) (ix1 d) := by
  unfold iblk
  rw [View.read_apply]
  show V m c main_v2 _ = _
  entry_read
  pointwise
  blk_ext [idx t]

/-- What a point stores is the reference's entry there. -/
theorem block_eq (c : Dev nD) (t : Fin cfg0.N) (r : Fin 512) (d : Fin 1024) :
    k0_pay1 (iblk m c 0 t) (iblk m c 1 t) (iblk m c 2 t) (iblk m c 3 t) (iblk m c 4 t) (ix2 r d)
      = normT (resT (m ((c : Thread nD τ).loc main_arg0)) (m ((c : Thread nD τ).loc main_arg2)) (m ((c : Thread nD τ).loc main_arg1)))
          (m ((c : Thread nD τ).loc main_arg3)) (m ((c : Thread nD τ).loc main_arg4)) (ix2 (rowOf t r) d) := by
  rw [pay_apply]
  simp only [blk_x m c t r, blk_y m c t r, blk_g m c t r, blk_lg m c t, blk_lb m c t]
  exact (Cert.Combine.ref_at _ _ _ _ _ (rowOf t r) d).symm

/-- The kernel's array is the reference's. -/
theorem value : Cert.algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨?_, (h c).2⟩) (Cert.Reference9Ideal.Value.run (F := Ideal) m' ρ')
  obtain ⟨a0, a1, a2, a3, a4⟩ := hagree c
  rw [(h c).1]
  refine (out_eq m' c).trans ?_
  rw [a0, a1, a2, a3, a4]
  symm
  refine (dats m 0 c).arrAt_eq_of_covers 5 _ (by decide +kernel) fun t hf y => ?_
  blk_simp
  rw [after0_5]
  frame_out
  rw [eq_ix2 y]
  refine (block_eq m c t (y 0) (y 1)).trans ?_
  exact (congrArg _ (cell t (y 0) (y 1))).symm

end Cert.Norm

end
-- ==== Proof.Modulation.lean ====
module

public import proofs.«01_k».proof.Defs
public import proofs.«01_k».proof.Proof.Gen.Kernel10Ideal.Value
public import proofs.«01_k».proof.Proof.Gen.Reference10Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The modulation: the product of the conditions, through their gate, with the layer's matrix is the reference's, entry by entry. -/

@[expose] public section

noncomputable section

namespace Cert.Modulation

open Cert.Kernel10Ideal Cert.Kernel10Ideal.Gen Idealize.ShloMosaic Idealize.ShloMosaic.TcCoe Idealize.SL.Sem

/-- The reference runs, ends and keeps its arguments. -/
theorem reference_quiet : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Where each window's block lies at a grid point: the conditions are one block, the columns follow the grid. -/
theorem idx : ∀ t : Fin grid0.N, win0_0.index t = ![0, 0] ∧ win0_1.index t = ![0, t.val] ∧ win0_2.index t = ![0, t.val] ∧ win0_3.index t = ![0, t.val] := by decide +kernel

theorem tlt (t : Fin cfg0.N) : t.val < 3 := Nat.lt_of_lt_of_eq t.isLt N_0

/-- One entry of the product: the gated condition against the weight's column, and the bias. -/
def entry (X : Vec Ideal S8x1024 .f32) (W : Vec Ideal S1024x6144 .f32) (B : Vec Ideal S6144 .f32) (R : Fin 8) (q : Fin 6144) : EReal :=
  (∑ d : Fin 1024, X (ix2 R d) * Ideal.logistic (X (ix2 R d)) * W (ix2 d q)) + B (ix1 q)

/-- The column that a point's block entry is. -/
abbrev colOf (t : Fin cfg0.N) (q : Fin 2048) : Fin 6144 := ⟨t.val * 2048 + q.val, by have := tlt t; omega⟩

/-- The body's store at an entry. -/
theorem pay_apply (x : Vec Ideal S8x1024 .f32) (w : Vec Ideal S1024x2048 .bf16) (b : Vec Ideal S1x2048 .f32) (r : Fin 8) (q : Fin 2048) :
    k0_pay1 x w b (ix2 r q) = (∑ d : Fin 1024, x (ix2 r d) * Ideal.logistic (x (ix2 r d)) * w (ix2 d q)) + b (ix2 0 q) := by
  pointwise [k0_pay1]

/-- The entry of the result that a point's block entry lands on. -/
theorem cell (t : Fin cfg0.N) (r : Fin 8) (q : Fin 2048) :
    ((View.whole main_v2).slice (win0_3.rect t)).emb (ix2 r q) = ix2 r (colOf t q) := by
  blk_ext [idx t]

variable (m : (ℓ : Loc nD τ sig) → Buf (Elt Ideal) ℓ)

/-! The blocks of a point as entries of the arguments. -/

theorem blk_x (c : Dev nD) (t : Fin cfg0.N) (r : Fin 8) (d : Fin 1024) : iblk m c 0 t (ix2 r d) = (m ((c : Thread nD τ).loc main_arg0) : Vec Ideal S8x1024 .f32) (ix2 r d) := by
  blk_ext [iblk, V, idx t]

theorem blk_w (c : Dev nD) (t : Fin cfg0.N) (d : Fin 1024) (q : Fin 2048) : iblk m c 1 t (ix2 d q) = (m ((c : Thread nD τ).loc main_arg1) : Vec Ideal S1024x6144 .f32) (ix2 d (colOf t q)) := by
  have := tlt t
  unfold iblk
  rw [View.read_apply]
  show V m c main_v0 _ = _
  entry_read
  pointwise
  blk_ext [idx t]

theorem blk_b (c : Dev nD) (t : Fin cfg0.N) (q : Fin 2048) : iblk m c 2 t (ix2 0 q) = (m ((c : Thread nD τ).loc main_arg2) : Vec Ideal S6144 .f32) (ix1 (colOf t q)) := by
  have := tlt t
  unfold iblk
  rw [View.read_apply]
  show V m c main_v1 _ = _
  entry_read
  pointwise
  blk_ext [idx t]

/-- What a point stores is the product's entry there. -/
theorem block_eq (c : Dev nD) (t : Fin cfg0.N) (r : Fin 8) (q : Fin 2048) :
    k0_pay1 (iblk m c 0 t) (iblk m c 1 t) (iblk m c 2 t) (ix2 r q)
      = entry (m ((c : Thread nD τ).loc main_arg0) : Vec Ideal S8x1024 .f32) (m ((c : Thread nD τ).loc main_arg1) : Vec Ideal S1024x6144 .f32) (m ((c : Thread nD τ).loc main_arg2) : Vec Ideal S6144 .f32) r (colOf t q) := by
  rw [pay_apply]
  unfold entry
  simp only [blk_x m c t r, blk_w m c t, blk_b m c t]

/-- The kernel's array is the reference's. -/
theorem value : Cert.algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  rw [(h c).1]
  simp only [hagree c]
  symm
  refine (dats m 0 c).arrAt_eq_of_covers 3 _ (by decide +kernel) fun t hf y => ?_
  blk_simp
  rw [after0_3]
  frame_out
  rw [eq_ix2 y]
  refine (block_eq m c t (y 0) (y 1)).trans ?_
  refine Eq.trans ?_ (congrArg _ (cell t (y 0) (y 1))).symm
  generalize colOf t (y 1) = C
  generalize y 0 = R
  generalize m ((c : Thread nD τ).loc main_arg0) = A0
  generalize m ((c : Thread nD τ).loc main_arg1) = A1
  generalize m ((c : Thread nD τ).loc main_arg2) = A2
  unfold entry
  pointwise
  rfl

end Cert.Modulation

end
-- ==== Proof.HyenaConv.lean ====
module

public import proofs.«01_k».proof.Defs
public import proofs.«01_k».proof.Proof.Gen.Kernel11Ideal.Value
public import proofs.«01_k».proof.Proof.Gen.Reference11Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The Hyena mixer's short convolution: the kernel's two arrays are the reference's, entry by entry. -/

@[expose] public section

noncomputable section

namespace Cert.HyenaConv

open Cert.Kernel11Ideal Cert.Kernel11Ideal.Gen Idealize.ShloMosaic Idealize.ShloMosaic.TcCoe Idealize.SL.Sem

/-- The reference runs, ends and keeps its arguments. -/
theorem reference_quiet : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- Where each window's block lies at a grid point: row blocks by `t / 2`, column blocks of the three branches by `t % 2`. -/
theorem idx : ∀ t : Fin grid0.N, win0_0.index t = ![t.val / 2, t.val % 2] ∧ win0_1.index t = ![t.val / 2 * 32 - 1, t.val % 2] ∧ win0_2.index t = ![min (t.val / 2 * 32 + 32) 4095, t.val % 2] ∧ win0_3.index t = ![0, t.val % 2]
    ∧ win0_4.index t = ![t.val / 2, 2 + t.val % 2] ∧ win0_5.index t = ![t.val / 2 * 32 - 1, 2 + t.val % 2] ∧ win0_6.index t = ![min (t.val / 2 * 32 + 32) 4095, 2 + t.val % 2] ∧ win0_7.index t = ![0, 2 + t.val % 2]
    ∧ win0_8.index t = ![t.val / 2, 4 + t.val % 2] ∧ win0_9.index t = ![t.val / 2 * 32 - 1, 4 + t.val % 2] ∧ win0_10.index t = ![min (t.val / 2 * 32 + 32) 4095, 4 + t.val % 2] ∧ win0_11.index t = ![0, 4 + t.val % 2]
    ∧ win0_12.index t = ![t.val / 2, t.val % 2] ∧ win0_13.index t = ![t.val / 2, t.val % 2] ∧ (grid0.coords t 0).val = t.val / 2 := by decide +kernel

theorem tlt (t : Fin cfg0.N) : t.val < 256 := Nat.lt_of_lt_of_eq t.isLt N_0

/-- The row and the column of a branch that a point's block entry is. -/
abbrev rowOf (t : Fin cfg0.N) (r : Fin 256) : Fin 32768 := ⟨t.val / 2 * 256 + r.val, by have := tlt t; omega⟩
abbrev colOf (t : Fin cfg0.N) (d : Fin 512) : Fin 1024 := ⟨t.val % 2 * 512 + d.val, by omega⟩
/-- The column of the input that a branch's column is. -/
abbrev at' (s : Fin 3) (q : Fin 1024) : Fin 3072 := ⟨s.val * 1024 + q.val, by omega⟩

/-- The remainder's test, as the body spells it. -/
def atZero (w : BitVec 32) : BitVec 1 := Scalar.cmpi .eq (Scalar.select (Scalar.andi (Scalar.xori (Scalar.cmpi .slt (Scalar.remsi w (Scalar.select (Scalar.cmpi .eq 16384#32 0#32) 1#32 16384#32)) 0#32) (Scalar.cmpi .slt (Scalar.select (Scalar.cmpi .eq 16384#32 0#32) 1#32 16384#32) 0#32)) (Scalar.cmpi .ne (Scalar.remsi w (Scalar.select (Scalar.cmpi .eq 16384#32 0#32) 1#32 16384#32)) 0#32)) (Scalar.addi (Scalar.remsi w (Scalar.select (Scalar.cmpi .eq 16384#32 0#32) 1#32 16384#32)) (Scalar.select (Scalar.cmpi .eq 16384#32 0#32) 1#32 16384#32)) (Scalar.remsi w (Scalar.select (Scalar.cmpi .eq 16384#32 0#32) 1#32 16384#32))) 0#32

/-- Whether a point's block begins a sequence. -/
def first (i : grid0.Coords) : BitVec 1 := atZero (Scalar.muli (BitVec.ofNat 32 (i 0).val) 256#32)
/-- Whether it ends one. -/
def last (i : grid0.Coords) : BitVec 1 := atZero (Scalar.muli (Scalar.addi (BitVec.ofNat 32 (i 0).val) 1#32) 256#32)

theorem first_eq : ∀ t : Fin grid0.N, first (grid0.coords t) = BitVec.ofBool (decide (t.val / 2 % 64 = 0)) := by decide +kernel
theorem last_eq : ∀ t : Fin grid0.N, last (grid0.coords t) = BitVec.ofBool (decide (t.val / 2 % 64 = 63)) := by decide +kernel

/-- A tap's neighbours and itself, weighted: the rows before and after come from the neighbouring blocks at the edges. -/
def part (f l : BitVec 1) (u : Vec Ideal S256x512 .f32) (w : Vec Ideal S3x512 .f32) (p n : Vec Ideal S1x512 .f32) (r : Fin 256) (d : Fin 512) : EReal :=
  (if r.val = 0 then Scalar.select f 0 (p (ix2 0 d)) else u (ix2 ⟨r.val - 1, by omega⟩ d)) * w (ix2 0 d) + u (ix2 r d) * w (ix2 1 d)
    + (if h : r.val = 255 then Scalar.select l 0 (n (ix2 0 d)) else u (ix2 ⟨r.val + 1, by omega⟩ d)) * w (ix2 2 d)

theorem cmp_first : ∀ r : Fin 256, IntOp.cmpi CmpIPredicate.eq (BitVec.ofNat 32 r.val) 0#32 = BitVec.ofBool (decide (r.val = 0)) := by decide +kernel
theorem cmp_last : ∀ r : Fin 256, IntOp.cmpi CmpIPredicate.eq (BitVec.ofNat 32 r.val) 255#32 = BitVec.ofBool (decide (r.val = 255)) := by decide +kernel

/-- A choice by a decided bit is the choice by what it decides. -/
theorem select_dec {α : Type} (p : Prop) [Decidable p] (a b : α) : Scalar.select (BitVec.ofBool (decide p)) a b = if p then a else b := by
  by_cases h : p <;> simp [h, Scalar.select]

/-- The rotated and chosen rows are the neighbours'. -/
theorem part_of (f l : BitVec 1) (u : Vec Ideal S256x512 .f32) (w : Vec Ideal S3x512 .f32) (p n : Vec Ideal S1x512 .f32) (r : Fin 256) (d : Fin 512) (h1 h2) :
    Scalar.select (IntOp.cmpi CmpIPredicate.eq (BitVec.ofNat 32 r.val) 0#32) (Scalar.select f 0 (p (ix2 0 d))) (u (ix2 ⟨(r.val + 256 - 1) % 256, h1⟩ d)) * w (ix2 0 d) + u (ix2 r d) * w (ix2 1 d)
      + Scalar.select (IntOp.cmpi CmpIPredicate.eq (BitVec.ofNat 32 r.val) 255#32) (Scalar.select l 0 (n (ix2 0 d))) (u (ix2 ⟨(r.val + 256 - 255) % 256, h2⟩ d)) * w (ix2 2 d) = part f l u w p n r d := by
  rw [cmp_first, cmp_last, select_dec, select_dec]
  unfold part
  congr 2
  · congr 1
    split
    · rfl
    · rename_i h
      exact congrArg u (congrArg (fun k => ix2 k d) (Fin.ext (by show (r.val + 256 - 1) % 256 = r.val - 1; omega)))
  · split
    · rfl
    · rename_i h
      exact congrArg u (congrArg (fun k => ix2 k d) (Fin.ext (by show (r.val + 256 - 255) % 256 = r.val + 1; omega)))

/-- The first branch's store at an entry. -/
theorem first_apply (i : grid0.Coords) (u : Vec Ideal S256x512 .f32) (w : Vec Ideal S3x512 .f32) (p n : Vec Ideal S1x512 .f32) (r : Fin 256) (d : Fin 512) :
    k0_pay3 (F := Ideal) (last i) (iota .tc S256x1 32 [0] iota_S256x1_d0_w32) u w (k0_pay2 i p) n (ix2 r d) = part (first i) (last i) u w p n r d := by
  have e : k0_pay2 i p = fun j => Scalar.select (first i) (Scalar.ofBits (F := Ideal) .f32 0x00000000#32) (p j) := by
    funext j
    show (Scalar.select (first i) (broadcast S1x512 (Scalar.ofBits (F := Ideal) .f32 0x00000000#32)) p) j = _
    unfold Scalar.select
    split <;> rfl
  rw [e]
  generalize first i = f
  generalize last i = l
  rw [← part_of f l u w p n r d (by omega) (by omega)]
  pointwise [k0_pay3]

/-- The second branch at an entry. -/
theorem second_apply (f l : BitVec 1) (u : Vec Ideal S256x512 .f32) (w : Vec Ideal S3x512 .f32) (p n : Vec Ideal S1x512 .f32) (r : Fin 256) (d : Fin 512) :
    k0_pay8 (F := Ideal) (iota .tc S256x1 32 [0] iota_S256x1_d0_w32) u w (k0_pay4 l n) (k0_pay5 u) (k0_pay6 (iota .tc S256x1 32 [0] iota_S256x1_d0_w32)) (k0_pay7 f p) (ix2 r d) = part f l u w p n r d := by
  rw [← part_of f l u w p n r d (by omega) (by omega)]
  pointwise [k0_pay8, k0_pay4, k0_pay5, k0_pay6, k0_pay7]

/-- The third branch's store at an entry: its convolution times the second's. -/
theorem third_apply (f l : BitVec 1) (x : Vec Ideal S256x512 .f32) (u : Vec Ideal S256x512 .f32) (w : Vec Ideal S3x512 .f32) (p n : Vec Ideal S1x512 .f32) (r : Fin 256) (d : Fin 512) :
    k0_pay1 (F := Ideal) x u w (k0_pay9 f (iota .tc S256x1 32 [0] iota_S256x1_d0_w32) u p) (k0_pay10 u) (k0_pay11 (iota .tc S256x1 32 [0] iota_S256x1_d0_w32)) (k0_pay12 l n) (ix2 r d) = part f l u w p n r d * x (ix2 r d) := by
  rw [← part_of f l u w p n r d (by omega) (by omega)]
  pointwise [k0_pay1, k0_pay9, k0_pay10, k0_pay11, k0_pay12]

/-- One entry of the convolution: a row, its neighbours of the same sequence, each with its tap. -/
def conv (U : Vec Ideal S32768x3072 .f32) (W : Vec Ideal S3x3072 .f32) (R : Fin 32768) (q : Fin 3072) : EReal :=
  (if R.val % 16384 = 0 then 0 else U (ix2 ⟨R.val - 1, by omega⟩ q)) * W (ix2 0 q) + U (ix2 R q) * W (ix2 1 q)
    + (if h : R.val % 16384 = 16383 then 0 else U (ix2 ⟨R.val + 1, by omega⟩ q)) * W (ix2 2 q)

/-- A point's block entry of a branch is the convolution's, when its blocks are the input's. -/
theorem part_conv (t : Fin cfg0.N) (U : Vec Ideal S32768x3072 .f32) (W : Vec Ideal S3x3072 .f32) (q : Fin 3072) (d : Fin 512)
    (u : Vec Ideal S256x512 .f32) (w : Vec Ideal S3x512 .f32) (p n : Vec Ideal S1x512 .f32) (r : Fin 256)
    (hu : ∀ r : Fin 256, u (ix2 r d) = U (ix2 (rowOf t r) q)) (hw : ∀ k : Fin 3, w (ix2 k d) = W (ix2 k q))
    (hp : p (ix2 0 d) = U (ix2 ⟨(t.val / 2 * 32 - 1) * 8 + 7, by have := tlt t; omega⟩ q))
    (hn : n (ix2 0 d) = U (ix2 ⟨min (t.val / 2 * 32 + 32) 4095 * 8, by omega⟩ q)) :
    part (first (grid0.coords t)) (last (grid0.coords t)) u w p n r d = conv U W (rowOf t r) q := by
  have ht := tlt t
  have hr : (rowOf t r).val = t.val / 2 * 256 + r.val := rfl
  rw [first_eq t, last_eq t]
  unfold part conv
  rw [select_dec, select_dec, hw 0, hw 1, hw 2, hu r, hp, hn]
  congr 2
  · congr 1
    by_cases h : r.val = 0
    · rw [if_pos h]
      by_cases g : t.val / 2 % 64 = 0
      · rw [if_pos g, if_pos (by omega)]
      · rw [if_neg g, if_neg (by omega)]
        exact congrArg U (congrArg (fun k => ix2 k q) (Fin.ext (by show (t.val / 2 * 32 - 1) * 8 + 7 = t.val / 2 * 256 + r.val - 1; omega)))
    · rw [if_neg h, if_neg (by omega), hu]
      exact congrArg U (congrArg (fun k => ix2 k q) (Fin.ext (by show t.val / 2 * 256 + (r.val - 1) = t.val / 2 * 256 + r.val - 1; omega)))
  · by_cases h : r.val = 255
    · rw [dif_pos h]
      by_cases g : t.val / 2 % 64 = 63
      · rw [if_pos g, dif_pos (by omega)]
      · rw [if_neg g, dif_neg (by omega)]
        exact congrArg U (congrArg (fun k => ix2 k q) (Fin.ext (by show min (t.val / 2 * 32 + 32) 4095 * 8 = t.val / 2 * 256 + r.val + 1; omega)))
    · rw [dif_neg h, dif_neg (by omega), hu]
      exact congrArg U (congrArg (fun k => ix2 k q) (Fin.ext (by show t.val / 2 * 256 + (r.val + 1) = t.val / 2 * 256 + r.val + 1; omega)))

/-! The reference, an array at a time. -/

/-- The input by sequences, with a zero row before and after each. -/
def padV (U : FVec Ideal Reference11Ideal.S32768x3072 .f32) : FVec Ideal Reference11Ideal.S2x16386x3072 .f32 :=
  pad Reference11Ideal.S2x16386x3072 ![0, 1, 0] ![0, 1, 0] ![0, 0, 0] (shapeCast Reference11Ideal.S2x16384x3072 U Reference11Ideal.Gen.shapeCasts_S32768x3072_S2x16384x3072) (sitofp .f32 (constantI Reference11Ideal.S_ 32 0#32)) Reference11Ideal.Gen.pads_S2x16384x3072_S2x16386x3072_000_110_000 Reference11Ideal.Gen.h_S_

/-- The three taps' sum over a padded input. -/
def convV (P : FVec Ideal Reference11Ideal.S2x16386x3072 .f32) (W : FVec Ideal Reference11Ideal.S3x3072 .f32) : FVec Ideal Reference11Ideal.S2x16384x3072 .f32 :=
  addf (addf (mulf (extractStridedSlice Reference11Ideal.S2x16384x3072 ![0, 0, 0] P Reference11Ideal.Gen.slices_S2x16386x3072_S2x16384x3072_0_0_0) (broadcastInDim Reference11Ideal.S2x16384x3072 ![0, 1, 2] Reference11Ideal.Gen.bcast_S1x1x3072_S2x16384x3072_0_1_2 (broadcastInDim Reference11Ideal.S1x1x3072 ![2] Reference11Ideal.Gen.bcast_S3072_S1x1x3072_2 (shapeCast _ (extractStridedSlice Reference11Ideal.S1x3072 ![0, 0] W Reference11Ideal.Gen.slices_S3x3072_S1x3072_0_0) Reference11Ideal.Gen.shapeCasts_S1x3072_S3072))))
    (mulf (extractStridedSlice Reference11Ideal.S2x16384x3072 ![0, 1, 0] P Reference11Ideal.Gen.slices_S2x16386x3072_S2x16384x3072_0_1_0) (broadcastInDim Reference11Ideal.S2x16384x3072 ![0, 1, 2] Reference11Ideal.Gen.bcast_S1x1x3072_S2x16384x3072_0_1_2 (broadcastInDim Reference11Ideal.S1x1x3072 ![2] Reference11Ideal.Gen.bcast_S3072_S1x1x3072_2 (shapeCast _ (extractStridedSlice Reference11Ideal.S1x3072 ![1, 0] W Reference11Ideal.Gen.slices_S3x3072_S1x3072_1_0) Reference11Ideal.Gen.shapeCasts_S1x3072_S3072)))))
    (mulf (extractStridedSlice Reference11Ideal.S2x16384x3072 ![0, 2, 0] P Reference11Ideal.Gen.slices_S2x16386x3072_S2x16384x3072_0_2_0) (broadcastInDim Reference11Ideal.S2x16384x3072 ![0, 1, 2] Reference11Ideal.Gen.bcast_S1x1x3072_S2x16384x3072_0_1_2 (broadcastInDim Reference11Ideal.S1x1x3072 ![2] Reference11Ideal.Gen.bcast_S3072_S1x1x3072_2 (shapeCast _ (extractStridedSlice Reference11Ideal.S1x3072 ![2, 0] W Reference11Ideal.Gen.slices_S3x3072_S1x3072_2_0) Reference11Ideal.Gen.shapeCasts_S1x3072_S3072))))

/-- The first result: the first branch, its sequences in a row. -/
def firstV (C : FVec Ideal Reference11Ideal.S2x16384x3072 .f32) : FVec Ideal Reference11Ideal.S32768x1024 .f32 :=
  shapeCast _ (extractStridedSlice Reference11Ideal.S2x16384x1024 ![0, 0, 0] C Reference11Ideal.Gen.slices_S2x16384x3072_S2x16384x1024_0_0_0) Reference11Ideal.Gen.shapeCasts_S2x16384x1024_S32768x1024

/-- The second result: the third branch times the second. -/
def prodV (C : FVec Ideal Reference11Ideal.S2x16384x3072 .f32) : FVec Ideal Reference11Ideal.S32768x1024 .f32 :=
  shapeCast _ (mulf (extractStridedSlice Reference11Ideal.S2x16384x1024 ![0, 0, 2048] C Reference11Ideal.Gen.slices_S2x16384x3072_S2x16384x1024_0_0_2048) (extractStridedSlice Reference11Ideal.S2x16384x1024 ![0, 0, 1024] C Reference11Ideal.Gen.slices_S2x16384x3072_S2x16384x1024_0_0_1024)) Reference11Ideal.Gen.shapeCasts_S2x16384x1024_S32768x1024

theorem pad_at (U : FVec Ideal Reference11Ideal.S32768x3072 .f32) (b : Fin 2) (s : Fin 16386) (q : Fin 3072) :
    padV U (ix3 b s q) = if h : s.val = 0 ∨ s.val = 16385 then 0 else U (ix2 ⟨b.val * 16384 + (s.val - 1), by omega⟩ q) := by
  pointwise [padV]
  have z : FloatOps.sitofp (F := Ideal) (w := 32) FTy.f32 0#32 = (0 : EReal) := by
    show (((0#32 : BitVec 32).toInt : ℝ) : EReal) = 0
    simp
  by_cases h : s.val = 0 ∨ s.val = 16385
  · rw [dif_pos h, dif_neg (by omega), z]
  · rw [dif_neg h, dif_pos (by omega)]

theorem conv_at (P : FVec Ideal Reference11Ideal.S2x16386x3072 .f32) (W : FVec Ideal Reference11Ideal.S3x3072 .f32) (b : Fin 2) (s : Fin 16384) (q : Fin 3072) :
    convV P W (ix3 b s q) = P (ix3 b ⟨s.val, by omega⟩ q) * W (ix2 0 q) + P (ix3 b ⟨1 + s.val, by omega⟩ q) * W (ix2 1 q) + P (ix3 b ⟨2 + s.val, by omega⟩ q) * W (ix2 2 q) := by
  pointwise [convV]

theorem firstV_at (C : FVec Ideal Reference11Ideal.S2x16384x3072 .f32) (R : Fin 32768) (q : Fin 1024) :
    firstV C (ix2 R q) = C (ix3 ⟨R.val / 16384, by omega⟩ ⟨R.val % 16384, by omega⟩ (at' 0 q)) := by
  pointwise [firstV]
  exact congrArg (fun k => C (ix3 _ _ k)) (Fin.ext (by show q.val = 0 * 1024 + q.val; omega))

theorem prodV_at (C : FVec Ideal Reference11Ideal.S2x16384x3072 .f32) (R : Fin 32768) (q : Fin 1024) :
    prodV C (ix2 R q) = C (ix3 ⟨R.val / 16384, by omega⟩ ⟨R.val % 16384, by omega⟩ (at' 2 q)) * C (ix3 ⟨R.val / 16384, by omega⟩ ⟨R.val % 16384, by omega⟩ (at' 1 q)) := by
  pointwise [prodV]
  rfl

/-- The reference's convolution at a row and a column. -/
theorem ref_conv (U : Vec Ideal S32768x3072 .f32) (W : Vec Ideal S3x3072 .f32) (R : Fin 32768) (q : Fin 3072) :
    convV (padV U) W (ix3 ⟨R.val / 16384, by omega⟩ ⟨R.val % 16384, by omega⟩ q) = conv U W R q := by
  rw [conv_at, pad_at, pad_at, pad_at]
  unfold conv
  have hR := R.isLt
  congr 2
  · congr 1
    by_cases h : R.val % 16384 = 0
    · rw [dif_pos (Or.inl h), if_pos h]
    · rw [dif_neg (show ¬(R.val % 16384 = 0 ∨ R.val % 16384 = 16385) by omega), if_neg h]
      exact congrArg U (congrArg (fun k => ix2 k q) (Fin.ext (by show R.val / 16384 * 16384 + (R.val % 16384 - 1) = R.val - 1; omega)))
  · rw [dif_neg (show ¬(1 + R.val % 16384 = 0 ∨ 1 + R.val % 16384 = 16385) by omega)]
    refine congrArg (fun k => U k * W (ix2 1 q)) (congrArg (fun k => ix2 k q) (Fin.ext ?_))
    show R.val / 16384 * 16384 + (1 + R.val % 16384 - 1) = R.val
    omega
  · by_cases h : R.val % 16384 = 16383
    · rw [dif_pos (show (2 + R.val % 16384 = 0 ∨ 2 + R.val % 16384 = 16385) by omega), dif_pos h]
    · rw [dif_neg (show ¬(2 + R.val % 16384 = 0 ∨ 2 + R.val % 16384 = 16385) by omega), dif_neg h]
      exact congrArg U (congrArg (fun k => ix2 k q) (Fin.ext (by show R.val / 16384 * 16384 + (2 + R.val % 16384 - 1) = R.val + 1; omega)))

variable (m : (ℓ : Loc nD τ sig) → Buf (Elt Ideal) ℓ)

/-! The blocks of a point as entries of the arguments. -/

theorem blk_x (c : Dev nD) (t : Fin cfg0.N) (r : Fin 256) (d : Fin 512) : iblk m c 0 t (ix2 r d) = (m ((c : Thread nD τ).loc main_arg0) : Vec Ideal S32768x3072 .f32) (ix2 (rowOf t r) (at' 0 (colOf t d))) := by
  have := tlt t
  blk_ext [iblk, V, idx t]

theorem prev_x (c : Dev nD) (t : Fin cfg0.N) (d : Fin 512) : View.ld (iblk m c 1 t) r0_2 (ix2 0 d) = (m ((c : Thread nD τ).loc main_arg0) : Vec Ideal S32768x3072 .f32) (ix2 ⟨(t.val / 2 * 32 - 1) * 8 + 7, by have := tlt t; omega⟩ (at' 0 (colOf t d))) := by
  have := tlt t
  refine (View.ld_unit_apply_of _ _ _ _ _ (ix2 7 d) ?_).trans ?_
  · intro a
    fin_cases a
    · rfl
    · exact (Nat.zero_add _).symm
  · blk_ext [iblk, V, idx t]

theorem next_x (c : Dev nD) (t : Fin cfg0.N) (d : Fin 512) : View.ld (iblk m c 2 t) r0_3 (ix2 0 d) = (m ((c : Thread nD τ).loc main_arg0) : Vec Ideal S32768x3072 .f32) (ix2 ⟨min (t.val / 2 * 32 + 32) 4095 * 8, by omega⟩ (at' 0 (colOf t d))) := by
  have := tlt t
  refine (View.ld_unit_apply_of _ _ _ _ _ (ix2 0 d) ?_).trans ?_
  · intro a
    fin_cases a
    · rfl
    · exact (Nat.zero_add _).symm
  · blk_ext [iblk, V, idx t]

theorem tap_x (c : Dev nD) (t : Fin cfg0.N) (k : Fin 3) (d : Fin 512) : iblk m c 3 t (ix2 k d) = (m ((c : Thread nD τ).loc main_arg1) : Vec Ideal S3x3072 .f32) (ix2 k (at' 0 (colOf t d))) := by
  have := tlt t
  blk_ext [iblk, V, idx t]

theorem blk_y (c : Dev nD) (t : Fin cfg0.N) (r : Fin 256) (d : Fin 512) : iblk m c 4 t (ix2 r d) = (m ((c : Thread nD τ).loc main_arg0) : Vec Ideal S32768x3072 .f32) (ix2 (rowOf t r) (at' 1 (colOf t d))) := by
  have := tlt t
  blk_ext [iblk, V, idx t]

theorem prev_y (c : Dev nD) (t : Fin cfg0.N) (d : Fin 512) : View.ld (iblk m c 5 t) r0_2 (ix2 0 d) = (m ((c : Thread nD τ).loc main_arg0) : Vec Ideal S32768x3072 .f32) (ix2 ⟨(t.val / 2 * 32 - 1) * 8 + 7, by have := tlt t; omega⟩ (at' 1 (colOf t d))) := by
  have := tlt t
  refine (View.ld_unit_apply_of _ _ _ _ _ (ix2 7 d) ?_).trans ?_
  · intro a
    fin_cases a
    · rfl
    · exact (Nat.zero_add _).symm
  · blk_ext [iblk, V, idx t]

theorem next_y (c : Dev nD) (t : Fin cfg0.N) (d : Fin 512) : View.ld (iblk m c 6 t) r0_3 (ix2 0 d) = (m ((c : Thread nD τ).loc main_arg0) : Vec Ideal S32768x3072 .f32) (ix2 ⟨min (t.val / 2 * 32 + 32) 4095 * 8, by omega⟩ (at' 1 (colOf t d))) := by
  have := tlt t
  refine (View.ld_unit_apply_of _ _ _ _ _ (ix2 0 d) ?_).trans ?_
  · intro a
    fin_cases a
    · rfl
    · exact (Nat.zero_add _).symm
  · blk_ext [iblk, V, idx t]

theorem tap_y (c : Dev nD) (t : Fin cfg0.N) (k : Fin 3) (d : Fin 512) : iblk m c 7 t (ix2 k d) = (m ((c : Thread nD τ).loc main_arg1) : Vec Ideal S3x3072 .f32) (ix2 k (at' 1 (colOf t d))) := by
  have := tlt t
  blk_ext [iblk, V, idx t]

theorem blk_z (c : Dev nD) (t : Fin cfg0.N) (r : Fin 256) (d : Fin 512) : iblk m c 8 t (ix2 r d) = (m ((c : Thread nD τ).loc main_arg0) : Vec Ideal S32768x3072 .f32) (ix2 (rowOf t r) (at' 2 (colOf t d))) := by
  have := tlt t
  blk_ext [iblk, V, idx t]

theorem prev_z (c : Dev nD) (t : Fin cfg0.N) (d : Fin 512) : View.ld (iblk m c 9 t) r0_2 (ix2 0 d) = (m ((c : Thread nD τ).loc main_arg0) : Vec Ideal S32768x3072 .f32) (ix2 ⟨(t.val / 2 * 32 - 1) * 8 + 7, by have := tlt t; omega⟩ (at' 2 (colOf t d))) := by
  have := tlt t
  refine (View.ld_unit_apply_of _ _ _ _ _ (ix2 7 d) ?_).trans ?_
  · intro a
    fin_cases a
    · rfl
    · exact (Nat.zero_add _).symm
  · blk_ext [iblk, V, idx t]

theorem next_z (c : Dev nD) (t : Fin cfg0.N) (d : Fin 512) : View.ld (iblk m c 10 t) r0_3 (ix2 0 d) = (m ((c : Thread nD τ).loc main_arg0) : Vec Ideal S32768x3072 .f32) (ix2 ⟨min (t.val / 2 * 32 + 32) 4095 * 8, by omega⟩ (at' 2 (colOf t d))) := by
  have := tlt t
  refine (View.ld_unit_apply_of _ _ _ _ _ (ix2 0 d) ?_).trans ?_
  · intro a
    fin_cases a
    · rfl
    · exact (Nat.zero_add _).symm
  · blk_ext [iblk, V, idx t]

theorem tap_z (c : Dev nD) (t : Fin cfg0.N) (k : Fin 3) (d : Fin 512) : iblk m c 11 t (ix2 k d) = (m ((c : Thread nD τ).loc main_arg1) : Vec Ideal S3x3072 .f32) (ix2 k (at' 2 (colOf t d))) := by
  have := tlt t
  blk_ext [iblk, V, idx t]

/-- The entry of the first result that a point's block entry lands on. -/
theorem cell12 (t : Fin cfg0.N) (r : Fin 256) (d : Fin 512) :
    ((View.whole main_v0_0).slice (win0_12.rect t)).emb (ix2 r d) = ix2 (rowOf t r) (colOf t d) := by
  blk_ext [idx t]

/-- The entry of the second result that a point's block entry lands on. -/
theorem cell13 (t : Fin cfg0.N) (r : Fin 256) (d : Fin 512) :
    ((View.whole main_v0_1).slice (win0_13.rect t)).emb (ix2 r d) = ix2 (rowOf t r) (colOf t d) := by
  blk_ext [idx t]

/-- The kernel's first array is the reference's. -/
theorem value12 (c : Dev nD) : (dats m 0 c).arrAt 12 cfg0.N = firstV (convV (padV (m ((c : Thread nD τ).loc main_arg0))) (m ((c : Thread nD τ).loc main_arg1))) := by
  refine (dats m 0 c).arrAt_eq_of_covers 12 _ (by decide +kernel) fun t hf y => ?_
  blk_simp
  rw [after0_12]
  unfold_out out0_12
  frame_out
  rw [eq_ix2 y]
  refine (first_apply _ _ _ _ _ (y 0) (y 1)).trans ?_
  refine (part_conv t _ _ (at' 0 (colOf t (y 1))) (y 1) _ _ _ _ (y 0) (fun r => blk_x m c t r (y 1)) (fun k => tap_x m c t k (y 1)) (prev_x m c t (y 1)) (next_x m c t (y 1))).trans ?_
  refine Eq.trans ?_ (congrArg _ (cell12 t (y 0) (y 1))).symm
  exact ((firstV_at _ _ _).trans (ref_conv _ _ _ _)).symm

/-- The kernel's second array is the reference's. -/
theorem value13 (c : Dev nD) : (dats m 0 c).arrAt 13 cfg0.N = prodV (convV (padV (m ((c : Thread nD τ).loc main_arg0))) (m ((c : Thread nD τ).loc main_arg1))) := by
  refine (dats m 0 c).arrAt_eq_of_covers 13 _ (by decide +kernel) fun t hf y => ?_
  blk_simp
  rw [after0_13]
  unfold_out out0_13
  frame_out
  rw [eq_ix2 y]
  refine (third_apply (first (grid0.coords t)) (last (grid0.coords t)) _ _ _ _ _ (y 0) (y 1)).trans ?_
  refine (congrArg₂ (· * ·) (part_conv t _ _ (at' 2 (colOf t (y 1))) (y 1) _ _ _ _ (y 0) (fun r => blk_z m c t r (y 1)) (fun k => tap_z m c t k (y 1)) (prev_z m c t (y 1)) (next_z m c t (y 1)))
    ((second_apply (first (grid0.coords t)) (last (grid0.coords t)) _ _ _ _ (y 0) (y 1)).trans
      (part_conv t _ _ (at' 1 (colOf t (y 1))) (y 1) _ _ _ _ (y 0) (fun r => blk_y m c t r (y 1)) (fun k => tap_y m c t k (y 1)) (prev_y m c t (y 1)) (next_y m c t (y 1))))).trans ?_
  refine Eq.trans ?_ (congrArg _ (cell13 t (y 0) (y 1))).symm
  refine Eq.symm ((prodV_at _ _ _).trans ?_)
  rw [ref_conv, ref_conv]

/-- The kernel's arrays are the reference's. -/
theorem value : Cert.algebraic_Kernel11Ideal_Reference11Ideal := by
  intro m ρ m' ρ' _ hagree
  refine ⟨_, _, Cert.Kernel11Ideal.Value.run_blocks (F := Ideal) m ρ, ?_⟩
  refine (θ_run Cert.Reference11Ideal.defs _ _).mono (fun _ h c => ⟨?_, ?_, (h c).2.2⟩) (Cert.Reference11Ideal.Value.run (F := Ideal) m' ρ')
  · obtain ⟨a0, a1⟩ := hagree c
    refine (h c).1.trans ?_
    rw [a0, a1]
    exact (value12 m c).symm
  · obtain ⟨a0, a1⟩ := hagree c
    refine (h c).2.1.trans ?_
    rw [a0, a1]
    exact (value13 m c).symm

end Cert.HyenaConv

end
-- ==== Proof.HyenaGate.lean ====
module

public import proofs.«01_k».proof.Defs
public import proofs.«01_k».proof.Proof.Gen.Kernel12Ideal.Value
public import proofs.«01_k».proof.Proof.Gen.Reference12Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The Hyena mixer's skip and gate: the kernel's array is the reference's, entry by entry. -/

@[expose] public section

noncomputable section

namespace Cert.HyenaGate

open Cert.Kernel12Ideal Cert.Kernel12Ideal.Gen Idealize.ShloMosaic Idealize.ShloMosaic.TcCoe Idealize.SL.Sem

/-- The reference runs, ends and keeps its arguments. -/
theorem reference_quiet : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Where each window's block lies at a grid point: the row blocks follow the grid, the skip is one block. -/
theorem idx : ∀ t : Fin grid0.N, win0_0.index t = ![t.val, 0] ∧ win0_1.index t = ![t.val, 0] ∧ win0_2.index t = ![t.val, 0] ∧ win0_3.index t = ![0, 0, 0] ∧ win0_4.index t = ![t.val, 0] := by decide +kernel

theorem tlt (t : Fin cfg0.N) : t.val < 64 := Nat.lt_of_lt_of_eq t.isLt N_0

/-- The row of the result that a point's block row is. -/
abbrev rowOf (t : Fin cfg0.N) (r : Fin 512) : Fin 32768 := ⟨t.val * 512 + r.val, by have := tlt t; omega⟩

/-- One entry of the result: the convolution's plus the skipped input's, gated. -/
def entry (Y : Vec Ideal S2x16384x1024 .f32) (Z X : Vec Ideal S32768x1024 .f32) (K : Vec Ideal S1024 .f32) (R : Fin 32768) (d : Fin 1024) : EReal :=
  (Y (ix3 ⟨R.val / 16384, by omega⟩ ⟨R.val % 16384, by omega⟩ d) + K (ix1 d) * Z (ix2 R d)) * X (ix2 R d)

/-- The body's store at an entry. -/
theorem pay_apply (y z x : Vec Ideal S512x1024 .f32) (k : Vec Ideal S1x1x1024 .f32) (r : Fin 512) (d : Fin 1024) :
    k0_pay1 y z x k (ix2 r d) = (y (ix2 r d) + k (ix3 0 0 d) * z (ix2 r d)) * x (ix2 r d) := by
  pointwise [k0_pay1]

/-- The entry of the result that a point's block entry lands on. -/
theorem cell (t : Fin cfg0.N) (r : Fin 512) (d : Fin 1024) :
    ((View.whole main_v2).slice (win0_4.rect t)).emb (ix2 r d) = ix2 (rowOf t r) d := by
  blk_ext [idx t]

variable (m : (ℓ : Loc nD τ sig) → Buf (Elt Ideal) ℓ)

/-! The blocks of a point as entries of the arguments. -/

theorem blk_y (c : Dev nD) (t : Fin cfg0.N) (r : Fin 512) (d : Fin 1024) : iblk m c 0 t (ix2 r d) = (m ((c : Thread nD τ).loc main_arg0) : Vec Ideal S2x16384x1024 .f32) (ix3 ⟨(rowOf t r).val / 16384, by have := (rowOf t r).isLt; omega⟩ ⟨(rowOf t r).val % 16384, by omega⟩ d) := by
  have := tlt t
  unfold iblk
  rw [View.read_apply]
  show V m c main_v0 _ = _
  entry_read
  pointwise
  blk_ext [idx t]

theorem blk_z (c : Dev nD) (t : Fin cfg0.N) (r : Fin 512) (d : Fin 1024) : iblk m c 1 t (ix2 r d) = (m ((c : Thread nD τ).loc main_arg1) : Vec Ideal S32768x1024 .f32) (ix2 (rowOf t r) d) := by
  have := tlt t
  blk_ext [iblk, V, idx t]

theorem blk_g (c : Dev nD) (t : Fin cfg0.N) (r : Fin 512) (d : Fin 1024) : iblk m c 2 t (ix2 r d) = (m ((c : Thread nD τ).loc main_arg2) : Vec Ideal S32768x1024 .f32) (ix2 (rowOf t r) d) := by
  have := tlt t
  blk_ext [iblk, V, idx t]

theorem blk_k (c : Dev nD) (t : Fin cfg0.N) (d : Fin 1024) : iblk m c 3 t (ix3 0 0 d) = (m ((c : Thread nD τ).loc main_arg3) : Vec Ideal S1024 .f32) (ix1 d) := by
  unfold iblk
  rw [View.read_apply]
  show V m c main_v1 _ = _
  entry_read
  pointwise
  blk_ext [idx t]

/-- What a point stores is the entry there. -/
theorem block_eq (c : Dev nD) (t : Fin cfg0.N) (r : Fin 512) (d : Fin 1024) :
    k0_pay1 (iblk m c 0 t) (iblk m c 1 t) (iblk m c 2 t) (iblk m c 3 t) (ix2 r d)
      = entry (m ((c : Thread nD τ).loc main_arg0) : Vec Ideal S2x16384x1024 .f32) (m ((c : Thread nD τ).loc main_arg1) : Vec Ideal S32768x1024 .f32) (m ((c : Thread nD τ).loc main_arg2) : Vec Ideal S32768x1024 .f32) (m ((c : Thread nD τ).loc main_arg3) : Vec Ideal S1024 .f32) (rowOf t r) d := by
  rw [pay_apply]
  unfold entry
  simp only [blk_y m c t r, blk_z m c t r, blk_g m c t r, blk_k m c t]

/-- The reference's gated sum, a batch at a time. -/
def sumV (Y : FVec Ideal Reference12Ideal.S2x16384x1024 .f32) (Z X : FVec Ideal Reference12Ideal.S32768x1024 .f32) (K : FVec Ideal Reference12Ideal.S1024 .f32) : FVec Ideal Reference12Ideal.S2x16384x1024 .f32 :=
  mulf (addf Y (mulf (broadcastInDim Reference12Ideal.S2x16384x1024 ![0, 1, 2] Reference12Ideal.Gen.bcast_S1x1x1024_S2x16384x1024_0_1_2 (broadcastInDim Reference12Ideal.S1x1x1024 ![2] Reference12Ideal.Gen.bcast_S1024_S1x1x1024_2 K)) (shapeCast _ Z Reference12Ideal.Gen.shapeCasts_S32768x1024_S2x16384x1024)))
    (shapeCast _ X Reference12Ideal.Gen.shapeCasts_S32768x1024_S2x16384x1024)

/-- The reference's result: the gated sum, its batches in a row. -/
def gateV (T : FVec Ideal Reference12Ideal.S2x16384x1024 .f32) : FVec Ideal Reference12Ideal.S32768x1024 .f32 :=
  shapeCast _ T Reference12Ideal.Gen.shapeCasts_S2x16384x1024_S32768x1024

theorem sum_at (Y : FVec Ideal Reference12Ideal.S2x16384x1024 .f32) (Z X : FVec Ideal Reference12Ideal.S32768x1024 .f32) (K : FVec Ideal Reference12Ideal.S1024 .f32) (b : Fin 2) (s : Fin 16384) (d : Fin 1024) :
    sumV Y Z X K (ix3 b s d) = (Y (ix3 b s d) + K (ix1 d) * Z (ix2 ⟨b.val * 16384 + s.val, by omega⟩ d)) * X (ix2 ⟨b.val * 16384 + s.val, by omega⟩ d) := by
  pointwise [sumV]

theorem gate_at (T : FVec Ideal Reference12Ideal.S2x16384x1024 .f32) (R : Fin 32768) (d : Fin 1024) :
    gateV T (ix2 R d) = T (ix3 ⟨R.val / 16384, by omega⟩ ⟨R.val % 16384, by omega⟩ d) := by
  pointwise [gateV]

/-- The reference's entry. -/
theorem ref_at (Y : FVec Ideal Reference12Ideal.S2x16384x1024 .f32) (Z X : FVec Ideal Reference12Ideal.S32768x1024 .f32) (K : FVec Ideal Reference12Ideal.S1024 .f32) (R : Fin 32768) (d : Fin 1024) :
    gateV (sumV Y Z X K) (ix2 R d) = entry Y Z X K R d := by
  rw [gate_at, sum_at]
  simp only [Nat.div_add_mod']
  rfl

/-- The kernel's array is the reference's. -/
theorem value : Cert.algebraic_Kernel12Ideal_Reference12Ideal := by
  intro m ρ m' ρ' _ hagree
  refine ⟨_, Cert.Kernel12Ideal.Value.run_blocks (F := Ideal) m ρ, ?_⟩
  refine (θ_run Cert.Reference12Ideal.defs _ _).mono (fun _ h c => ⟨?_, (h c).2⟩) (Cert.Reference12Ideal.Value.run (F := Ideal) m' ρ')
  obtain ⟨a0, a1, a2, a3⟩ := hagree c
  refine (h c).1.trans ?_
  rw [a0, a1, a2, a3]
  symm
  refine (dats m 0 c).arrAt_eq_of_covers 4 _ (by decide +kernel) fun t hf y => ?_
  blk_simp
  rw [after0_4]
  frame_out
  rw [eq_ix2 y]
  refine (block_eq m c t (y 0) (y 1)).trans ?_
  refine Eq.trans ?_ (congrArg _ (cell t (y 0) (y 1))).symm
  exact (ref_at _ _ _ _ (rowOf t (y 0)) (y 1)).symm

end Cert.HyenaGate

end
-- ==== Proof.DeltaNorm.lean ====
module

public import proofs.«01_k».proof.Defs
public import proofs.«01_k».proof.Proof.Gen.Kernel13Ideal.Value
public import proofs.«01_k».proof.Proof.Gen.Reference13Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The delta rule's head norm and output gate: the kernel's array is the reference's, entry by entry. -/

@[expose] public section

noncomputable section

namespace Cert.DeltaNorm

open Cert.Kernel13Ideal Cert.Kernel13Ideal.Gen Idealize.ShloMosaic Idealize.ShloMosaic.TcCoe Idealize.SL.Sem

/-- The reference runs, ends and keeps its arguments. -/
theorem reference_quiet : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Where each window's block lies at a grid point: row blocks of the two directions and of the input's last quarter; the scale is one block. -/
theorem idx : ∀ t : Fin grid0.N, win0_0.index t = ![0, t.val, 0] ∧ win0_1.index t = ![1, t.val, 0] ∧ win0_2.index t = ![t.val, 3] ∧ win0_3.index t = ![0, 0, 0] ∧ win0_4.index t = ![t.val, 0] := by decide +kernel

theorem tlt (t : Fin cfg0.N) : t.val < 64 := Nat.lt_of_lt_of_eq t.isLt N_0

/-- The row of the result that a point's block row is. -/
abbrev rowOf (t : Fin cfg0.N) (r : Fin 512) : Fin 32768 := ⟨t.val * 512 + r.val, by have := tlt t; omega⟩

/-- A head's row over the root of its mean square. -/
def headNorm (v : Fin 128 → EReal) (k : Fin 128) : EReal :=
  v k * Ideal.rsqrt (Ideal.div (∑ j, v j * v j) (Ideal.ofBits .f32 0x43000000#32) + Ideal.ofBits .f32 0x358637BD#32)

/-- A column of a row by its head and lane. -/
abbrev col (h : Fin 8) (k : Fin 128) : Fin 1024 := ⟨h.val * 128 + k.val, by omega⟩
abbrev headOf (d : Fin 1024) : Fin 8 := ⟨d.val / 128, by omega⟩
abbrev laneOf (d : Fin 1024) : Fin 128 := ⟨d.val % 128, by omega⟩

/-- A value's gate. -/
def gate (z : EReal) : EReal := z * Ideal.logistic z

/-- One entry of the result: the directions' sum normed by its head, scaled and gated. -/
def entry (O : Vec Ideal S2x32768x1024 .f32) (U : Vec Ideal S32768x4096 .f32) (g : Vec Ideal S128 .f32) (R : Fin 32768) (d : Fin 1024) : EReal :=
  headNorm (fun k => O (ix3 0 R (col (headOf d) k)) + O (ix3 1 R (col (headOf d) k))) (laneOf d) * g (ix1 (laneOf d)) * gate (U (ix2 R ⟨3072 + d.val, by omega⟩))

/-! The body: eight heads normed one after the other and laid side by side. -/

/-- The heads, as the body computes each. -/
def heads (a b : Vec Ideal S1x512x1024 .f32) : Fin 8 → FVec Ideal S512x128 .f32
  | 0 => k0_pay3 a b
  | 1 => k0_pay4 a b
  | 2 => k0_pay5 a b
  | 3 => k0_pay8 (k0_pay6 a b) (k0_pay7 a b) (Scalar.ofBits .f32 0x43000000#32)
  | 4 => k0_pay9 (k0_pay2 a b)
  | 5 => k0_pay10 (k0_pay2 a b)
  | 6 => k0_pay11 (k0_pay2 a b)
  | 7 => mulf (k0_pay12 (k0_pay2 a b)) (broadcastTo S512x128 (rsqrt (addf (k0_pay13 (k0_pay2 a b)) (k0_pay14 (F := Ideal)))) broadcasts_S512x1_S512x128)

/-- The heads laid side by side. -/
def wide (f : Fin 8 → FVec Ideal S512x128 .f32) : FVec Ideal S512x1024 .f32 :=
  concatenate S512x1024 1 (List.ofFn fun j : Fin 8 => ⟨S512x128, f j⟩) concatenates_S512x128_S512x128_S512x128_S512x128_S512x128_S512x128_S512x128_S512x128_S512x1024_d1

theorem wide_at (f : Fin 8 → FVec Ideal S512x128 .f32) (r : Fin 512) (d : Fin 1024) : wide f (ix2 r d) = f (headOf d) (ix2 r (laneOf d)) := by
  refine concatenate_ofFn_apply (t := S512x1024) 1 f _ rfl 128 rfl _ (headOf d) rfl (ix2 r (laneOf d)) rfl ?_
  intro c hc; fin_cases c
  · rfl
  · exact absurd rfl hc

theorem sum_apply (a b : Vec Ideal S1x512x1024 .f32) (r : Fin 512) (d : Fin 1024) : k0_pay2 a b (ix2 r d) = a (ix3 0 r d) + b (ix3 0 r d) := by
  pointwise [k0_pay2]

theorem head0 (a b : Vec Ideal S1x512x1024 .f32) (r : Fin 512) (k : Fin 128) : heads a b 0 (ix2 r k) = headNorm (fun k => a (ix3 0 r (col 0 k)) + b (ix3 0 r (col 0 k))) k := by
  have e : (fun k : Fin 128 => a (ix3 0 r (col 0 k)) + b (ix3 0 r (col 0 k))) = fun k => k0_pay2 a b (ix2 r (col 0 k)) := funext fun k => (sum_apply a b r (col 0 k)).symm
  rw [e]
  unfold heads
  unfold k0_pay3
  generalize k0_pay2 a b = T
  simp only [fun k : Fin 128 => show col 0 k = ⟨k.val, by omega⟩ from Fin.ext (Nat.zero_add _)]
  pointwise [headNorm]

theorem head1 (a b : Vec Ideal S1x512x1024 .f32) (r : Fin 512) (k : Fin 128) : heads a b 1 (ix2 r k) = headNorm (fun k => a (ix3 0 r (col 1 k)) + b (ix3 0 r (col 1 k))) k := by
  have e : (fun k : Fin 128 => a (ix3 0 r (col 1 k)) + b (ix3 0 r (col 1 k))) = fun k => k0_pay2 a b (ix2 r (col 1 k)) := funext fun k => (sum_apply a b r (col 1 k)).symm
  rw [e]
  unfold heads
  unfold k0_pay4
  generalize k0_pay2 a b = T
  pointwise [headNorm]
  rfl

theorem head2 (a b : Vec Ideal S1x512x1024 .f32) (r : Fin 512) (k : Fin 128) : heads a b 2 (ix2 r k) = headNorm (fun k => a (ix3 0 r (col 2 k)) + b (ix3 0 r (col 2 k))) k := by
  have e : (fun k : Fin 128 => a (ix3 0 r (col 2 k)) + b (ix3 0 r (col 2 k))) = fun k => k0_pay2 a b (ix2 r (col 2 k)) := funext fun k => (sum_apply a b r (col 2 k)).symm
  rw [e]
  unfold heads
  unfold k0_pay5
  generalize k0_pay2 a b = T
  pointwise [headNorm]
  rfl

theorem head3 (a b : Vec Ideal S1x512x1024 .f32) (r : Fin 512) (k : Fin 128) : heads a b 3 (ix2 r k) = headNorm (fun k => a (ix3 0 r (col 3 k)) + b (ix3 0 r (col 3 k))) k := by
  have e : (fun k : Fin 128 => a (ix3 0 r (col 3 k)) + b (ix3 0 r (col 3 k))) = fun k => k0_pay2 a b (ix2 r (col 3 k)) := funext fun k => (sum_apply a b r (col 3 k)).symm
  rw [e]
  unfold heads
  unfold k0_pay8 k0_pay7 k0_pay6
  generalize k0_pay2 a b = T
  pointwise [headNorm]
  rfl

theorem head4 (a b : Vec Ideal S1x512x1024 .f32) (r : Fin 512) (k : Fin 128) : heads a b 4 (ix2 r k) = headNorm (fun k => a (ix3 0 r (col 4 k)) + b (ix3 0 r (col 4 k))) k := by
  have e : (fun k : Fin 128 => a (ix3 0 r (col 4 k)) + b (ix3 0 r (col 4 k))) = fun k => k0_pay2 a b (ix2 r (col 4 k)) := funext fun k => (sum_apply a b r (col 4 k)).symm
  rw [e]
  unfold heads
  unfold k0_pay9
  generalize k0_pay2 a b = T
  pointwise [headNorm]
  rfl

theorem head5 (a b : Vec Ideal S1x512x1024 .f32) (r : Fin 512) (k : Fin 128) : heads a b 5 (ix2 r k) = headNorm (fun k => a (ix3 0 r (col 5 k)) + b (ix3 0 r (col 5 k))) k := by
  have e : (fun k : Fin 128 => a (ix3 0 r (col 5 k)) + b (ix3 0 r (col 5 k))) = fun k => k0_pay2 a b (ix2 r (col 5 k)) := funext fun k => (sum_apply a b r (col 5 k)).symm
  rw [e]
  unfold heads
  unfold k0_pay10
  generalize k0_pay2 a b = T
  pointwise [headNorm]
  rfl

theorem head6 (a b : Vec Ideal S1x512x1024 .f32) (r : Fin 512) (k : Fin 128) : heads a b 6 (ix2 r k) = headNorm (fun k => a (ix3 0 r (col 6 k)) + b (ix3 0 r (col 6 k))) k := by
  have e : (fun k : Fin 128 => a (ix3 0 r (col 6 k)) + b (ix3 0 r (col 6 k))) = fun k => k0_pay2 a b (ix2 r (col 6 k)) := funext fun k => (sum_apply a b r (col 6 k)).symm
  rw [e]
  unfold heads
  unfold k0_pay11
  generalize k0_pay2 a b = T
  pointwise [headNorm]
  rfl

theorem head7 (a b : Vec Ideal S1x512x1024 .f32) (r : Fin 512) (k : Fin 128) : heads a b 7 (ix2 r k) = headNorm (fun k => a (ix3 0 r (col 7 k)) + b (ix3 0 r (col 7 k))) k := by
  have e : (fun k : Fin 128 => a (ix3 0 r (col 7 k)) + b (ix3 0 r (col 7 k))) = fun k => k0_pay2 a b (ix2 r (col 7 k)) := funext fun k => (sum_apply a b r (col 7 k)).symm
  rw [e]
  unfold heads
  unfold k0_pay13 k0_pay12 k0_pay14
  generalize k0_pay2 a b = T
  pointwise [headNorm]
  rfl

theorem heads_at (a b : Vec Ideal S1x512x1024 .f32) (h : Fin 8) (r : Fin 512) (k : Fin 128) : heads a b h (ix2 r k) = headNorm (fun k => a (ix3 0 r (col h k)) + b (ix3 0 r (col h k))) k := by
  fin_cases h
  · exact head0 a b r k
  · exact head1 a b r k
  · exact head2 a b r k
  · exact head3 a b r k
  · exact head4 a b r k
  · exact head5 a b r k
  · exact head6 a b r k
  · exact head7 a b r k

/-- The wide row, scaled and gated. -/
def store (x : FVec Ideal S512x1024 .f32) (g : Vec Ideal S1x1x1024 .f32) (z : Vec Ideal S512x1024 .f32) : FVec Ideal S512x1024 .f32 :=
  mulf (mulf x (broadcastTo S512x1024 (shapeCast S1x1024 g shapeCasts_S1x1x1024_S1x1024) broadcasts_S1x1024_S512x1024)) (mulf z (logistic z))

theorem store_at (x : FVec Ideal S512x1024 .f32) (g : Vec Ideal S1x1x1024 .f32) (z : Vec Ideal S512x1024 .f32) (r : Fin 512) (d : Fin 1024) :
    store x g z (ix2 r d) = x (ix2 r d) * g (ix3 0 0 d) * gate (z (ix2 r d)) := by
  pointwise [store, gate]

/-- The body's store. -/
theorem pay_eq (a b : Vec Ideal S1x512x1024 .f32) (g : Vec Ideal S1x1x1024 .f32) (z : Vec Ideal S512x1024 .f32) :
    k0_pay1 (k0_pay3 a b) (k0_pay4 a b) (k0_pay5 a b) (k0_pay8 (k0_pay6 a b) (k0_pay7 a b) (Scalar.ofBits .f32 0x43000000#32)) (k0_pay9 (k0_pay2 a b)) (k0_pay10 (k0_pay2 a b)) (k0_pay11 (k0_pay2 a b)) (k0_pay12 (k0_pay2 a b)) (k0_pay13 (k0_pay2 a b)) (k0_pay14 (F := Ideal)) g z
      = store (wide (heads a b)) g z := rfl

/-- The entry of the result that a point's block entry lands on. -/
theorem cell (t : Fin cfg0.N) (r : Fin 512) (d : Fin 1024) :
    ((View.whole main_v4).slice (win0_4.rect t)).emb (ix2 r d) = ix2 (rowOf t r) d := by
  blk_ext [idx t]

variable (m : (ℓ : Loc nD τ sig) → Buf (Elt Ideal) ℓ)

/-! The blocks of a point as entries of the arguments. -/

theorem blk_a (c : Dev nD) (t : Fin cfg0.N) (r : Fin 512) (d : Fin 1024) : iblk m c 0 t (ix3 0 r d) = (m ((c : Thread nD τ).loc main_arg0) : Vec Ideal S2x32768x1024 .f32) (ix3 0 (rowOf t r) d) := by
  have := tlt t
  blk_ext [iblk, V, idx t]

theorem blk_b (c : Dev nD) (t : Fin cfg0.N) (r : Fin 512) (d : Fin 1024) : iblk m c 1 t (ix3 0 r d) = (m ((c : Thread nD τ).loc main_arg0) : Vec Ideal S2x32768x1024 .f32) (ix3 1 (rowOf t r) d) := by
  have := tlt t
  blk_ext [iblk, V, idx t]

theorem blk_z (c : Dev nD) (t : Fin cfg0.N) (r : Fin 512) (d : Fin 1024) : iblk m c 2 t (ix2 r d) = (m ((c : Thread nD τ).loc main_arg1) : Vec Ideal S32768x4096 .f32) (ix2 (rowOf t r) ⟨3072 + d.val, by omega⟩) := by
  have := tlt t
  blk_ext [iblk, V, idx t]

theorem blk_g (c : Dev nD) (t : Fin cfg0.N) (d : Fin 1024) : iblk m c 3 t (ix3 0 0 d) = (m ((c : Thread nD τ).loc main_arg2) : Vec Ideal S128 .f32) (ix1 (laneOf d)) := by
  have := tlt t
  unfold iblk
  rw [View.read_apply]
  show V m c main_v3 _ = _
  entry_read
  pointwise
  blk_ext [idx t]

/-! The reference, an array at a time. -/

/-- The directions' sum, by heads. -/
def sumV (O : FVec Ideal Reference13Ideal.S2x32768x1024 .f32) : FVec Ideal Reference13Ideal.S32768x8x128 .f32 :=
  shapeCast _ (addf (shapeCast Reference13Ideal.S32768x1024 (extractStridedSlice Reference13Ideal.S1x32768x1024 ![0, 0, 0] O Reference13Ideal.Gen.slices_S2x32768x1024_S1x32768x1024_0_0_0) Reference13Ideal.Gen.shapeCasts_S1x32768x1024_S32768x1024) (shapeCast _ (extractStridedSlice Reference13Ideal.S1x32768x1024 ![1, 0, 0] O Reference13Ideal.Gen.slices_S2x32768x1024_S1x32768x1024_1_0_0) Reference13Ideal.Gen.shapeCasts_S1x32768x1024_S32768x1024)) Reference13Ideal.Gen.shapeCasts_S32768x1024_S32768x8x128

/-- The heads normed and scaled. -/
def normV (S : FVec Ideal Reference13Ideal.S32768x8x128 .f32) (g : FVec Ideal Reference13Ideal.S128 .f32) : FVec Ideal Reference13Ideal.S32768x8x128 .f32 :=
  mulf (mulf S (broadcastInDim Reference13Ideal.S32768x8x128 ![0, 1, 2] Reference13Ideal.Gen.bcast_S32768x8x1_S32768x8x128_0_1_2 (Host.rsqrt (addf (Host.divf (broadcastInDim Reference13Ideal.S32768x8x1 ![0, 1] Reference13Ideal.Gen.bcast_S32768x8_S32768x8x1_0_1 (Host.reduceAdd (mulf S S) (constant Reference13Ideal.S_ .f32 0x00000000#32) Reference13Ideal.Gen.reducesTo_S32768x8x128_S32768x8_d2 Reference13Ideal.Gen.h_S_)) (broadcastInDim Reference13Ideal.S32768x8x1 ![] Reference13Ideal.Gen.bcast_S_S32768x8x1 (constant Reference13Ideal.S_ .f32 0x43000000#32))) (broadcastInDim Reference13Ideal.S32768x8x1 ![] Reference13Ideal.Gen.bcast_S_S32768x8x1 (constant Reference13Ideal.S_ .f32 0x358637BD#32)))))) (broadcastInDim Reference13Ideal.S32768x8x128 ![0, 1, 2] Reference13Ideal.Gen.bcast_S1x1x128_S32768x8x128_0_1_2 (broadcastInDim Reference13Ideal.S1x1x128 ![2] Reference13Ideal.Gen.bcast_S128_S1x1x128_2 g))

/-- The heads in a row, gated. -/
def outV (N : FVec Ideal Reference13Ideal.S32768x8x128 .f32) (U : FVec Ideal Reference13Ideal.S32768x4096 .f32) : FVec Ideal Reference13Ideal.S32768x1024 .f32 :=
  mulf (shapeCast _ N Reference13Ideal.Gen.shapeCasts_S32768x8x128_S32768x1024) (mulf (extractStridedSlice Reference13Ideal.S32768x1024 ![0, 3072] U Reference13Ideal.Gen.slices_S32768x4096_S32768x1024_0_3072) (Host.divf (broadcastInDim Reference13Ideal.S32768x1024 ![] Reference13Ideal.Gen.bcast_S_S32768x1024 (constant Reference13Ideal.S_ .f32 0x3F800000#32)) (addf (broadcastInDim Reference13Ideal.S32768x1024 ![] Reference13Ideal.Gen.bcast_S_S32768x1024 (constant Reference13Ideal.S_ .f32 0x3F800000#32)) (Host.exp (Host.negf (extractStridedSlice Reference13Ideal.S32768x1024 ![0, 3072] U Reference13Ideal.Gen.slices_S32768x4096_S32768x1024_0_3072))))))

theorem sum_at (O : FVec Ideal Reference13Ideal.S2x32768x1024 .f32) (r : Fin 32768) (h : Fin 8) (k : Fin 128) :
    sumV O (ix3 r h k) = O (ix3 0 r (col h k)) + O (ix3 1 r (col h k)) := by
  pointwise [sumV]

theorem norm_at (S : FVec Ideal Reference13Ideal.S32768x8x128 .f32) (g : FVec Ideal Reference13Ideal.S128 .f32) (r : Fin 32768) (h : Fin 8) (k : Fin 128) :
    normV S g (ix3 r h k) = headNorm (fun k => S (ix3 r h k)) k * g (ix1 k) := by
  pointwise [normV, headNorm]

theorem out_at (N : FVec Ideal Reference13Ideal.S32768x8x128 .f32) (U : FVec Ideal Reference13Ideal.S32768x4096 .f32) (r : Fin 32768) (d : Fin 1024) :
    outV N U (ix2 r d) = N (ix3 r (headOf d) (laneOf d)) * gate (U (ix2 r ⟨3072 + d.val, by omega⟩)) := by
  pointwise [outV, gate]
  rfl

/-- The reference's entry. -/
theorem ref_at (O : FVec Ideal Reference13Ideal.S2x32768x1024 .f32) (U : FVec Ideal Reference13Ideal.S32768x4096 .f32) (g : FVec Ideal Reference13Ideal.S128 .f32) (r : Fin 32768) (d : Fin 1024) :
    outV (normV (sumV O) g) U (ix2 r d) = entry O U g r d := by
  rw [out_at, norm_at]
  simp only [sum_at]
  rfl

/-- What a point stores is the entry there. -/
theorem block_eq (c : Dev nD) (t : Fin cfg0.N) (r : Fin 512) (d : Fin 1024) :
    store (wide (heads (iblk m c 0 t) (iblk m c 1 t))) (iblk m c 3 t) (iblk m c 2 t) (ix2 r d)
      = entry (m ((c : Thread nD τ).loc main_arg0)) (m ((c : Thread nD τ).loc main_arg1)) (m ((c : Thread nD τ).loc main_arg2)) (rowOf t r) d := by
  rw [store_at, wide_at, heads_at]
  simp only [blk_a m c t r, blk_b m c t r, blk_z m c t r, blk_g m c t]
  rfl

/-- The kernel's array is the reference's. -/
theorem value : Cert.algebraic_Kernel13Ideal_Reference13Ideal := by
  intro m ρ m' ρ' _ hagree
  refine ⟨_, Cert.Kernel13Ideal.Value.run_blocks (F := Ideal) m ρ, ?_⟩
  refine (θ_run Cert.Reference13Ideal.defs _ _).mono (fun _ h c => ⟨?_, (h c).2⟩) (Cert.Reference13Ideal.Value.run (F := Ideal) m' ρ')
  obtain ⟨a0, a1, a2⟩ := hagree c
  refine (h c).1.trans ?_
  rw [a0, a1, a2]
  symm
  refine (dats m 0 c).arrAt_eq_of_covers 4 _ (by decide +kernel) fun t hf y => ?_
  blk_simp
  rw [after0_4]
  unfold_out out0_4
  frame_out
  rw [eq_ix2 y]
  refine (congrFun (pay_eq _ _ _ _) _).trans ?_
  refine (block_eq m c t (y 0) (y 1)).trans ?_
  refine Eq.trans ?_ (congrArg _ (cell t (y 0) (y 1))).symm
  exact (ref_at _ _ _ (rowOf t (y 0)) (y 1)).symm

end Cert.DeltaNorm

end
-- ==== Proof.DeltaConv.lean ====
module

public import proofs.«01_k».proof.Defs
public import proofs.«01_k».proof.Proof.Gen.Kernel14Ideal.Value
public import proofs.«01_k».proof.Proof.Gen.Reference14Ideal.Run
public import Idealize.ShloMosaic.Adequacy
public import Idealize.ShloMosaic.Init
public import Idealize.ShloMosaic.Lib.Quiescent
public import Idealize.ShloMosaic.Lib.Pipeline.ValueKit
public import Idealize.ShloMosaic.Lib.Claim

/-! The delta rule's short convolution: the kernel's query, key and value arrays are the reference's, entry by entry. -/

@[expose] public section

noncomputable section

namespace Cert.DeltaConv

open Cert.Kernel14Ideal Cert.Kernel14Ideal.Gen Idealize.ShloMosaic Idealize.ShloMosaic.TcCoe Idealize.SL.Sem

/-- The reference runs, ends and keeps its arguments. -/
theorem reference_quiet : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- Where each window's block lies at a grid point: row blocks by `t / 2`, column blocks of the three branches by `t % 2`. -/
theorem idx : ∀ t : Fin grid0.N, win0_0.index t = ![t.val / 2, t.val % 2] ∧ win0_1.index t = ![t.val / 2 * 32 - 1, t.val % 2] ∧ win0_2.index t = ![min (t.val / 2 * 32 + 32) 4095, t.val % 2] ∧ win0_3.index t = ![0, t.val % 2]
    ∧ win0_4.index t = ![t.val / 2, 2 + t.val % 2] ∧ win0_5.index t = ![t.val / 2 * 32 - 1, 2 + t.val % 2] ∧ win0_6.index t = ![min (t.val / 2 * 32 + 32) 4095, 2 + t.val % 2] ∧ win0_7.index t = ![0, 2 + t.val % 2]
    ∧ win0_8.index t = ![t.val / 2, 4 + t.val % 2] ∧ win0_9.index t = ![t.val / 2 * 32 - 1, 4 + t.val % 2] ∧ win0_10.index t = ![min (t.val / 2 * 32 + 32) 4095, 4 + t.val % 2] ∧ win0_11.index t = ![0, 4 + t.val % 2]
    ∧ win0_12.index t = ![t.val / 2, t.val % 2] ∧ win0_13.index t = ![t.val / 2, t.val % 2] ∧ win0_14.index t = ![t.val / 2, t.val % 2] ∧ (grid0.coords t 0).val = t.val / 2 := by decide +kernel

theorem tlt (t : Fin cfg0.N) : t.val < 256 := Nat.lt_of_lt_of_eq t.isLt N_0

/-- The row and the column of a branch that a point's block entry is. -/
abbrev rowOf (t : Fin cfg0.N) (r : Fin 256) : Fin 32768 := ⟨t.val / 2 * 256 + r.val, by have := tlt t; omega⟩
abbrev colOf (t : Fin cfg0.N) (d : Fin 512) : Fin 1024 := ⟨t.val % 2 * 512 + d.val, by omega⟩
/-- The column of the input that a branch's column is. -/
abbrev at' (s : Fin 3) (q : Fin 1024) : Fin 3072 := ⟨s.val * 1024 + q.val, by omega⟩

/-- The same column, of the wider input. -/
abbrev up (q : Fin 3072) : Fin 4096 := ⟨q.val, by omega⟩

/-- A value's gate. -/
def gate (z : EReal) : EReal := z * Ideal.logistic z

/-- A head's row over the root of its sum of squares. -/
def headNorm (v : Fin 128 → EReal) (k : Fin 128) : EReal :=
  v k * Ideal.rsqrt ((∑ j, v j * v j) + Ideal.ofBits .f32 0x358637BD#32)

/-- The remainder's test, as the body spells it. -/
def atZero (w : BitVec 32) : BitVec 1 := Scalar.cmpi .eq (Scalar.select (Scalar.andi (Scalar.xori (Scalar.cmpi .slt (Scalar.remsi w (Scalar.select (Scalar.cmpi .eq 16384#32 0#32) 1#32 16384#32)) 0#32) (Scalar.cmpi .slt (Scalar.select (Scalar.cmpi .eq 16384#32 0#32) 1#32 16384#32) 0#32)) (Scalar.cmpi .ne (Scalar.remsi w (Scalar.select (Scalar.cmpi .eq 16384#32 0#32) 1#32 16384#32)) 0#32)) (Scalar.addi (Scalar.remsi w (Scalar.select (Scalar.cmpi .eq 16384#32 0#32) 1#32 16384#32)) (Scalar.select (Scalar.cmpi .eq 16384#32 0#32) 1#32 16384#32)) (Scalar.remsi w (Scalar.select (Scalar.cmpi .eq 16384#32 0#32) 1#32 16384#32))) 0#32

/-- Whether a point's block begins a sequence. -/
def first (i : grid0.Coords) : BitVec 1 := atZero (Scalar.muli (BitVec.ofNat 32 (i 0).val) 256#32)
/-- Whether it ends one. -/
def last (i : grid0.Coords) : BitVec 1 := atZero (Scalar.muli (Scalar.addi (BitVec.ofNat 32 (i 0).val) 1#32) 256#32)

theorem first_eq : ∀ t : Fin grid0.N, first (grid0.coords t) = BitVec.ofBool (decide (t.val / 2 % 64 = 0)) := by decide +kernel
theorem last_eq : ∀ t : Fin grid0.N, last (grid0.coords t) = BitVec.ofBool (decide (t.val / 2 % 64 = 63)) := by decide +kernel

/-- A tap's neighbours and itself, weighted: the rows before and after come from the neighbouring blocks at the edges. -/
def part (f l : BitVec 1) (u : Vec Ideal S256x512 .f32) (w : Vec Ideal S3x512 .f32) (p n : Vec Ideal S1x512 .f32) (r : Fin 256) (d : Fin 512) : EReal :=
  (if r.val = 0 then Scalar.select f 0 (p (ix2 0 d)) else u (ix2 ⟨r.val - 1, by omega⟩ d)) * w (ix2 0 d) + u (ix2 r d) * w (ix2 1 d)
    + (if h : r.val = 255 then Scalar.select l 0 (n (ix2 0 d)) else u (ix2 ⟨r.val + 1, by omega⟩ d)) * w (ix2 2 d)

theorem cmp_first : ∀ r : Fin 256, IntOp.cmpi CmpIPredicate.eq (BitVec.ofNat 32 r.val) 0#32 = BitVec.ofBool (decide (r.val = 0)) := by decide +kernel
theorem cmp_last : ∀ r : Fin 256, IntOp.cmpi CmpIPredicate.eq (BitVec.ofNat 32 r.val) 255#32 = BitVec.ofBool (decide (r.val = 255)) := by decide +kernel

/-- A choice by a decided bit is the choice by what it decides. -/
theorem select_dec {α : Type} (p : Prop) [Decidable p] (a b : α) : Scalar.select (BitVec.ofBool (decide p)) a b = if p then a else b := by
  by_cases h : p <;> simp [h, Scalar.select]

/-- The rotated and chosen rows are the neighbours'. -/
theorem part_of (f l : BitVec 1) (u : Vec Ideal S256x512 .f32) (w : Vec Ideal S3x512 .f32) (p n : Vec Ideal S1x512 .f32) (r : Fin 256) (d : Fin 512) (h1 h2) :
    Scalar.select (IntOp.cmpi CmpIPredicate.eq (BitVec.ofNat 32 r.val) 0#32) (Scalar.select f 0 (p (ix2 0 d))) (u (ix2 ⟨(r.val + 256 - 1) % 256, h1⟩ d)) * w (ix2 0 d) + u (ix2 r d) * w (ix2 1 d)
      + Scalar.select (IntOp.cmpi CmpIPredicate.eq (BitVec.ofNat 32 r.val) 255#32) (Scalar.select l 0 (n (ix2 0 d))) (u (ix2 ⟨(r.val + 256 - 255) % 256, h2⟩ d)) * w (ix2 2 d) = part f l u w p n r d := by
  rw [cmp_first, cmp_last, select_dec, select_dec]
  unfold part
  congr 2
  · congr 1
    split
    · rfl
    · rename_i h
      exact congrArg u (congrArg (fun k => ix2 k d) (Fin.ext (by show (r.val + 256 - 1) % 256 = r.val - 1; omega)))
  · split
    · rfl
    · rename_i h
      exact congrArg u (congrArg (fun k => ix2 k d) (Fin.ext (by show (r.val + 256 - 255) % 256 = r.val + 1; omega)))

/-- The first branch at an entry. -/
theorem first_apply (i : grid0.Coords) (u : Vec Ideal S256x512 .f32) (w : Vec Ideal S3x512 .f32) (p n : Vec Ideal S1x512 .f32) (r : Fin 256) (d : Fin 512) :
    k0_pay4 (F := Ideal) (last i) (iota .tc S256x1 32 [0] iota_S256x1_d0_w32) u w (k0_pay3 i p) n (ix2 r d) = part (first i) (last i) u w p n r d := by
  have e : k0_pay3 i p = fun j => Scalar.select (first i) (Scalar.ofBits (F := Ideal) .f32 0x00000000#32) (p j) := by
    funext j
    show (Scalar.select (first i) (broadcast S1x512 (Scalar.ofBits (F := Ideal) .f32 0x00000000#32)) p) j = _
    unfold Scalar.select
    split <;> rfl
  rw [e]
  generalize first i = f
  generalize last i = l
  rw [← part_of f l u w p n r d (by omega) (by omega)]
  pointwise [k0_pay4]

/-- The second branch at an entry. -/
theorem second_apply (f l : BitVec 1) (u : Vec Ideal S256x512 .f32) (w : Vec Ideal S3x512 .f32) (p n : Vec Ideal S1x512 .f32) (r : Fin 256) (d : Fin 512) :
    k0_pay9 (F := Ideal) (iota .tc S256x1 32 [0] iota_S256x1_d0_w32) u w (k0_pay5 l n) (k0_pay6 u) (k0_pay7 (iota .tc S256x1 32 [0] iota_S256x1_d0_w32)) (k0_pay8 f p) (ix2 r d) = part f l u w p n r d := by
  rw [← part_of f l u w p n r d (by omega) (by omega)]
  pointwise [k0_pay9, k0_pay5, k0_pay6, k0_pay7, k0_pay8]

/-- The third branch at an entry. -/
theorem third_apply (f l : BitVec 1) (u : Vec Ideal S256x512 .f32) (w : Vec Ideal S3x512 .f32) (p n : Vec Ideal S1x512 .f32) (r : Fin 256) (d : Fin 512) :
    k0_pay14 (F := Ideal) u w (k0_pay10 f (iota .tc S256x1 32 [0] iota_S256x1_d0_w32) u p) (k0_pay11 u) (k0_pay12 (iota .tc S256x1 32 [0] iota_S256x1_d0_w32)) (k0_pay13 l n) (ix2 r d) = part f l u w p n r d := by
  rw [← part_of f l u w p n r d (by omega) (by omega)]
  pointwise [k0_pay14, k0_pay10, k0_pay11, k0_pay12, k0_pay13]

/-! The gated branches, and the four heads of a block normed one after the other and laid side by side. -/

theorem gateQ (x : FVec Ideal S256x512 .f32) (r : Fin 256) (d : Fin 512) : k0_pay15 x (ix2 r d) = gate (x (ix2 r d)) := by
  pointwise [k0_pay15, gate]

theorem gateK (x : FVec Ideal S256x512 .f32) (r : Fin 256) (d : Fin 512) : k0_pay22 x (ix2 r d) = gate (x (ix2 r d)) := by
  pointwise [k0_pay22, gate]

theorem gateV (x : FVec Ideal S256x512 .f32) (r : Fin 256) (d : Fin 512) : k0_pay2 x (ix2 r d) = gate (x (ix2 r d)) := by
  pointwise [k0_pay2, gate]

/-- A column of a block by its head and lane. -/
abbrev bcol (h : Fin 4) (k : Fin 128) : Fin 512 := ⟨h.val * 128 + k.val, by omega⟩
abbrev bhead (d : Fin 512) : Fin 4 := ⟨d.val / 128, by omega⟩
abbrev blane (d : Fin 512) : Fin 128 := ⟨d.val % 128, by omega⟩

/-- The query's heads, as the body computes each. -/
def headsQ (x : FVec Ideal S256x512 .f32) : Fin 4 → FVec Ideal S256x128 .f32
  | 0 => k0_pay16 x
  | 1 => k0_pay17 x
  | 2 => k0_pay18 x
  | 3 => mulf (k0_pay19 x) (broadcastTo S256x128 (mulf (rsqrt (addf (shapeCast S256x1 (k0_pay20 x) shapeCasts_S256_S256x1) (broadcast S256x1 (Scalar.ofBits (F := Ideal) .f32 0x358637BD#32)))) (broadcast S256x1 (Scalar.ofBits (F := Ideal) .f32 0x3DB504F3#32))) broadcasts_S256x1_S256x128)

/-- The key's heads, as the body computes each. -/
def headsK (x : FVec Ideal S256x512 .f32) : Fin 4 → FVec Ideal S256x128 .f32
  | 0 => k0_pay23 x
  | 1 => k0_pay24 x
  | 2 => k0_pay25 x
  | 3 => mulf (k0_pay26 x) (broadcastTo S256x128 (mulf (rsqrt (addf (k0_pay27 x) (broadcast S256x1 (Scalar.ofBits (F := Ideal) .f32 0x358637BD#32)))) (broadcast S256x1 (Scalar.ofBits (F := Ideal) .f32 0x3F800000#32))) broadcasts_S256x1_S256x128)

/-- The heads laid side by side. -/
def wide (f : Fin 4 → FVec Ideal S256x128 .f32) : FVec Ideal S256x512 .f32 :=
  concatenate S256x512 1 (List.ofFn fun j : Fin 4 => ⟨S256x128, f j⟩) concatenates_S256x128_S256x128_S256x128_S256x128_S256x512_d1

theorem wide_at (f : Fin 4 → FVec Ideal S256x128 .f32) (r : Fin 256) (d : Fin 512) : wide f (ix2 r d) = f (bhead d) (ix2 r (blane d)) := by
  refine concatenate_ofFn_apply (t := S256x512) 1 f _ rfl 128 rfl _ (bhead d) rfl (ix2 r (blane d)) rfl ?_
  intro c hc; fin_cases c
  · rfl
  · exact absurd rfl hc

theorem pay_q (x : FVec Ideal S256x512 .f32) : k0_pay21 (k0_pay16 x) (k0_pay17 x) (k0_pay18 x) (k0_pay19 x) (k0_pay20 x) = wide (headsQ x) := rfl
theorem pay_k (x : FVec Ideal S256x512 .f32) : k0_pay1 (k0_pay23 x) (k0_pay24 x) (k0_pay25 x) (k0_pay26 x) (k0_pay27 x) = wide (headsK x) := rfl

theorem q0 (x : FVec Ideal S256x512 .f32) (r : Fin 256) (k : Fin 128) : headsQ x 0 (ix2 r k) = headNorm (fun k => gate (x (ix2 r (bcol 0 k)))) k * Ideal.ofBits .f32 0x3DB504F3#32 := by
  have e : (fun k : Fin 128 => gate (x (ix2 r (bcol 0 k)))) = fun k => k0_pay15 x (ix2 r (bcol 0 k)) := funext fun k => (gateQ x r (bcol 0 k)).symm
  rw [e]
  unfold headsQ
  unfold k0_pay16
  generalize k0_pay15 x = T
  simp only [fun k : Fin 128 => show bcol 0 k = ⟨k.val, by omega⟩ from Fin.ext (Nat.zero_add _)]
  pointwise [headNorm]
  exact (mul_assoc _ _ _).symm

theorem q1 (x : FVec Ideal S256x512 .f32) (r : Fin 256) (k : Fin 128) : headsQ x 1 (ix2 r k) = headNorm (fun k => gate (x (ix2 r (bcol 1 k)))) k * Ideal.ofBits .f32 0x3DB504F3#32 := by
  have e : (fun k : Fin 128 => gate (x (ix2 r (bcol 1 k)))) = fun k => k0_pay15 x (ix2 r (bcol 1 k)) := funext fun k => (gateQ x r (bcol 1 k)).symm
  rw [e]
  unfold headsQ
  unfold k0_pay17
  generalize k0_pay15 x = T
  pointwise [headNorm]
  exact (mul_assoc _ _ _).symm

theorem q2 (x : FVec Ideal S256x512 .f32) (r : Fin 256) (k : Fin 128) : headsQ x 2 (ix2 r k) = headNorm (fun k => gate (x (ix2 r (bcol 2 k)))) k * Ideal.ofBits .f32 0x3DB504F3#32 := by
  have e : (fun k : Fin 128 => gate (x (ix2 r (bcol 2 k)))) = fun k => k0_pay15 x (ix2 r (bcol 2 k)) := funext fun k => (gateQ x r (bcol 2 k)).symm
  rw [e]
  unfold headsQ
  unfold k0_pay18
  generalize k0_pay15 x = T
  pointwise [headNorm]
  exact (mul_assoc _ _ _).symm

theorem q3 (x : FVec Ideal S256x512 .f32) (r : Fin 256) (k : Fin 128) : headsQ x 3 (ix2 r k) = headNorm (fun k => gate (x (ix2 r (bcol 3 k)))) k * Ideal.ofBits .f32 0x3DB504F3#32 := by
  have e : (fun k : Fin 128 => gate (x (ix2 r (bcol 3 k)))) = fun k => k0_pay15 x (ix2 r (bcol 3 k)) := funext fun k => (gateQ x r (bcol 3 k)).symm
  rw [e]
  unfold headsQ
  unfold k0_pay20 k0_pay19
  generalize k0_pay15 x = T
  pointwise [headNorm]
  exact (mul_assoc _ _ _).symm

theorem k0 (x : FVec Ideal S256x512 .f32) (r : Fin 256) (k : Fin 128) : headsK x 0 (ix2 r k) = headNorm (fun k => gate (x (ix2 r (bcol 0 k)))) k := by
  have e : (fun k : Fin 128 => gate (x (ix2 r (bcol 0 k)))) = fun k => k0_pay22 x (ix2 r (bcol 0 k)) := funext fun k => (gateK x r (bcol 0 k)).symm
  rw [e]
  unfold headsK
  unfold k0_pay23
  generalize k0_pay22 x = T
  simp only [fun k : Fin 128 => show bcol 0 k = ⟨k.val, by omega⟩ from Fin.ext (Nat.zero_add _)]
  pointwise [headNorm]

theorem k1 (x : FVec Ideal S256x512 .f32) (r : Fin 256) (k : Fin 128) : headsK x 1 (ix2 r k) = headNorm (fun k => gate (x (ix2 r (bcol 1 k)))) k := by
  have e : (fun k : Fin 128 => gate (x (ix2 r (bcol 1 k)))) = fun k => k0_pay22 x (ix2 r (bcol 1 k)) := funext fun k => (gateK x r (bcol 1 k)).symm
  rw [e]
  unfold headsK
  unfold k0_pay24
  generalize k0_pay22 x = T
  pointwise [headNorm]
  rfl

theorem k2 (x : FVec Ideal S256x512 .f32) (r : Fin 256) (k : Fin 128) : headsK x 2 (ix2 r k) = headNorm (fun k => gate (x (ix2 r (bcol 2 k)))) k := by
  have e : (fun k : Fin 128 => gate (x (ix2 r (bcol 2 k)))) = fun k => k0_pay22 x (ix2 r (bcol 2 k)) := funext fun k => (gateK x r (bcol 2 k)).symm
  rw [e]
  unfold headsK
  unfold k0_pay25
  generalize k0_pay22 x = T
  pointwise [headNorm]
  rfl

theorem k3 (x : FVec Ideal S256x512 .f32) (r : Fin 256) (k : Fin 128) : headsK x 3 (ix2 r k) = headNorm (fun k => gate (x (ix2 r (bcol 3 k)))) k := by
  have e : (fun k : Fin 128 => gate (x (ix2 r (bcol 3 k)))) = fun k => k0_pay22 x (ix2 r (bcol 3 k)) := funext fun k => (gateK x r (bcol 3 k)).symm
  rw [e]
  unfold headsK
  unfold k0_pay27 k0_pay26
  generalize k0_pay22 x = T
  pointwise [headNorm]
  rfl

theorem headsQ_at (x : FVec Ideal S256x512 .f32) (h : Fin 4) (r : Fin 256) (k : Fin 128) : headsQ x h (ix2 r k) = headNorm (fun k => gate (x (ix2 r (bcol h k)))) k * Ideal.ofBits .f32 0x3DB504F3#32 := by
  fin_cases h
  · exact q0 x r k
  · exact q1 x r k
  · exact q2 x r k
  · exact q3 x r k

theorem headsK_at (x : FVec Ideal S256x512 .f32) (h : Fin 4) (r : Fin 256) (k : Fin 128) : headsK x h (ix2 r k) = headNorm (fun k => gate (x (ix2 r (bcol h k)))) k := by
  fin_cases h
  · exact k0 x r k
  · exact k1 x r k
  · exact k2 x r k
  · exact k3 x r k

/-- One entry of the convolution: a row, its neighbours of the same sequence, each with its tap. -/
def conv (U : Vec Ideal S32768x4096 .f32) (W : Vec Ideal S3x3072 .f32) (R : Fin 32768) (q : Fin 3072) : EReal :=
  (if R.val % 16384 = 0 then 0 else U (ix2 ⟨R.val - 1, by omega⟩ (up q))) * W (ix2 0 q) + U (ix2 R (up q)) * W (ix2 1 q)
    + (if h : R.val % 16384 = 16383 then 0 else U (ix2 ⟨R.val + 1, by omega⟩ (up q))) * W (ix2 2 q)

/-- A point's block entry of a branch is the convolution's, when its blocks are the input's. -/
theorem part_conv (t : Fin cfg0.N) (U : Vec Ideal S32768x4096 .f32) (W : Vec Ideal S3x3072 .f32) (q : Fin 3072) (d : Fin 512)
    (u : Vec Ideal S256x512 .f32) (w : Vec Ideal S3x512 .f32) (p n : Vec Ideal S1x512 .f32) (r : Fin 256)
    (hu : ∀ r : Fin 256, u (ix2 r d) = U (ix2 (rowOf t r) (up q))) (hw : ∀ k : Fin 3, w (ix2 k d) = W (ix2 k q))
    (hp : p (ix2 0 d) = U (ix2 ⟨(t.val / 2 * 32 - 1) * 8 + 7, by have := tlt t; omega⟩ (up q)))
    (hn : n (ix2 0 d) = U (ix2 ⟨min (t.val / 2 * 32 + 32) 4095 * 8, by omega⟩ (up q))) :
    part (first (grid0.coords t)) (last (grid0.coords t)) u w p n r d = conv U W (rowOf t r) q := by
  have ht := tlt t
  have hr : (rowOf t r).val = t.val / 2 * 256 + r.val := rfl
  rw [first_eq t, last_eq t]
  unfold part conv
  rw [select_dec, select_dec, hw 0, hw 1, hw 2, hu r, hp, hn]
  congr 2
  · congr 1
    by_cases h : r.val = 0
    · rw [if_pos h]
      by_cases g : t.val / 2 % 64 = 0
      · rw [if_pos g, if_pos (by omega)]
      · rw [if_neg g, if_neg (by omega)]
        exact congrArg U (congrArg (fun k => ix2 k (up q)) (Fin.ext (by show (t.val / 2 * 32 - 1) * 8 + 7 = t.val / 2 * 256 + r.val - 1; omega)))
    · rw [if_neg h, if_neg (by omega), hu]
      exact congrArg U (congrArg (fun k => ix2 k (up q)) (Fin.ext (by show t.val / 2 * 256 + (r.val - 1) = t.val / 2 * 256 + r.val - 1; omega)))
  · by_cases h : r.val = 255
    · rw [dif_pos h]
      by_cases g : t.val / 2 % 64 = 63
      · rw [if_pos g, dif_pos (by omega)]
      · rw [if_neg g, dif_neg (by omega)]
        exact congrArg U (congrArg (fun k => ix2 k (up q)) (Fin.ext (by show min (t.val / 2 * 32 + 32) 4095 * 8 = t.val / 2 * 256 + r.val + 1; omega)))
    · rw [dif_neg h, dif_neg (by omega), hu]
      exact congrArg U (congrArg (fun k => ix2 k (up q)) (Fin.ext (by show t.val / 2 * 256 + (r.val + 1) = t.val / 2 * 256 + r.val + 1; omega)))

/-! The reference, an array at a time. -/

/-- The input by sequences, with a zero row before and after each. -/
def padV (U : FVec Ideal Reference14Ideal.S32768x4096 .f32) : FVec Ideal Reference14Ideal.S2x16386x3072 .f32 :=
  pad Reference14Ideal.S2x16386x3072 ![0, 1, 0] ![0, 1, 0] ![0, 0, 0] (shapeCast Reference14Ideal.S2x16384x3072 (extractStridedSlice Reference14Ideal.S32768x3072 ![0, 0] U Reference14Ideal.Gen.slices_S32768x4096_S32768x3072_0_0) Reference14Ideal.Gen.shapeCasts_S32768x3072_S2x16384x3072) (sitofp .f32 (constantI Reference14Ideal.S_ 32 0#32)) Reference14Ideal.Gen.pads_S2x16384x3072_S2x16386x3072_000_110_000 Reference14Ideal.Gen.h_S_

/-- The three taps' sum over a padded input. -/
def convV (P : FVec Ideal Reference14Ideal.S2x16386x3072 .f32) (W : FVec Ideal Reference14Ideal.S3x3072 .f32) : FVec Ideal Reference14Ideal.S2x16384x3072 .f32 :=
  addf (addf (mulf (extractStridedSlice Reference14Ideal.S2x16384x3072 ![0, 0, 0] P Reference14Ideal.Gen.slices_S2x16386x3072_S2x16384x3072_0_0_0) (broadcastInDim Reference14Ideal.S2x16384x3072 ![0, 1, 2] Reference14Ideal.Gen.bcast_S1x1x3072_S2x16384x3072_0_1_2 (broadcastInDim Reference14Ideal.S1x1x3072 ![2] Reference14Ideal.Gen.bcast_S3072_S1x1x3072_2 (shapeCast _ (extractStridedSlice Reference14Ideal.S1x3072 ![0, 0] W Reference14Ideal.Gen.slices_S3x3072_S1x3072_0_0) Reference14Ideal.Gen.shapeCasts_S1x3072_S3072))))
    (mulf (extractStridedSlice Reference14Ideal.S2x16384x3072 ![0, 1, 0] P Reference14Ideal.Gen.slices_S2x16386x3072_S2x16384x3072_0_1_0) (broadcastInDim Reference14Ideal.S2x16384x3072 ![0, 1, 2] Reference14Ideal.Gen.bcast_S1x1x3072_S2x16384x3072_0_1_2 (broadcastInDim Reference14Ideal.S1x1x3072 ![2] Reference14Ideal.Gen.bcast_S3072_S1x1x3072_2 (shapeCast _ (extractStridedSlice Reference14Ideal.S1x3072 ![1, 0] W Reference14Ideal.Gen.slices_S3x3072_S1x3072_1_0) Reference14Ideal.Gen.shapeCasts_S1x3072_S3072)))))
    (mulf (extractStridedSlice Reference14Ideal.S2x16384x3072 ![0, 2, 0] P Reference14Ideal.Gen.slices_S2x16386x3072_S2x16384x3072_0_2_0) (broadcastInDim Reference14Ideal.S2x16384x3072 ![0, 1, 2] Reference14Ideal.Gen.bcast_S1x1x3072_S2x16384x3072_0_1_2 (broadcastInDim Reference14Ideal.S1x1x3072 ![2] Reference14Ideal.Gen.bcast_S3072_S1x1x3072_2 (shapeCast _ (extractStridedSlice Reference14Ideal.S1x3072 ![2, 0] W Reference14Ideal.Gen.slices_S3x3072_S1x3072_2_0) Reference14Ideal.Gen.shapeCasts_S1x3072_S3072))))

/-- The convolution gated. -/
def gatedV (C : FVec Ideal Reference14Ideal.S2x16384x3072 .f32) : FVec Ideal Reference14Ideal.S2x16384x3072 .f32 :=
  mulf C (Host.divf (broadcastInDim Reference14Ideal.S2x16384x3072 ![] Reference14Ideal.Gen.bcast_S_S2x16384x3072 (constant Reference14Ideal.S_ .f32 0x3F800000#32)) (addf (broadcastInDim Reference14Ideal.S2x16384x3072 ![] Reference14Ideal.Gen.bcast_S_S2x16384x3072 (constant Reference14Ideal.S_ .f32 0x3F800000#32)) (Host.exp (Host.negf C))))

/-- The same by rows, branches, heads and lanes. -/
def headsV (C : FVec Ideal Reference14Ideal.S2x16384x3072 .f32) : FVec Ideal Reference14Ideal.S32768x3x8x128 .f32 :=
  shapeCast _ C Reference14Ideal.Gen.shapeCasts_S2x16384x3072_S32768x3x8x128

/-- The first two branches' heads normed. -/
def normV (H : FVec Ideal Reference14Ideal.S32768x3x8x128 .f32) : FVec Ideal Reference14Ideal.S32768x2x8x128 .f32 :=
  mulf (extractStridedSlice Reference14Ideal.S32768x2x8x128 ![0, 0, 0, 0] H Reference14Ideal.Gen.slices_S32768x3x8x128_S32768x2x8x128_0_0_0_0) (broadcastInDim Reference14Ideal.S32768x2x8x128 ![0, 1, 2, 3] Reference14Ideal.Gen.bcast_S32768x2x8x1_S32768x2x8x128_0_1_2_3 (Host.rsqrt (addf (broadcastInDim Reference14Ideal.S32768x2x8x1 ![0, 1, 2] Reference14Ideal.Gen.bcast_S32768x2x8_S32768x2x8x1_0_1_2 (Host.reduceAdd (mulf (extractStridedSlice Reference14Ideal.S32768x2x8x128 ![0, 0, 0, 0] H Reference14Ideal.Gen.slices_S32768x3x8x128_S32768x2x8x128_0_0_0_0) (extractStridedSlice Reference14Ideal.S32768x2x8x128 ![0, 0, 0, 0] H Reference14Ideal.Gen.slices_S32768x3x8x128_S32768x2x8x128_0_0_0_0)) (constant Reference14Ideal.S_ .f32 0x00000000#32) Reference14Ideal.Gen.reducesTo_S32768x2x8x128_S32768x2x8_d3 Reference14Ideal.Gen.h_S_)) (broadcastInDim Reference14Ideal.S32768x2x8x1 ![] Reference14Ideal.Gen.bcast_S_S32768x2x8x1 (constant Reference14Ideal.S_ .f32 0x358637BD#32)))))

/-- The first result: the normed query, scaled. -/
def queryV (N : FVec Ideal Reference14Ideal.S32768x2x8x128 .f32) : FVec Ideal Reference14Ideal.S32768x1024 .f32 :=
  shapeCast _ (mulf (shapeCast Reference14Ideal.S32768x8x128 (extractStridedSlice Reference14Ideal.S32768x1x8x128 ![0, 0, 0, 0] N Reference14Ideal.Gen.slices_S32768x2x8x128_S32768x1x8x128_0_0_0_0) Reference14Ideal.Gen.shapeCasts_S32768x1x8x128_S32768x8x128) (broadcastInDim Reference14Ideal.S32768x8x128 ![] Reference14Ideal.Gen.bcast_S_S32768x8x128 (constant Reference14Ideal.S_ .f32 0x3DB504F3#32))) Reference14Ideal.Gen.shapeCasts_S32768x8x128_S32768x1024

/-- The second result: the normed key. -/
def keyV (N : FVec Ideal Reference14Ideal.S32768x2x8x128 .f32) : FVec Ideal Reference14Ideal.S32768x1024 .f32 :=
  shapeCast _ (shapeCast Reference14Ideal.S32768x8x128 (extractStridedSlice Reference14Ideal.S32768x1x8x128 ![0, 1, 0, 0] N Reference14Ideal.Gen.slices_S32768x2x8x128_S32768x1x8x128_0_1_0_0) Reference14Ideal.Gen.shapeCasts_S32768x1x8x128_S32768x8x128) Reference14Ideal.Gen.shapeCasts_S32768x8x128_S32768x1024

/-- The third result: the gated value. -/
def valueV (H : FVec Ideal Reference14Ideal.S32768x3x8x128 .f32) : FVec Ideal Reference14Ideal.S32768x1024 .f32 :=
  shapeCast _ (shapeCast Reference14Ideal.S32768x8x128 (extractStridedSlice Reference14Ideal.S32768x1x8x128 ![0, 2, 0, 0] H Reference14Ideal.Gen.slices_S32768x3x8x128_S32768x1x8x128_0_2_0_0) Reference14Ideal.Gen.shapeCasts_S32768x1x8x128_S32768x8x128) Reference14Ideal.Gen.shapeCasts_S32768x8x128_S32768x1024

theorem pad_at (U : FVec Ideal Reference14Ideal.S32768x4096 .f32) (b : Fin 2) (s : Fin 16386) (q : Fin 3072) :
    padV U (ix3 b s q) = if h : s.val = 0 ∨ s.val = 16385 then 0 else U (ix2 ⟨b.val * 16384 + (s.val - 1), by omega⟩ (up q)) := by
  pointwise [padV]
  have z : FloatOps.sitofp (F := Ideal) (w := 32) FTy.f32 0#32 = (0 : EReal) := by
    show (((0#32 : BitVec 32).toInt : ℝ) : EReal) = 0
    simp
  by_cases h : s.val = 0 ∨ s.val = 16385
  · rw [dif_pos h, dif_neg (by omega), z]
  · rw [dif_neg h, dif_pos (by omega)]

theorem conv_at (P : FVec Ideal Reference14Ideal.S2x16386x3072 .f32) (W : FVec Ideal Reference14Ideal.S3x3072 .f32) (b : Fin 2) (s : Fin 16384) (q : Fin 3072) :
    convV P W (ix3 b s q) = P (ix3 b ⟨s.val, by omega⟩ q) * W (ix2 0 q) + P (ix3 b ⟨1 + s.val, by omega⟩ q) * W (ix2 1 q) + P (ix3 b ⟨2 + s.val, by omega⟩ q) * W (ix2 2 q) := by
  pointwise [convV]

/-- A branch's column by its head and lane. -/
abbrev hcol (h : Fin 8) (k : Fin 128) : Fin 1024 := ⟨h.val * 128 + k.val, by omega⟩
abbrev headOf (q : Fin 1024) : Fin 8 := ⟨q.val / 128, by omega⟩
abbrev laneOf (q : Fin 1024) : Fin 128 := ⟨q.val % 128, by omega⟩

theorem gated_at (C : FVec Ideal Reference14Ideal.S2x16384x3072 .f32) (b : Fin 2) (s : Fin 16384) (q : Fin 3072) : gatedV C (ix3 b s q) = gate (C (ix3 b s q)) := by
  pointwise [gatedV, gate]
  rfl

theorem heads_at (C : FVec Ideal Reference14Ideal.S2x16384x3072 .f32) (R : Fin 32768) (s : Fin 3) (h : Fin 8) (k : Fin 128) :
    headsV C (ix4 R s h k) = C (ix3 ⟨R.val / 16384, by omega⟩ ⟨R.val % 16384, by omega⟩ (at' s (hcol h k))) := by
  pointwise [headsV]
  exact congrArg (fun j => C (ix3 _ _ j)) (Fin.ext (by show s.val * 1024 + h.val * 128 + k.val = s.val * 1024 + (h.val * 128 + k.val); omega))

theorem norm_at (H : FVec Ideal Reference14Ideal.S32768x3x8x128 .f32) (R : Fin 32768) (s : Fin 2) (h : Fin 8) (k : Fin 128) :
    normV H (ix4 R s h k) = headNorm (fun k => H (ix4 R ⟨s.val, by omega⟩ h k)) k := by
  pointwise [normV, headNorm]

theorem query_at (N : FVec Ideal Reference14Ideal.S32768x2x8x128 .f32) (R : Fin 32768) (q : Fin 1024) :
    queryV N (ix2 R q) = N (ix4 R 0 (headOf q) (laneOf q)) * Ideal.ofBits .f32 0x3DB504F3#32 := by
  pointwise [queryV]

theorem key_at (N : FVec Ideal Reference14Ideal.S32768x2x8x128 .f32) (R : Fin 32768) (q : Fin 1024) :
    keyV N (ix2 R q) = N (ix4 R 1 (headOf q) (laneOf q)) := by
  pointwise [keyV]

theorem value_at (H : FVec Ideal Reference14Ideal.S32768x3x8x128 .f32) (R : Fin 32768) (q : Fin 1024) :
    valueV H (ix2 R q) = H (ix4 R 2 (headOf q) (laneOf q)) := by
  pointwise [valueV]

/-- The reference's convolution at a row and a column. -/
theorem ref_conv (U : Vec Ideal S32768x4096 .f32) (W : Vec Ideal S3x3072 .f32) (R : Fin 32768) (q : Fin 3072) :
    convV (padV U) W (ix3 ⟨R.val / 16384, by omega⟩ ⟨R.val % 16384, by omega⟩ q) = conv U W R q := by
  rw [conv_at, pad_at, pad_at, pad_at]
  unfold conv
  have hR := R.isLt
  congr 2
  · congr 1
    by_cases h : R.val % 16384 = 0
    · rw [dif_pos (Or.inl h), if_pos h]
    · rw [dif_neg (show ¬(R.val % 16384 = 0 ∨ R.val % 16384 = 16385) by omega), if_neg h]
      exact congrArg U (congrArg (fun k => ix2 k (up q)) (Fin.ext (by show R.val / 16384 * 16384 + (R.val % 16384 - 1) = R.val - 1; omega)))
  · rw [dif_neg (show ¬(1 + R.val % 16384 = 0 ∨ 1 + R.val % 16384 = 16385) by omega)]
    refine congrArg (fun k => U k * W (ix2 1 q)) (congrArg (fun k => ix2 k (up q)) (Fin.ext ?_))
    show R.val / 16384 * 16384 + (1 + R.val % 16384 - 1) = R.val
    omega
  · by_cases h : R.val % 16384 = 16383
    · rw [dif_pos (show (2 + R.val % 16384 = 0 ∨ 2 + R.val % 16384 = 16385) by omega), dif_pos h]
    · rw [dif_neg (show ¬(2 + R.val % 16384 = 0 ∨ 2 + R.val % 16384 = 16385) by omega), dif_neg h]
      exact congrArg U (congrArg (fun k => ix2 k (up q)) (Fin.ext (by show R.val / 16384 * 16384 + (2 + R.val % 16384 - 1) = R.val + 1; omega)))

/-- The gated convolution by heads, at a row, a branch, a head and a lane. -/
theorem ref_heads (U : Vec Ideal S32768x4096 .f32) (W : Vec Ideal S3x3072 .f32) (R : Fin 32768) (s : Fin 3) (h : Fin 8) (k : Fin 128) :
    headsV (gatedV (convV (padV U) W)) (ix4 R s h k) = gate (conv U W R (at' s (hcol h k))) := by
  rw [heads_at, gated_at, ref_conv]

/-- A block's head of a branch is the branch's head there. -/
theorem col_eq (t : Fin cfg0.N) (d : Fin 512) (k : Fin 128) : colOf t (bcol (bhead d) k) = hcol (headOf (colOf t d)) k :=
  Fin.ext (by show t.val % 2 * 512 + (d.val / 128 * 128 + k.val) = (t.val % 2 * 512 + d.val) / 128 * 128 + k.val; omega)

theorem lane_eq (t : Fin cfg0.N) (d : Fin 512) : blane d = laneOf (colOf t d) :=
  Fin.ext (by show d.val % 128 = (t.val % 2 * 512 + d.val) % 128; omega)

theorem split_eq (q : Fin 1024) : hcol (headOf q) (laneOf q) = q :=
  Fin.ext (by show q.val / 128 * 128 + q.val % 128 = q.val; omega)

variable (m : (ℓ : Loc nD τ sig) → Buf (Elt Ideal) ℓ)

/-! The blocks of a point as entries of the arguments. -/

theorem blk_x (c : Dev nD) (t : Fin cfg0.N) (r : Fin 256) (d : Fin 512) : iblk m c 0 t (ix2 r d) = (m ((c : Thread nD τ).loc main_arg0) : Vec Ideal S32768x4096 .f32) (ix2 (rowOf t r) (up (at' 0 (colOf t d)))) := by
  have := tlt t
  blk_ext [iblk, V, idx t]

theorem prev_x (c : Dev nD) (t : Fin cfg0.N) (d : Fin 512) : View.ld (iblk m c 1 t) r0_2 (ix2 0 d) = (m ((c : Thread nD τ).loc main_arg0) : Vec Ideal S32768x4096 .f32) (ix2 ⟨(t.val / 2 * 32 - 1) * 8 + 7, by have := tlt t; omega⟩ (up (at' 0 (colOf t d)))) := by
  have := tlt t
  refine (View.ld_unit_apply_of _ _ _ _ _ (ix2 7 d) ?_).trans ?_
  · intro a
    fin_cases a
    · rfl
    · exact (Nat.zero_add _).symm
  · blk_ext [iblk, V, idx t]

theorem next_x (c : Dev nD) (t : Fin cfg0.N) (d : Fin 512) : View.ld (iblk m c 2 t) r0_3 (ix2 0 d) = (m ((c : Thread nD τ).loc main_arg0) : Vec Ideal S32768x4096 .f32) (ix2 ⟨min (t.val / 2 * 32 + 32) 4095 * 8, by omega⟩ (up (at' 0 (colOf t d)))) := by
  have := tlt t
  refine (View.ld_unit_apply_of _ _ _ _ _ (ix2 0 d) ?_).trans ?_
  · intro a
    fin_cases a
    · rfl
    · exact (Nat.zero_add _).symm
  · blk_ext [iblk, V, idx t]

theorem tap_x (c : Dev nD) (t : Fin cfg0.N) (k : Fin 3) (d : Fin 512) : iblk m c 3 t (ix2 k d) = (m ((c : Thread nD τ).loc main_arg1) : Vec Ideal S3x3072 .f32) (ix2 k (at' 0 (colOf t d))) := by
  have := tlt t
  blk_ext [iblk, V, idx t]

theorem blk_y (c : Dev nD) (t : Fin cfg0.N) (r : Fin 256) (d : Fin 512) : iblk m c 4 t (ix2 r d) = (m ((c : Thread nD τ).loc main_arg0) : Vec Ideal S32768x4096 .f32) (ix2 (rowOf t r) (up (at' 1 (colOf t d)))) := by
  have := tlt t
  blk_ext [iblk, V, idx t]

theorem prev_y (c : Dev nD) (t : Fin cfg0.N) (d : Fin 512) : View.ld (iblk m c 5 t) r0_2 (ix2 0 d) = (m ((c : Thread nD τ).loc main_arg0) : Vec Ideal S32768x4096 .f32) (ix2 ⟨(t.val / 2 * 32 - 1) * 8 + 7, by have := tlt t; omega⟩ (up (at' 1 (colOf t d)))) := by
  have := tlt t
  refine (View.ld_unit_apply_of _ _ _ _ _ (ix2 7 d) ?_).trans ?_
  · intro a
    fin_cases a
    · rfl
    · exact (Nat.zero_add _).symm
  · blk_ext [iblk, V, idx t]

theorem next_y (c : Dev nD) (t : Fin cfg0.N) (d : Fin 512) : View.ld (iblk m c 6 t) r0_3 (ix2 0 d) = (m ((c : Thread nD τ).loc main_arg0) : Vec Ideal S32768x4096 .f32) (ix2 ⟨min (t.val / 2 * 32 + 32) 4095 * 8, by omega⟩ (up (at' 1 (colOf t d)))) := by
  have := tlt t
  refine (View.ld_unit_apply_of _ _ _ _ _ (ix2 0 d) ?_).trans ?_
  · intro a
    fin_cases a
    · rfl
    · exact (Nat.zero_add _).symm
  · blk_ext [iblk, V, idx t]

theorem tap_y (c : Dev nD) (t : Fin cfg0.N) (k : Fin 3) (d : Fin 512) : iblk m c 7 t (ix2 k d) = (m ((c : Thread nD τ).loc main_arg1) : Vec Ideal S3x3072 .f32) (ix2 k (at' 1 (colOf t d))) := by
  have := tlt t
  blk_ext [iblk, V, idx t]

theorem blk_z (c : Dev nD) (t : Fin cfg0.N) (r : Fin 256) (d : Fin 512) : iblk m c 8 t (ix2 r d) = (m ((c : Thread nD τ).loc main_arg0) : Vec Ideal S32768x4096 .f32) (ix2 (rowOf t r) (up (at' 2 (colOf t d)))) := by
  have := tlt t
  blk_ext [iblk, V, idx t]

theorem prev_z (c : Dev nD) (t : Fin cfg0.N) (d : Fin 512) : View.ld (iblk m c 9 t) r0_2 (ix2 0 d) = (m ((c : Thread nD τ).loc main_arg0) : Vec Ideal S32768x4096 .f32) (ix2 ⟨(t.val / 2 * 32 - 1) * 8 + 7, by have := tlt t; omega⟩ (up (at' 2 (colOf t d)))) := by
  have := tlt t
  refine (View.ld_unit_apply_of _ _ _ _ _ (ix2 7 d) ?_).trans ?_
  · intro a
    fin_cases a
    · rfl
    · exact (Nat.zero_add _).symm
  · blk_ext [iblk, V, idx t]

theorem next_z (c : Dev nD) (t : Fin cfg0.N) (d : Fin 512) : View.ld (iblk m c 10 t) r0_3 (ix2 0 d) = (m ((c : Thread nD τ).loc main_arg0) : Vec Ideal S32768x4096 .f32) (ix2 ⟨min (t.val / 2 * 32 + 32) 4095 * 8, by omega⟩ (up (at' 2 (colOf t d)))) := by
  have := tlt t
  refine (View.ld_unit_apply_of _ _ _ _ _ (ix2 0 d) ?_).trans ?_
  · intro a
    fin_cases a
    · rfl
    · exact (Nat.zero_add _).symm
  · blk_ext [iblk, V, idx t]

theorem tap_z (c : Dev nD) (t : Fin cfg0.N) (k : Fin 3) (d : Fin 512) : iblk m c 11 t (ix2 k d) = (m ((c : Thread nD τ).loc main_arg1) : Vec Ideal S3x3072 .f32) (ix2 k (at' 2 (colOf t d))) := by
  have := tlt t
  blk_ext [iblk, V, idx t]

/-- The entry of the first result that a point's block entry lands on. -/
theorem cell12 (t : Fin cfg0.N) (r : Fin 256) (d : Fin 512) :
    ((View.whole main_v0_0).slice (win0_12.rect t)).emb (ix2 r d) = ix2 (rowOf t r) (colOf t d) := by
  blk_ext [idx t]

/-- The entry of the second result that a point's block entry lands on. -/
theorem cell13 (t : Fin cfg0.N) (r : Fin 256) (d : Fin 512) :
    ((View.whole main_v0_1).slice (win0_13.rect t)).emb (ix2 r d) = ix2 (rowOf t r) (colOf t d) := by
  blk_ext [idx t]

/-- The entry of the third result that a point's block entry lands on. -/
theorem cell14 (t : Fin cfg0.N) (r : Fin 256) (d : Fin 512) :
    ((View.whole main_v0_2).slice (win0_14.rect t)).emb (ix2 r d) = ix2 (rowOf t r) (colOf t d) := by
  blk_ext [idx t]

/-- A block of a convolved branch, normed by heads, is the reference's. -/
theorem block_q (c : Dev nD) (t : Fin cfg0.N) (x : FVec Ideal S256x512 .f32) (hx : ∀ (r : Fin 256) (d : Fin 512), x (ix2 r d) = conv (m ((c : Thread nD τ).loc main_arg0)) (m ((c : Thread nD τ).loc main_arg1)) (rowOf t r) (at' 0 (colOf t d))) (r : Fin 256) (d : Fin 512) :
    wide (headsQ x) (ix2 r d) = queryV (normV (headsV (gatedV (convV (padV (m ((c : Thread nD τ).loc main_arg0))) (m ((c : Thread nD τ).loc main_arg1)))))) (ix2 (rowOf t r) (colOf t d)) := by
  rw [wide_at, headsQ_at, query_at, norm_at, ← lane_eq t d]
  simp only [hx, ref_heads, col_eq]
  rfl

theorem block_k (c : Dev nD) (t : Fin cfg0.N) (x : FVec Ideal S256x512 .f32) (hx : ∀ (r : Fin 256) (d : Fin 512), x (ix2 r d) = conv (m ((c : Thread nD τ).loc main_arg0)) (m ((c : Thread nD τ).loc main_arg1)) (rowOf t r) (at' 1 (colOf t d))) (r : Fin 256) (d : Fin 512) :
    wide (headsK x) (ix2 r d) = keyV (normV (headsV (gatedV (convV (padV (m ((c : Thread nD τ).loc main_arg0))) (m ((c : Thread nD τ).loc main_arg1)))))) (ix2 (rowOf t r) (colOf t d)) := by
  rw [wide_at, headsK_at, key_at, norm_at, ← lane_eq t d]
  simp only [hx, ref_heads, col_eq]
  rfl

theorem block_v (c : Dev nD) (t : Fin cfg0.N) (x : FVec Ideal S256x512 .f32) (hx : ∀ (r : Fin 256) (d : Fin 512), x (ix2 r d) = conv (m ((c : Thread nD τ).loc main_arg0)) (m ((c : Thread nD τ).loc main_arg1)) (rowOf t r) (at' 2 (colOf t d))) (r : Fin 256) (d : Fin 512) :
    k0_pay2 x (ix2 r d) = valueV (headsV (gatedV (convV (padV (m ((c : Thread nD τ).loc main_arg0))) (m ((c : Thread nD τ).loc main_arg1))))) (ix2 (rowOf t r) (colOf t d)) := by
  rw [gateV, value_at, ref_heads, split_eq, hx]

/-- The kernel's query array is the reference's. -/
theorem value12 (c : Dev nD) : (dats m 0 c).arrAt 12 cfg0.N = queryV (normV (headsV (gatedV (convV (padV (m ((c : Thread nD τ).loc main_arg0))) (m ((c : Thread nD τ).loc main_arg1)))))) := by
  refine (dats m 0 c).arrAt_eq_of_covers 12 _ (by decide +kernel) fun t hf y => ?_
  blk_simp
  rw [after0_12]
  unfold_out out0_12
  frame_out
  rw [eq_ix2 y]
  refine (congrFun (pay_q _) _).trans ?_
  refine (block_q m c t _ (fun r d => ?_) (y 0) (y 1)).trans ?_
  · exact (first_apply (grid0.coords t) _ _ _ _ r d).trans (part_conv t _ _ (at' 0 (colOf t d)) d _ _ _ _ r (fun r => blk_x m c t r d) (fun k => tap_x m c t k d) (prev_x m c t d) (next_x m c t d))
  · exact (congrArg _ (cell12 t (y 0) (y 1))).symm

/-- The kernel's key array is the reference's. -/
theorem value13 (c : Dev nD) : (dats m 0 c).arrAt 13 cfg0.N = keyV (normV (headsV (gatedV (convV (padV (m ((c : Thread nD τ).loc main_arg0))) (m ((c : Thread nD τ).loc main_arg1)))))) := by
  refine (dats m 0 c).arrAt_eq_of_covers 13 _ (by decide +kernel) fun t hf y => ?_
  blk_simp
  rw [after0_13]
  unfold_out out0_13
  frame_out
  rw [eq_ix2 y]
  refine (congrFun (pay_k _) _).trans ?_
  refine (block_k m c t _ (fun r d => ?_) (y 0) (y 1)).trans ?_
  · exact (second_apply (first (grid0.coords t)) (last (grid0.coords t)) _ _ _ _ r d).trans (part_conv t _ _ (at' 1 (colOf t d)) d _ _ _ _ r (fun r => blk_y m c t r d) (fun k => tap_y m c t k d) (prev_y m c t d) (next_y m c t d))
  · exact (congrArg _ (cell13 t (y 0) (y 1))).symm

/-- The kernel's value array is the reference's. -/
theorem value14 (c : Dev nD) : (dats m 0 c).arrAt 14 cfg0.N = valueV (headsV (gatedV (convV (padV (m ((c : Thread nD τ).loc main_arg0))) (m ((c : Thread nD τ).loc main_arg1))))) := by
  refine (dats m 0 c).arrAt_eq_of_covers 14 _ (by decide +kernel) fun t hf y => ?_
  blk_simp
  rw [after0_14]
  unfold_out out0_14
  frame_out
  rw [eq_ix2 y]
  refine (block_v m c t _ (fun r d => ?_) (y 0) (y 1)).trans ?_
  · exact (third_apply (first (grid0.coords t)) (last (grid0.coords t)) _ _ _ _ r d).trans (part_conv t _ _ (at' 2 (colOf t d)) d _ _ _ _ r (fun r => blk_z m c t r d) (fun k => tap_z m c t k d) (prev_z m c t d) (next_z m c t d))
  · exact (congrArg _ (cell14 t (y 0) (y 1))).symm

/-- The kernel's arrays are the reference's. -/
theorem value : Cert.algebraic_Kernel14Ideal_Reference14Ideal := by
  intro m ρ m' ρ' _ hagree
  refine ⟨_, _, _, Cert.Kernel14Ideal.Value.run_blocks (F := Ideal) m ρ, ?_⟩
  refine (θ_run Cert.Reference14Ideal.defs _ _).mono (fun _ h c => ⟨?_, ?_, ?_, (h c).2.2.2⟩) (Cert.Reference14Ideal.Value.run (F := Ideal) m' ρ')
  · obtain ⟨a0, a1⟩ := hagree c
    refine (h c).1.trans ?_
    unfold Cert.Reference14Ideal.Value.res_main_v40
    rw [a0, a1]
    exact (value12 m c).symm
  · obtain ⟨a0, a1⟩ := hagree c
    refine (h c).2.1.trans ?_
    unfold Cert.Reference14Ideal.Value.res_main_v43
    rw [a0, a1]
    exact (value13 m c).symm
  · obtain ⟨a0, a1⟩ := hagree c
    refine (h c).2.2.1.trans ?_
    unfold Cert.Reference14Ideal.Value.res_main_v46
    rw [a0, a1]
    exact (value14 m c).symm

end Cert.DeltaConv

end
-- ==== Proof.lean ====
/- The claims of this certificate, assembled from their modules. -/
module

public import proofs.«01_k».proof.Defs
public import proofs.«01_k».proof.Proof.Gen.Kernel.Frame
public import proofs.«01_k».proof.Proof.Gen.KernelIdeal.Value
public import proofs.«01_k».proof.Proof.Gen.Pre_indices_in_range
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7.Loops
public import proofs.«01_k».proof.Proof.Gen.Kernel7Ideal.Frame
public import proofs.«01_k».proof.Proof.Gen.Kernel7Ideal.Loops
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Pre_experts_finite
public import proofs.«01_k».proof.Proof.Gen.Pre_filter_finite
public import Idealize.ShloMosaic.Adequacy
public import Idealize.ShloMosaic.Lib.Bf16PairInverse
public import Idealize.ShloMosaic.Init
public import Idealize.ShloMosaic.Lib.Quiescent
public import proofs.«01_k».proof.Proof.ScoreClaim
public import proofs.«01_k».proof.Proof.Queries
public import proofs.«01_k».proof.Proof.HyenaIn
public import proofs.«01_k».proof.Proof.DeltaIn
public import proofs.«01_k».proof.Proof.ProjectBias
public import proofs.«01_k».proof.Proof.Project
public import proofs.«01_k».proof.Proof.CombineBitsFrame
public import proofs.«01_k».proof.Proof.CombineClaim
public import proofs.«01_k».proof.Proof.FilterClaim
public import proofs.«01_k».proof.Proof.NormClaim
public import proofs.«01_k».proof.Proof.Modulation
public import proofs.«01_k».proof.Proof.HyenaConv
public import proofs.«01_k».proof.Proof.HyenaGate
public import proofs.«01_k».proof.Proof.DeltaNorm
public import proofs.«01_k».proof.Proof.DeltaConv

@[expose] public section

noncomputable section

namespace Cert.Proof

open Idealize.ShloMosaic Idealize.SL.Sem

open Cert.Kernel7Ideal IdealRules.bf16_pair in
/-- The combine's words hold their two values: the rewrites of the word buffer keep the meaning. -/
theorem combine_preserves : Cert.preserves_Kernel7_Kernel7Ideal :=
  ⟨bufferStatement S64x512x2x128 S64x512x1x128, halfStatement S64x8x128, statement S64x8x2x128 S64x8x1x128,
    statement S1x512x2x128 S1x512x1x128, statement S1024x128 S512x128⟩

/-- Every claim of this certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_indices_in_range.Gen.facts, Cert.Pre_experts_finite.Gen.facts, Cert.Pre_filter_finite.Gen.facts,
  fun m ρ _ => Cert.Kernel.Gen.frame m ρ, fun m ρ _ => Cert.KernelIdeal.Gen.frame m ρ, fun m ρ _ => Cert.KernelIdeal.Gen.frame m ρ, Cert.Score.reference_quiet, Cert.Score.reference_quiet_pre,
  fun m ρ _ => Cert.Kernel2.Gen.frame m ρ, fun m ρ _ => Cert.Kernel2Ideal.Gen.frame m ρ, Cert.Queries.reference_quiet,
  fun m ρ _ => Cert.Kernel3.Gen.frame m ρ, fun m ρ _ => Cert.Kernel3Ideal.Gen.frame m ρ, Cert.HyenaIn.reference_quiet,
  fun m ρ _ => Cert.Kernel4.Gen.frame m ρ, fun m ρ _ => Cert.Kernel4Ideal.Gen.frame m ρ, Cert.DeltaIn.reference_quiet,
  fun m ρ _ => Cert.Kernel5.Gen.frame m ρ, fun m ρ _ => Cert.Kernel5Ideal.Gen.frame m ρ, Cert.ProjectBias.reference_quiet,
  fun m ρ _ => Cert.Kernel6.Gen.frame m ρ, fun m ρ _ => Cert.Kernel6Ideal.Gen.frame m ρ, Cert.Project.reference_quiet,
  fun m ρ _ => Cert.Kernel7.Carry.frame m ρ, fun m ρ _ => Cert.Kernel7Ideal.Carry.frame m ρ, fun m ρ _ => Cert.Kernel7Ideal.Carry.frame m ρ, Cert.Combine.reference_quiet, Cert.Combine.reference_quiet_pre,
  fun m ρ _ => Cert.Kernel8.Gen.frame m ρ, fun m ρ _ => Cert.Kernel8Ideal.Gen.frame m ρ, fun m ρ _ => Cert.Kernel8Ideal.Gen.frame m ρ, Cert.Filter.reference_quiet, Cert.Filter.reference_quiet_pre,
  fun m ρ _ => Cert.Kernel9.Gen.frame m ρ, fun m ρ _ => Cert.Kernel9Ideal.Gen.frame m ρ, Cert.Norm.reference_quiet,
  fun m ρ _ => Cert.Kernel10.Gen.frame m ρ, fun m ρ _ => Cert.Kernel10Ideal.Gen.frame m ρ, Cert.Modulation.reference_quiet,
  fun m ρ _ => Cert.Kernel11.Gen.frame m ρ, fun m ρ _ => Cert.Kernel11Ideal.Gen.frame m ρ, Cert.HyenaConv.reference_quiet,
  fun m ρ _ => Cert.Kernel12.Gen.frame m ρ, fun m ρ _ => Cert.Kernel12Ideal.Gen.frame m ρ, Cert.HyenaGate.reference_quiet,
  fun m ρ _ => Cert.Kernel13.Gen.frame m ρ, fun m ρ _ => Cert.Kernel13Ideal.Gen.frame m ρ, Cert.DeltaNorm.reference_quiet,
  fun m ρ _ => Cert.Kernel14.Gen.frame m ρ, fun m ρ _ => Cert.Kernel14Ideal.Gen.frame m ρ, Cert.DeltaConv.reference_quiet,
  (trivial : preserves_Kernel_KernelIdeal), Cert.Score.value,
  (trivial : preserves_Kernel2_Kernel2Ideal), Cert.Queries.value,
  (trivial : preserves_Kernel3_Kernel3Ideal), Cert.HyenaIn.value,
  (trivial : preserves_Kernel4_Kernel4Ideal), Cert.DeltaIn.value,
  (trivial : preserves_Kernel5_Kernel5Ideal), Cert.ProjectBias.value,
  (trivial : preserves_Kernel6_Kernel6Ideal), Cert.Project.value,
  combine_preserves, Cert.Combine.value,
  (trivial : preserves_Kernel8_Kernel8Ideal), Cert.Filter.value,
  (trivial : preserves_Kernel9_Kernel9Ideal), Cert.Norm.value,
  (trivial : preserves_Kernel10_Kernel10Ideal), Cert.Modulation.value,
  (trivial : preserves_Kernel11_Kernel11Ideal), Cert.HyenaConv.value,
  (trivial : preserves_Kernel12_Kernel12Ideal), Cert.HyenaGate.value,
  (trivial : preserves_Kernel13_Kernel13Ideal), Cert.DeltaNorm.value,
  (trivial : preserves_Kernel14_Kernel14Ideal), Cert.DeltaConv.value⟩

end Cert.Proof

end
